-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnRef (m : (ℓ : Loc Cert.FfnRef.nD Cert.FfnRef.τ Cert.FfnRef.sig) → Buf (Elt Bits) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_QkvRef (m : (ℓ : Loc Cert.QkvRef.nD Cert.QkvRef.τ Cert.QkvRef.sig) → Buf (Elt Bits) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10))
      ∧ r.2.sem = fun _ => 0)

def quiescent_FfnRef [hFfnRef : Cert.FfnRef.Facts] : Prop :=
  ∀ (m : (ℓ : Loc Cert.FfnRef.nD Cert.FfnRef.τ Cert.FfnRef.sig) → Buf (Elt Bits) ℓ) (g : Dev Cert.FfnRef.nD → PrngReg), Pre_FfnRef m →
    θ_run (Cert.FfnRef.defs (F := Bits)) (onTc (τ := Cert.FfnRef.τ) (Cert.FfnRef.main (F := Bits))) ⟨m, fun _ => 0, g⟩ (fun r => (∀ c : Dev Cert.FfnRef.nD,
      r.2.mem ((c.tc : Thread Cert.FfnRef.nD Cert.FfnRef.τ).loc Cert.FfnRef.main_arg0) = m ((c.tc : Thread Cert.FfnRef.nD Cert.FfnRef.τ).loc Cert.FfnRef.main_arg0)
      ∧ r.2.mem ((c.tc : Thread Cert.FfnRef.nD Cert.FfnRef.τ).loc Cert.FfnRef.main_arg1) = m ((c.tc : Thread Cert.FfnRef.nD Cert.FfnRef.τ).loc Cert.FfnRef.main_arg1)
      ∧ r.2.mem ((c.tc : Thread Cert.FfnRef.nD Cert.FfnRef.τ).loc Cert.FfnRef.main_arg2) = m ((c.tc : Thread Cert.FfnRef.nD Cert.FfnRef.τ).loc Cert.FfnRef.main_arg2)
      ∧ r.2.mem ((c.tc : Thread Cert.FfnRef.nD Cert.FfnRef.τ).loc Cert.FfnRef.main_arg3) = m ((c.tc : Thread Cert.FfnRef.nD Cert.FfnRef.τ).loc Cert.FfnRef.main_arg3)
      ∧ r.2.mem ((c.tc : Thread Cert.FfnRef.nD Cert.FfnRef.τ).loc Cert.FfnRef.main_arg4) = m ((c.tc : Thread Cert.FfnRef.nD Cert.FfnRef.τ).loc Cert.FfnRef.main_arg4)
      ∧ r.2.mem ((c.tc : Thread Cert.FfnRef.nD Cert.FfnRef.τ).loc Cert.FfnRef.main_arg5) = m ((c.tc : Thread Cert.FfnRef.nD Cert.FfnRef.τ).loc Cert.FfnRef.main_arg5)
      ∧ r.2.mem ((c.tc : Thread Cert.FfnRef.nD Cert.FfnRef.τ).loc Cert.FfnRef.main_arg6) = m ((c.tc : Thread Cert.FfnRef.nD Cert.FfnRef.τ).loc Cert.FfnRef.main_arg6)
      ∧ r.2.mem ((c.tc : Thread Cert.FfnRef.nD Cert.FfnRef.τ).loc Cert.FfnRef.main_arg7) = m ((c.tc : Thread Cert.FfnRef.nD Cert.FfnRef.τ).loc Cert.FfnRef.main_arg7)
      ∧ r.2.mem ((c.tc : Thread Cert.FfnRef.nD Cert.FfnRef.τ).loc Cert.FfnRef.main_arg8) = m ((c.tc : Thread Cert.FfnRef.nD Cert.FfnRef.τ).loc Cert.FfnRef.main_arg8)
      ∧ r.2.mem ((c.tc : Thread Cert.FfnRef.nD Cert.FfnRef.τ).loc Cert.FfnRef.main_arg9) = m ((c.tc : Thread Cert.FfnRef.nD Cert.FfnRef.τ).loc Cert.FfnRef.main_arg9)
      ∧ r.2.mem ((c.tc : Thread Cert.FfnRef.nD Cert.FfnRef.τ).loc Cert.FfnRef.main_arg10) = m ((c.tc : Thread Cert.FfnRef.nD Cert.FfnRef.τ).loc Cert.FfnRef.main_arg10))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9)
      ∧ r.2.mem ((c.tc : Thread Cert.Qkv.nD Cert.Qkv.τ).loc Cert.Qkv.main_arg10) = m ((c.tc : Thread Cert.Qkv.nD Cert.Qkv.τ).loc Cert.Qkv.main_arg10)
      ∧ r.2.mem ((c.tc : Thread Cert.Qkv.nD Cert.Qkv.τ).loc Cert.Qkv.main_arg11) = m ((c.tc : Thread Cert.Qkv.nD Cert.Qkv.τ).loc Cert.Qkv.main_arg11)
      ∧ r.2.mem ((c.tc : Thread Cert.Qkv.nD Cert.Qkv.τ).loc Cert.Qkv.main_arg12) = m ((c.tc : Thread Cert.Qkv.nD Cert.Qkv.τ).loc Cert.Qkv.main_arg12)
      ∧ r.2.mem ((c.tc : Thread Cert.Qkv.nD Cert.Qkv.τ).loc Cert.Qkv.main_arg13) = m ((c.tc : Thread Cert.Qkv.nD Cert.Qkv.τ).loc Cert.Qkv.main_arg13)
      ∧ r.2.mem ((c.tc : Thread Cert.Qkv.nD Cert.Qkv.τ).loc Cert.Qkv.main_arg14) = m ((c.tc : Thread Cert.Qkv.nD Cert.Qkv.τ).loc Cert.Qkv.main_arg14)
      ∧ r.2.mem ((c.tc : Thread Cert.Qkv.nD Cert.Qkv.τ).loc Cert.Qkv.main_arg15) = m ((c.tc : Thread Cert.Qkv.nD Cert.Qkv.τ).loc Cert.Qkv.main_arg15))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11)
      ∧ r.2.mem ((c.tc : Thread Cert.QkvIdeal.nD Cert.QkvIdeal.τ).loc Cert.QkvIdeal.main_arg12) = m ((c.tc : Thread Cert.QkvIdeal.nD Cert.QkvIdeal.τ).loc Cert.QkvIdeal.main_arg12)
      ∧ r.2.mem ((c.tc : Thread Cert.QkvIdeal.nD Cert.QkvIdeal.τ).loc Cert.QkvIdeal.main_arg13) = m ((c.tc : Thread Cert.QkvIdeal.nD Cert.QkvIdeal.τ).loc Cert.QkvIdeal.main_arg13)
      ∧ r.2.mem ((c.tc : Thread Cert.QkvIdeal.nD Cert.QkvIdeal.τ).loc Cert.QkvIdeal.main_arg14) = m ((c.tc : Thread Cert.QkvIdeal.nD Cert.QkvIdeal.τ).loc Cert.QkvIdeal.main_arg14)
      ∧ r.2.mem ((c.tc : Thread Cert.QkvIdeal.nD Cert.QkvIdeal.τ).loc Cert.QkvIdeal.main_arg15) = m ((c.tc : Thread Cert.QkvIdeal.nD Cert.QkvIdeal.τ).loc Cert.QkvIdeal.main_arg15))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10)
      ∧ r.2.mem ((c.tc : Thread Cert.QkvRefIdeal.nD Cert.QkvRefIdeal.τ).loc Cert.QkvRefIdeal.main_arg11) = m ((c.tc : Thread Cert.QkvRefIdeal.nD Cert.QkvRefIdeal.τ).loc Cert.QkvRefIdeal.main_arg11)
      ∧ r.2.mem ((c.tc : Thread Cert.QkvRefIdeal.nD Cert.QkvRefIdeal.τ).loc Cert.QkvRefIdeal.main_arg12) = m ((c.tc : Thread Cert.QkvRefIdeal.nD Cert.QkvRefIdeal.τ).loc Cert.QkvRefIdeal.main_arg12)
      ∧ r.2.mem ((c.tc : Thread Cert.QkvRefIdeal.nD Cert.QkvRefIdeal.τ).loc Cert.QkvRefIdeal.main_arg13) = m ((c.tc : Thread Cert.QkvRefIdeal.nD Cert.QkvRefIdeal.τ).loc Cert.QkvRefIdeal.main_arg13)
      ∧ r.2.mem ((c.tc : Thread Cert.QkvRefIdeal.nD Cert.QkvRefIdeal.τ).loc Cert.QkvRefIdeal.main_arg14) = m ((c.tc : Thread Cert.QkvRefIdeal.nD Cert.QkvRefIdeal.τ).loc Cert.QkvRefIdeal.main_arg14)
      ∧ r.2.mem ((c.tc : Thread Cert.QkvRefIdeal.nD Cert.QkvRefIdeal.τ).loc Cert.QkvRefIdeal.main_arg15) = m ((c.tc : Thread Cert.QkvRefIdeal.nD Cert.QkvRefIdeal.τ).loc Cert.QkvRefIdeal.main_arg15))
      ∧ r.2.sem = fun _ => 0)

def quiescent_QkvRef [hQkvRef : Cert.QkvRef.Facts] : Prop :=
  ∀ (m : (ℓ : Loc Cert.QkvRef.nD Cert.QkvRef.τ Cert.QkvRef.sig) → Buf (Elt Bits) ℓ) (g : Dev Cert.QkvRef.nD → PrngReg), Pre_QkvRef m →
    θ_run (Cert.QkvRef.defs (F := Bits)) (onTc (τ := Cert.QkvRef.τ) (Cert.QkvRef.main (F := Bits))) ⟨m, fun _ => 0, g⟩ (fun r => (∀ c : Dev Cert.QkvRef.nD,
      r.2.mem ((c.tc : Thread Cert.QkvRef.nD Cert.QkvRef.τ).loc Cert.QkvRef.main_arg0) = m ((c.tc : Thread Cert.QkvRef.nD Cert.QkvRef.τ).loc Cert.QkvRef.main_arg0)
      ∧ r.2.mem ((c.tc : Thread Cert.QkvRef.nD Cert.QkvRef.τ).loc Cert.QkvRef.main_arg1) = m ((c.tc : Thread Cert.QkvRef.nD Cert.QkvRef.τ).loc Cert.QkvRef.main_arg1)
      ∧ r.2.mem ((c.tc : Thread Cert.QkvRef.nD Cert.QkvRef.τ).loc Cert.QkvRef.main_arg2) = m ((c.tc : Thread Cert.QkvRef.nD Cert.QkvRef.τ).loc Cert.QkvRef.main_arg2)
      ∧ r.2.mem ((c.tc : Thread Cert.QkvRef.nD Cert.QkvRef.τ).loc Cert.QkvRef.main_arg3) = m ((c.tc : Thread Cert.QkvRef.nD Cert.QkvRef.τ).loc Cert.QkvRef.main_arg3)
      ∧ r.2.mem ((c.tc : Thread Cert.QkvRef.nD Cert.QkvRef.τ).loc Cert.QkvRef.main_arg4) = m ((c.tc : Thread Cert.QkvRef.nD Cert.QkvRef.τ).loc Cert.QkvRef.main_arg4)
      ∧ r.2.mem ((c.tc : Thread Cert.QkvRef.nD Cert.QkvRef.τ).loc Cert.QkvRef.main_arg5) = m ((c.tc : Thread Cert.QkvRef.nD Cert.QkvRef.τ).loc Cert.QkvRef.main_arg5)
      ∧ r.2.mem ((c.tc : Thread Cert.QkvRef.nD Cert.QkvRef.τ).loc Cert.QkvRef.main_arg6) = m ((c.tc : Thread Cert.QkvRef.nD Cert.QkvRef.τ).loc Cert.QkvRef.main_arg6)
      ∧ r.2.mem ((c.tc : Thread Cert.QkvRef.nD Cert.QkvRef.τ).loc Cert.QkvRef.main_arg7) = m ((c.tc : Thread Cert.QkvRef.nD Cert.QkvRef.τ).loc Cert.QkvRef.main_arg7)
      ∧ r.2.mem ((c.tc : Thread Cert.QkvRef.nD Cert.QkvRef.τ).loc Cert.QkvRef.main_arg8) = m ((c.tc : Thread Cert.QkvRef.nD Cert.QkvRef.τ).loc Cert.QkvRef.main_arg8)
      ∧ r.2.mem ((c.tc : Thread Cert.QkvRef.nD Cert.QkvRef.τ).loc Cert.QkvRef.main_arg9) = m ((c.tc : Thread Cert.QkvRef.nD Cert.QkvRef.τ).loc Cert.QkvRef.main_arg9)
      ∧ r.2.mem ((c.tc : Thread Cert.QkvRef.nD Cert.QkvRef.τ).loc Cert.QkvRef.main_arg10) = m ((c.tc : Thread Cert.QkvRef.nD Cert.QkvRef.τ).loc Cert.QkvRef.main_arg10)
      ∧ r.2.mem ((c.tc : Thread Cert.QkvRef.nD Cert.QkvRef.τ).loc Cert.QkvRef.main_arg11) = m ((c.tc : Thread Cert.QkvRef.nD Cert.QkvRef.τ).loc Cert.QkvRef.main_arg11)
      ∧ r.2.mem ((c.tc : Thread Cert.QkvRef.nD Cert.QkvRef.τ).loc Cert.QkvRef.main_arg12) = m ((c.tc : Thread Cert.QkvRef.nD Cert.QkvRef.τ).loc Cert.QkvRef.main_arg12)
      ∧ r.2.mem ((c.tc : Thread Cert.QkvRef.nD Cert.QkvRef.τ).loc Cert.QkvRef.main_arg13) = m ((c.tc : Thread Cert.QkvRef.nD Cert.QkvRef.τ).loc Cert.QkvRef.main_arg13)
      ∧ r.2.mem ((c.tc : Thread Cert.QkvRef.nD Cert.QkvRef.τ).loc Cert.QkvRef.main_arg14) = m ((c.tc : Thread Cert.QkvRef.nD Cert.QkvRef.τ).loc Cert.QkvRef.main_arg14)
      ∧ r.2.mem ((c.tc : Thread Cert.QkvRef.nD Cert.QkvRef.τ).loc Cert.QkvRef.main_arg15) = m ((c.tc : Thread Cert.QkvRef.nD Cert.QkvRef.τ).loc Cert.QkvRef.main_arg15))
      ∧ r.2.sem = fun _ => 0)

def preserves_Ffn_FfnIdeal : Prop :=
  IdealRules.named_const.Statement Cert.FfnIdeal.κ "gelu_b" .f32 0x3E922279#32 (((8 * (8943 / 200000)) * (Real.sqrt (2 * Real.pi⁻¹)) : ℝ) : EReal)
  ∧ IdealRules.named_const.Statement Cert.FfnIdeal.κ "gelu_a" .f32 0x3FCC422A#32 ((2 * (Real.sqrt (2 * Real.pi⁻¹)) : ℝ) : EReal)

def preserves_FfnRef_FfnRefIdeal : Prop :=
  IdealRules.named_const.Statement Cert.FfnRefIdeal.κ "gelu_k" .f32 0x3D372713#32 ((8943 / 200000 : ℝ) : EReal)
  ∧ IdealRules.named_const.Statement Cert.FfnRefIdeal.κ "gelu_c" .f32 0x3F4C422A#32 ((Real.sqrt (2 * Real.pi⁻¹) : ℝ) : EReal)

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)) →
    ∃ (v0 : (c : Dev Cert.FfnIdeal.nD) → Buf (Elt Ideal) ((c.tc : Thread Cert.FfnIdeal.nD Cert.FfnIdeal.τ).loc Cert.FfnIdeal.main_v4_0)) (v1 : (c : Dev Cert.FfnIdeal.nD) → Buf (Elt Ideal) ((c.tc : Thread Cert.FfnIdeal.nD Cert.FfnIdeal.τ).loc Cert.FfnIdeal.main_v4_1)) (v2 : (c : Dev Cert.FfnIdeal.nD) → Buf (Elt Ideal) ((c.tc : Thread Cert.FfnIdeal.nD Cert.FfnIdeal.τ).loc Cert.FfnIdeal.main_v4_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4_0) = v0 c
          ∧ r.2.mem ((c.tc : Thread Cert.FfnIdeal.nD Cert.FfnIdeal.τ).loc Cert.FfnIdeal.main_v4_1) = v1 c
          ∧ r.2.mem ((c.tc : Thread Cert.FfnIdeal.nD Cert.FfnIdeal.τ).loc Cert.FfnIdeal.main_v4_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v6_0) = v0 c
          ∧ r.2.mem ((c.tc : Thread Cert.FfnRefIdeal.nD Cert.FfnRefIdeal.τ).loc Cert.FfnRefIdeal.main_v6_1) = v1 c
          ∧ r.2.mem ((c.tc : Thread Cert.FfnRefIdeal.nD Cert.FfnRefIdeal.τ).loc Cert.FfnRefIdeal.main_v6_2) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10))

def preserves_Qkv_QkvIdeal : Prop :=
  IdealRules.named_const.Statement Cert.QkvIdeal.κ "inv_d" .f32 0x3A2AAAAB#32 ((1536⁻¹ : ℝ) : EReal)

def preserves_QkvRef_QkvRefIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)
      ∧ m' ((c.tc : Thread Cert.QkvRefIdeal.nD Cert.QkvRefIdeal.τ).loc Cert.QkvRefIdeal.main_arg10) = m ((c.tc : Thread Cert.QkvIdeal.nD Cert.QkvIdeal.τ).loc Cert.QkvIdeal.main_arg10)
      ∧ m' ((c.tc : Thread Cert.QkvRefIdeal.nD Cert.QkvRefIdeal.τ).loc Cert.QkvRefIdeal.main_arg11) = m ((c.tc : Thread Cert.QkvIdeal.nD Cert.QkvIdeal.τ).loc Cert.QkvIdeal.main_arg11)
      ∧ m' ((c.tc : Thread Cert.QkvRefIdeal.nD Cert.QkvRefIdeal.τ).loc Cert.QkvRefIdeal.main_arg12) = m ((c.tc : Thread Cert.QkvIdeal.nD Cert.QkvIdeal.τ).loc Cert.QkvIdeal.main_arg12)
      ∧ m' ((c.tc : Thread Cert.QkvRefIdeal.nD Cert.QkvRefIdeal.τ).loc Cert.QkvRefIdeal.main_arg13) = m ((c.tc : Thread Cert.QkvIdeal.nD Cert.QkvIdeal.τ).loc Cert.QkvIdeal.main_arg13)
      ∧ m' ((c.tc : Thread Cert.QkvRefIdeal.nD Cert.QkvRefIdeal.τ).loc Cert.QkvRefIdeal.main_arg14) = m ((c.tc : Thread Cert.QkvIdeal.nD Cert.QkvIdeal.τ).loc Cert.QkvIdeal.main_arg14)
      ∧ m' ((c.tc : Thread Cert.QkvRefIdeal.nD Cert.QkvRefIdeal.τ).loc Cert.QkvRefIdeal.main_arg15) = m ((c.tc : Thread Cert.QkvIdeal.nD Cert.QkvIdeal.τ).loc Cert.QkvIdeal.main_arg15)) →
    ∃ (v0 : (c : Dev Cert.QkvIdeal.nD) → Buf (Elt Ideal) ((c.tc : Thread Cert.QkvIdeal.nD Cert.QkvIdeal.τ).loc Cert.QkvIdeal.main_v5_0)) (v1 : (c : Dev Cert.QkvIdeal.nD) → Buf (Elt Ideal) ((c.tc : Thread Cert.QkvIdeal.nD Cert.QkvIdeal.τ).loc Cert.QkvIdeal.main_v5_1)) (v2 : (c : Dev Cert.QkvIdeal.nD) → Buf (Elt Ideal) ((c.tc : Thread Cert.QkvIdeal.nD Cert.QkvIdeal.τ).loc Cert.QkvIdeal.main_v5_2)) (v3 : (c : Dev Cert.QkvIdeal.nD) → Buf (Elt Ideal) ((c.tc : Thread Cert.QkvIdeal.nD Cert.QkvIdeal.τ).loc Cert.QkvIdeal.main_v5_3)) (v4 : (c : Dev Cert.QkvIdeal.nD) → Buf (Elt Ideal) ((c.tc : Thread Cert.QkvIdeal.nD Cert.QkvIdeal.τ).loc Cert.QkvIdeal.main_v5_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v5_0) = v0 c
          ∧ r.2.mem ((c.tc : Thread Cert.QkvIdeal.nD Cert.QkvIdeal.τ).loc Cert.QkvIdeal.main_v5_1) = v1 c
          ∧ r.2.mem ((c.tc : Thread Cert.QkvIdeal.nD Cert.QkvIdeal.τ).loc Cert.QkvIdeal.main_v5_2) = v2 c
          ∧ r.2.mem ((c.tc : Thread Cert.QkvIdeal.nD Cert.QkvIdeal.τ).loc Cert.QkvIdeal.main_v5_3) = v3 c
          ∧ r.2.mem ((c.tc : Thread Cert.QkvIdeal.nD Cert.QkvIdeal.τ).loc Cert.QkvIdeal.main_v5_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
          ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
          ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11)
          ∧ r.2.mem ((c.tc : Thread Cert.QkvIdeal.nD Cert.QkvIdeal.τ).loc Cert.QkvIdeal.main_arg12) = m ((c.tc : Thread Cert.QkvIdeal.nD Cert.QkvIdeal.τ).loc Cert.QkvIdeal.main_arg12)
          ∧ r.2.mem ((c.tc : Thread Cert.QkvIdeal.nD Cert.QkvIdeal.τ).loc Cert.QkvIdeal.main_arg13) = m ((c.tc : Thread Cert.QkvIdeal.nD Cert.QkvIdeal.τ).loc Cert.QkvIdeal.main_arg13)
          ∧ r.2.mem ((c.tc : Thread Cert.QkvIdeal.nD Cert.QkvIdeal.τ).loc Cert.QkvIdeal.main_arg14) = m ((c.tc : Thread Cert.QkvIdeal.nD Cert.QkvIdeal.τ).loc Cert.QkvIdeal.main_arg14)
          ∧ r.2.mem ((c.tc : Thread Cert.QkvIdeal.nD Cert.QkvIdeal.τ).loc Cert.QkvIdeal.main_arg15) = m ((c.tc : Thread Cert.QkvIdeal.nD Cert.QkvIdeal.τ).loc Cert.QkvIdeal.main_arg15))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v9_0) = v0 c
          ∧ r.2.mem ((c.tc : Thread Cert.QkvRefIdeal.nD Cert.QkvRefIdeal.τ).loc Cert.QkvRefIdeal.main_v9_1) = v1 c
          ∧ r.2.mem ((c.tc : Thread Cert.QkvRefIdeal.nD Cert.QkvRefIdeal.τ).loc Cert.QkvRefIdeal.main_v9_2) = v2 c
          ∧ r.2.mem ((c.tc : Thread Cert.QkvRefIdeal.nD Cert.QkvRefIdeal.τ).loc Cert.QkvRefIdeal.main_v9_3) = v3 c
          ∧ r.2.mem ((c.tc : Thread Cert.QkvRefIdeal.nD Cert.QkvRefIdeal.τ).loc Cert.QkvRefIdeal.main_v9_4) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9)
          ∧ r.2.mem ((c.tc : Thread Cert.QkvRefIdeal.nD Cert.QkvRefIdeal.τ).loc Cert.QkvRefIdeal.main_arg10) = m' ((c.tc : Thread Cert.QkvRefIdeal.nD Cert.QkvRefIdeal.τ).loc Cert.QkvRefIdeal.main_arg10)
          ∧ r.2.mem ((c.tc : Thread Cert.QkvRefIdeal.nD Cert.QkvRefIdeal.τ).loc Cert.QkvRefIdeal.main_arg11) = m' ((c.tc : Thread Cert.QkvRefIdeal.nD Cert.QkvRefIdeal.τ).loc Cert.QkvRefIdeal.main_arg11)
          ∧ r.2.mem ((c.tc : Thread Cert.QkvRefIdeal.nD Cert.QkvRefIdeal.τ).loc Cert.QkvRefIdeal.main_arg12) = m' ((c.tc : Thread Cert.QkvRefIdeal.nD Cert.QkvRefIdeal.τ).loc Cert.QkvRefIdeal.main_arg12)
          ∧ r.2.mem ((c.tc : Thread Cert.QkvRefIdeal.nD Cert.QkvRefIdeal.τ).loc Cert.QkvRefIdeal.main_arg13) = m' ((c.tc : Thread Cert.QkvRefIdeal.nD Cert.QkvRefIdeal.τ).loc Cert.QkvRefIdeal.main_arg13)
          ∧ r.2.mem ((c.tc : Thread Cert.QkvRefIdeal.nD Cert.QkvRefIdeal.τ).loc Cert.QkvRefIdeal.main_arg14) = m' ((c.tc : Thread Cert.QkvRefIdeal.nD Cert.QkvRefIdeal.τ).loc Cert.QkvRefIdeal.main_arg14)
          ∧ r.2.mem ((c.tc : Thread Cert.QkvRefIdeal.nD Cert.QkvRefIdeal.τ).loc Cert.QkvRefIdeal.main_arg15) = m' ((c.tc : Thread Cert.QkvRefIdeal.nD Cert.QkvRefIdeal.τ).loc Cert.QkvRefIdeal.main_arg15))

def Claim : Prop :=
  ∃ (hFfn : Cert.Ffn.Facts) (hFfnIdeal : Cert.FfnIdeal.Facts) (hFfnRefIdeal : Cert.FfnRefIdeal.Facts) (hFfnRef : Cert.FfnRef.Facts) (hQkv : Cert.Qkv.Facts) (hQkvIdeal : Cert.QkvIdeal.Facts) (hQkvRefIdeal : Cert.QkvRefIdeal.Facts) (hQkvRef : Cert.QkvRef.Facts),
    quiescent_Ffn (hFfn := hFfn)
    ∧ quiescent_FfnIdeal (hFfnIdeal := hFfnIdeal)
    ∧ quiescent_FfnRefIdeal (hFfnRefIdeal := hFfnRefIdeal)
    ∧ quiescent_FfnRef (hFfnRef := hFfnRef)
    ∧ quiescent_Qkv (hQkv := hQkv)
    ∧ quiescent_QkvIdeal (hQkvIdeal := hQkvIdeal)
    ∧ quiescent_QkvRefIdeal (hQkvRefIdeal := hQkvRefIdeal)
    ∧ quiescent_QkvRef (hQkvRef := hQkvRef)
    ∧ preserves_Ffn_FfnIdeal
    ∧ preserves_FfnRef_FfnRefIdeal
    ∧ algebraic_FfnIdeal_FfnRefIdeal (hFfnIdeal := hFfnIdeal) (hFfnRefIdeal := hFfnRefIdeal)
    ∧ preserves_Qkv_QkvIdeal
    ∧ preserves_QkvRef_QkvRefIdeal
    ∧ algebraic_QkvIdeal_QkvRefIdeal (hQkvIdeal := hQkvIdeal) (hQkvRefIdeal := hQkvRefIdeal)
-- ==== Ffn.lean ====
abbrev S5x384x1536 : Shape := ⟨3, ![5, 384, 1536]⟩
abbrev S5x384 : Shape := ⟨2, ![5, 384]⟩
abbrev S5x6x1536 : Shape := ⟨3, ![5, 6, 1536]⟩
abbrev S6x1536 : Shape := ⟨2, ![6, 1536]⟩
abbrev S1536x8960 : Shape := ⟨2, ![1536, 8960]⟩
abbrev S8960 : Shape := ⟨1, ![8960]⟩
abbrev S8960x1536 : Shape := ⟨2, ![8960, 1536]⟩
abbrev S1536 : Shape := ⟨1, ![1536]⟩
abbrev S1x8960 : Shape := ⟨2, ![1, 8960]⟩
abbrev S1x1536 : Shape := ⟨2, ![1, 1536]⟩
abbrev S5x384x8960 : Shape := ⟨3, ![5, 384, 8960]⟩
abbrev S1x384x1536 : Shape := ⟨3, ![1, 384, 1536]⟩
abbrev S1x6x1536 : Shape := ⟨3, ![1, 6, 1536]⟩
abbrev S1x384x8960 : Shape := ⟨3, ![1, 384, 8960]⟩
abbrev S384x8960 : Shape := ⟨2, ![384, 8960]⟩
abbrev S1x384 : Shape := ⟨2, ![1, 384]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S384x1 : Shape := ⟨2, ![384, 1]⟩
abbrev S384x1536 : Shape := ⟨2, ![384, 1536]⟩
abbrev S1536x1280 : Shape := ⟨2, ![1536, 1280]⟩
abbrev S384x1280 : Shape := ⟨2, ![384, 1280]⟩
abbrev S1x1280 : Shape := ⟨2, ![1, 1280]⟩
abbrev S384x128 : Shape := ⟨2, ![384, 128]⟩
abbrev S384 : Shape := ⟨1, ![384]⟩
abbrev S1x384x1280 : Shape := ⟨3, ![1, 384, 1280]⟩
abbrev S1280x1536 : Shape := ⟨2, ![1280, 1536]⟩
abbrev S1x1x1536 : Shape := ⟨3, ![1, 1, 1536]⟩

abbrev nBuf : Space → Nat
  | .hbm => 18
  | .vmem => 20
  | .smem => 0
  | _ => 0

abbrev bufTy : (tb : Table) → Fin (tcTables nBuf tb) → BufTy
  | .hbm, ⟨0, _⟩ => ⟨S5x384x1536, .fp8e4m3⟩
  | .hbm, ⟨1, _⟩ => ⟨S5x384, .f32⟩
  | .hbm, ⟨2, _⟩ => ⟨S5x384x1536, .f32⟩
  | .hbm, ⟨3, _⟩ => ⟨S5x6x1536, .f32⟩
  | .hbm, ⟨4, _⟩ => ⟨S6x1536, .f32⟩
  | .hbm, ⟨5, _⟩ => ⟨S1536x8960, .fp8e4m3⟩
  | .hbm, ⟨6, _⟩ => ⟨S8960, .f32⟩
  | .hbm, ⟨7, _⟩ => ⟨S8960, .f32⟩
  | .hbm, ⟨8, _⟩ => ⟨S8960x1536, .fp8e4m3⟩
  | .hbm, ⟨9, _⟩ => ⟨S1536, .f32⟩
  | .hbm, ⟨10, _⟩ => ⟨S1536, .f32⟩
  | .hbm, ⟨11, _⟩ => ⟨S1x8960, .f32⟩
  | .hbm, ⟨12, _⟩ => ⟨S1x8960, .f32⟩
  | .hbm, ⟨13, _⟩ => ⟨S1x1536, .f32⟩
  | .hbm, ⟨14, _⟩ => ⟨S1x1536, .f32⟩
  | .hbm, ⟨15, _⟩ => ⟨S5x384x1536, .bf16⟩
  | .hbm, ⟨16, _⟩ => ⟨S5x384x8960, .fp8e4m3⟩
  | .hbm, ⟨17, _⟩ => ⟨S5x384, .f32⟩
  | .local _ .vmem, ⟨0, _⟩ => ⟨S1x384x1536, .fp8e4m3⟩
  | .local _ .vmem, ⟨1, _⟩ => ⟨S1x384x1536, .fp8e4m3⟩
  | .local _ .vmem, ⟨2, _⟩ => ⟨S5x384, .f32⟩
  | .local _ .vmem, ⟨3, _⟩ => ⟨S1x384x1536, .f32⟩
  | .local _ .vmem, ⟨4, _⟩ => ⟨S1x384x1536, .f32⟩
  | .local _ .vmem, ⟨5, _⟩ => ⟨S1x6x1536, .f32⟩
  | .local _ .vmem, ⟨6, _⟩ => ⟨S1x6x1536, .f32⟩
  | .local _ .vmem, ⟨7, _⟩ => ⟨S6x1536, .f32⟩
  | .local _ .vmem, ⟨8, _⟩ => ⟨S1536x8960, .fp8e4m3⟩
  | .local _ .vmem, ⟨9, _⟩ => ⟨S1x8960, .f32⟩
  | .local _ .vmem, ⟨10, _⟩ => ⟨S1x8960, .f32⟩
  | .local _ .vmem, ⟨11, _⟩ => ⟨S8960x1536, .fp8e4m3⟩
  | .local _ .vmem, ⟨12, _⟩ => ⟨S1x1536, .f32⟩
  | .local _ .vmem, ⟨13, _⟩ => ⟨S1x1536, .f32⟩
  | .local _ .vmem, ⟨14, _⟩ => ⟨S1x384x1536, .bf16⟩
  | .local _ .vmem, ⟨15, _⟩ => ⟨S1x384x1536, .bf16⟩
  | .local _ .vmem, ⟨16, _⟩ => ⟨S1x384x8960, .fp8e4m3⟩
  | .local _ .vmem, ⟨17, _⟩ => ⟨S1x384x8960, .fp8e4m3⟩
  | .local _ .vmem, ⟨18, _⟩ => ⟨S5x384, .f32⟩
  | .local _ .vmem, ⟨19, _⟩ => ⟨S384x8960, .f32⟩
  | _, _ => ⟨S5x384x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18

abbrev nD : Nat := 1
abbrev τ : Topo := Topo.v7x

variable {F : FTy → Type} [FloatOps F]

abbrev grid0 : Pipeline.Grid := ⟨1, ![5], ![false]⟩

def k0_off1 (i : grid0.Coords) : Fin 2 → Nat :=
  let arg0 : BitVec 32 := BitVec.ofNat 32 (i 0).val
  let v0 : Index := Scalar.indexCast arg0
  let c0 : Index := 0#32
  ![v0.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x384x1536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x384x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x8960 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8960 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8960 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8960x1536 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x384x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x384x8960 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S5x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnIdeal.lean ====
variable {F : FTy → Type} [FloatOps F] [Named F]
def κ : String → Option EReal := fun
  | "gelu_a" => some ((2 * (Real.sqrt (2 * Real.pi⁻¹)) : ℝ) : EReal)
  | "gelu_b" => some (((8 * (8943 / 200000)) * (Real.sqrt (2 * Real.pi⁻¹)) : ℝ) : EReal)
  | _ => none
-- ==== FfnRefIdeal.lean ====
variable {F : FTy → Type} [FloatOps F] [Named F]
def κ : String → Option EReal := fun
  | "gelu_c" => some ((Real.sqrt (2 * Real.pi⁻¹) : ℝ) : EReal)
  | "gelu_k" => some ((8943 / 200000 : ℝ) : EReal)
  | _ => none
-- ==== FfnRef.lean ====
abbrev S5x384x1536 : Shape := ⟨3, ![5, 384, 1536]⟩
abbrev S5x384 : Shape := ⟨2, ![5, 384]⟩
abbrev S5x6x1536 : Shape := ⟨3, ![5, 6, 1536]⟩
abbrev S6x1536 : Shape := ⟨2, ![6, 1536]⟩
abbrev S1536x8960 : Shape := ⟨2, ![1536, 8960]⟩
abbrev S8960 : Shape := ⟨1, ![8960]⟩
abbrev S8960x1536 : Shape := ⟨2, ![8960, 1536]⟩
abbrev S1536 : Shape := ⟨1, ![1536]⟩
abbrev S1x6x1536 : Shape := ⟨3, ![1, 6, 1536]⟩
abbrev S5x1x1536 : Shape := ⟨3, ![5, 1, 1536]⟩
abbrev S5x1536 : Shape := ⟨2, ![5, 1536]⟩
abbrev S5x384x8960 : Shape := ⟨3, ![5, 384, 8960]⟩
abbrev S5x384x1 : Shape := ⟨3, ![5, 384, 1]⟩
abbrev S1x1x8960 : Shape := ⟨3, ![1, 1, 8960]⟩
abbrev S1x1x1536 : Shape := ⟨3, ![1, 1, 1536]⟩

abbrev nBuf : Space → Nat
  | .hbm => 20
  | .vmem => 13
  | .smem => 0
  | _ => 0

abbrev bufTy : (tb : Table) → Fin (tcTables nBuf tb) → BufTy
  | .hbm, ⟨0, _⟩ => ⟨S5x384x1536, .fp8e4m3⟩
  | .hbm, ⟨1, _⟩ => ⟨S5x384, .f32⟩
  | .hbm, ⟨2, _⟩ => ⟨S5x384x1536, .f32⟩
  | .hbm, ⟨3, _⟩ => ⟨S5x6x1536, .f32⟩
  | .hbm, ⟨4, _⟩ => ⟨S6x1536, .f32⟩
  | .hbm, ⟨5, _⟩ => ⟨S1536x8960, .fp8e4m3⟩
  | .hbm, ⟨6, _⟩ => ⟨S8960, .f32⟩
  | .hbm, ⟨7, _⟩ => ⟨S8960, .f32⟩
  | .hbm, ⟨8, _⟩ => ⟨S8960x1536, .fp8e4m3⟩
  | .hbm, ⟨9, _⟩ => ⟨S1536, .f32⟩
  | .hbm, ⟨10, _⟩ => ⟨S1536, .f32⟩
  | .hbm, ⟨11, _⟩ => ⟨S1x6x1536, .f32⟩
  | .hbm, ⟨12, _⟩ => ⟨S5x6x1536, .f32⟩
  | .hbm, ⟨13, _⟩ => ⟨S5x6x1536, .f32⟩
  | .hbm, ⟨14, _⟩ => ⟨S5x1x1536, .f32⟩
  | .hbm, ⟨15, _⟩ => ⟨S5x1536, .f32⟩
  | .hbm, ⟨16, _⟩ => ⟨S5x1x1536, .f32⟩
  | .hbm, ⟨17, _⟩ => ⟨S5x384x1536, .bf16⟩
  | .hbm, ⟨18, _⟩ => ⟨S5x384x8960, .fp8e4m3⟩
  | .hbm, ⟨19, _⟩ => ⟨S5x384, .f32⟩
  | .local _ .vmem, ⟨0, _⟩ => ⟨S5x384x1536, .fp8e4m3⟩
  | .local _ .vmem, ⟨1, _⟩ => ⟨S5x384, .f32⟩
  | .local _ .vmem, ⟨2, _⟩ => ⟨S5x384x1536, .f32⟩
  | .local _ .vmem, ⟨3, _⟩ => ⟨S5x1x1536, .f32⟩
  | .local _ .vmem, ⟨4, _⟩ => ⟨S1536x8960, .fp8e4m3⟩
  | .local _ .vmem, ⟨5, _⟩ => ⟨S8960, .f32⟩
  | .local _ .vmem, ⟨6, _⟩ => ⟨S8960, .f32⟩
  | .local _ .vmem, ⟨7, _⟩ => ⟨S8960x1536, .fp8e4m3⟩
  | .local _ .vmem, ⟨8, _⟩ => ⟨S1536, .f32⟩
  | .local _ .vmem, ⟨9, _⟩ => ⟨S1536, .f32⟩
  | .local _ .vmem, ⟨10, _⟩ => ⟨S5x384x1536, .bf16⟩
  | .local _ .vmem, ⟨11, _⟩ => ⟨S5x384x8960, .fp8e4m3⟩
  | .local _ .vmem, ⟨12, _⟩ => ⟨S5x384, .f32⟩
  | _, _ => ⟨S5x384x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S5x384x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x384x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x8960 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8960 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8960 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8960x1536 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5x384x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S5x384x8960 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S5x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Qkv.lean ====
abbrev S5x384x1536 : Shape := ⟨3, ![5, 384, 1536]⟩
abbrev S5x6x1536 : Shape := ⟨3, ![5, 6, 1536]⟩
abbrev S6x1536 : Shape := ⟨2, ![6, 1536]⟩
abbrev S384x64 : Shape := ⟨2, ![384, 64]⟩
abbrev S1536x12x128 : Shape := ⟨3, ![1536, 12, 128]⟩
abbrev S12x128 : Shape := ⟨2, ![12, 128]⟩
abbrev S64x384 : Shape := ⟨2, ![64, 384]⟩
abbrev S12x1536x128 : Shape := ⟨3, ![12, 1536, 128]⟩
abbrev S5x12x384x128 : Shape := ⟨4, ![5, 12, 384, 128]⟩
abbrev S5x384 : Shape := ⟨2, ![5, 384]⟩
abbrev S1x384x1536 : Shape := ⟨3, ![1, 384, 1536]⟩
abbrev S1x6x1536 : Shape := ⟨3, ![1, 6, 1536]⟩
abbrev S1x12x384x128 : Shape := ⟨4, ![1, 12, 384, 128]⟩
abbrev S2x12x384x128 : Shape := ⟨4, ![2, 12, 384, 128]⟩
abbrev S2x384x128 : Shape := ⟨3, ![2, 384, 128]⟩
abbrev S1x128 : Shape := ⟨2, ![1, 128]⟩
abbrev S64x128 : Shape := ⟨2, ![64, 128]⟩
abbrev S384x128 : Shape := ⟨2, ![384, 128]⟩
abbrev S1x384x128 : Shape := ⟨3, ![1, 384, 128]⟩
abbrev S384x1536 : Shape := ⟨2, ![384, 1536]⟩
abbrev S384 : Shape := ⟨1, ![384]⟩
abbrev S384x1 : Shape := ⟨2, ![384, 1]⟩
abbrev S1x1536 : Shape := ⟨2, ![1, 1536]⟩
abbrev S128x128 : Shape := ⟨2, ![128, 128]⟩
abbrev S128x1 : Shape := ⟨2, ![128, 1]⟩
abbrev S128 : Shape := ⟨1, ![128]⟩
abbrev S1x384 : Shape := ⟨2, ![1, 384]⟩
abbrev S1x1536x128 : Shape := ⟨3, ![1, 1536, 128]⟩
abbrev S1536x128 : Shape := ⟨2, ![1536, 128]⟩
abbrev S1536x512 : Shape := ⟨2, ![1536, 512]⟩
abbrev S384x512 : Shape := ⟨2, ![384, 512]⟩
abbrev S1x512 : Shape := ⟨2, ![1, 512]⟩
abbrev S12x384x128 : Shape := ⟨3, ![12, 384, 128]⟩
abbrev S1x1x384x128 : Shape := ⟨4, ![1, 1, 384, 128]⟩

abbrev nBuf : Space → Nat
  | .hbm => 26
  | .vmem => 29
  | .smem => 0
  | _ => 0

abbrev bufTy : (tb : Table) → Fin (tcTables nBuf tb) → BufTy
  | .hbm, ⟨0, _⟩ => ⟨S5x384x1536, .bf16⟩
  | .hbm, ⟨1, _⟩ => ⟨S5x6x1536, .f32⟩
  | .hbm, ⟨2, _⟩ => ⟨S6x1536, .f32⟩
  | .hbm, ⟨3, _⟩ => ⟨S384x64, .f32⟩
  | .hbm, ⟨4, _⟩ => ⟨S384x64, .f32⟩
  | .hbm, ⟨5, _⟩ => ⟨S1536x12x128, .fp8e4m3⟩
  | .hbm, ⟨6, _⟩ => ⟨S1536x12x128, .fp8e4m3⟩
  | .hbm, ⟨7, _⟩ => ⟨S1536x12x128, .fp8e4m3⟩
  | .hbm, ⟨8, _⟩ => ⟨S12x128, .f32⟩
  | .hbm, ⟨9, _⟩ => ⟨S12x128, .f32⟩
  | .hbm, ⟨10, _⟩ => ⟨S12x128, .f32⟩
  | .hbm, ⟨11, _⟩ => ⟨S12x128, .f32⟩
  | .hbm, ⟨12, _⟩ => ⟨S12x128, .f32⟩
  | .hbm, ⟨13, _⟩ => ⟨S12x128, .f32⟩
  | .hbm, ⟨14, _⟩ => ⟨S12x128, .f32⟩
  | .hbm, ⟨15, _⟩ => ⟨S12x128, .f32⟩
  | .hbm, ⟨16, _⟩ => ⟨S64x384, .f32⟩
  | .hbm, ⟨17, _⟩ => ⟨S64x384, .f32⟩
  | .hbm, ⟨18, _⟩ => ⟨S12x1536x128, .fp8e4m3⟩
  | .hbm, ⟨19, _⟩ => ⟨S12x1536x128, .fp8e4m3⟩
  | .hbm, ⟨20, _⟩ => ⟨S12x1536x128, .fp8e4m3⟩
  | .hbm, ⟨21, _⟩ => ⟨S5x12x384x128, .bf16⟩
  | .hbm, ⟨22, _⟩ => ⟨S5x12x384x128, .bf16⟩
  | .hbm, ⟨23, _⟩ => ⟨S5x12x384x128, .bf16⟩
  | .hbm, ⟨24, _⟩ => ⟨S5x384x1536, .fp8e4m3⟩
  | .hbm, ⟨25, _⟩ => ⟨S5x384, .f32⟩
  | .local _ .vmem, ⟨0, _⟩ => ⟨S1x384x1536, .bf16⟩
  | .local _ .vmem, ⟨1, _⟩ => ⟨S1x384x1536, .bf16⟩
  | .local _ .vmem, ⟨2, _⟩ => ⟨S1x6x1536, .f32⟩
  | .local _ .vmem, ⟨3, _⟩ => ⟨S1x6x1536, .f32⟩
  | .local _ .vmem, ⟨4, _⟩ => ⟨S6x1536, .f32⟩
  | .local _ .vmem, ⟨5, _⟩ => ⟨S64x384, .f32⟩
  | .local _ .vmem, ⟨6, _⟩ => ⟨S64x384, .f32⟩
  | .local _ .vmem, ⟨7, _⟩ => ⟨S12x1536x128, .fp8e4m3⟩
  | .local _ .vmem, ⟨8, _⟩ => ⟨S12x1536x128, .fp8e4m3⟩
  | .local _ .vmem, ⟨9, _⟩ => ⟨S12x1536x128, .fp8e4m3⟩
  | .local _ .vmem, ⟨10, _⟩ => ⟨S12x128, .f32⟩
  | .local _ .vmem, ⟨11, _⟩ => ⟨S12x128, .f32⟩
  | .local _ .vmem, ⟨12, _⟩ => ⟨S12x128, .f32⟩
  | .local _ .vmem, ⟨13, _⟩ => ⟨S12x128, .f32⟩
  | .local _ .vmem, ⟨14, _⟩ => ⟨S12x128, .f32⟩
  | .local _ .vmem, ⟨15, _⟩ => ⟨S12x128, .f32⟩
  | .local _ .vmem, ⟨16, _⟩ => ⟨S12x128, .f32⟩
  | .local _ .vmem, ⟨17, _⟩ => ⟨S12x128, .f32⟩
  | .local _ .vmem, ⟨18, _⟩ => ⟨S1x12x384x128, .bf16⟩
  | .local _ .vmem, ⟨19, _⟩ => ⟨S1x12x384x128, .bf16⟩
  | .local _ .vmem, ⟨20, _⟩ => ⟨S1x12x384x128, .bf16⟩
  | .local _ .vmem, ⟨21, _⟩ => ⟨S1x12x384x128, .bf16⟩
  | .local _ .vmem, ⟨22, _⟩ => ⟨S1x12x384x128, .bf16⟩
  | .local _ .vmem, ⟨23, _⟩ => ⟨S1x12x384x128, .bf16⟩
  | .local _ .vmem, ⟨24, _⟩ => ⟨S1x384x1536, .fp8e4m3⟩
  | .local _ .vmem, ⟨25, _⟩ => ⟨S1x384x1536, .fp8e4m3⟩
  | .local _ .vmem, ⟨26, _⟩ => ⟨S5x384, .f32⟩
  | .local _ .vmem, ⟨27, _⟩ => ⟨S2x12x384x128, .f32⟩
  | .local _ .vmem, ⟨28, _⟩ => ⟨S2x384x128, .f32⟩
  | _, _ => ⟨S5x384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5_0 : Ref sig .tc := ⟨.hbm, 21, rfl⟩
abbrev main_v5_1 : Ref sig .tc := ⟨.hbm, 22, rfl⟩
abbrev main_v5_2 : Ref sig .tc := ⟨.hbm, 23, rfl⟩
abbrev main_v5_3 : Ref sig .tc := ⟨.hbm, 24, rfl⟩
abbrev main_v5_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26

abbrev nD : Nat := 1
abbrev τ : Topo := Topo.v7x

variable {F : FTy → Type} [FloatOps F]

abbrev grid0 : Pipeline.Grid := ⟨1, ![5], ![false]⟩

def k0_off1 (i : grid0.Coords) : Fin 2 → Nat :=
  let arg0 : BitVec 32 := BitVec.ofNat 32 (i 0).val
  let v79 : Index := Scalar.indexCast arg0
  let c0_28 : Index := 0#32
  ![v79.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x384x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x1536x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12x1536x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S12x1536x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S12x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S12x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S12x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S12x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S12x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S12x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S12x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S12x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x12x384x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x12x384x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x12x384x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x384x1536 .fp8e4m3 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S5x384 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== QkvIdeal.lean ====
variable {F : FTy → Type} [FloatOps F] [Named F]
def κ : String → Option EReal := fun
  | "inv_d" => some ((1536⁻¹ : ℝ) : EReal)
  | _ => none
-- ==== QkvRef.lean ====
abbrev S5x384x1536 : Shape := ⟨3, ![5, 384, 1536]⟩
abbrev S5x6x1536 : Shape := ⟨3, ![5, 6, 1536]⟩
abbrev S6x1536 : Shape := ⟨2, ![6, 1536]⟩
abbrev S384x64 : Shape := ⟨2, ![384, 64]⟩
abbrev S1536x12x128 : Shape := ⟨3, ![1536, 12, 128]⟩
abbrev S12x128 : Shape := ⟨2, ![12, 128]⟩
abbrev S1x6x1536 : Shape := ⟨3, ![1, 6, 1536]⟩
abbrev S5x1x1536 : Shape := ⟨3, ![5, 1, 1536]⟩
abbrev S5x1536 : Shape := ⟨2, ![5, 1536]⟩
abbrev S5x12x384x128 : Shape := ⟨4, ![5, 12, 384, 128]⟩
abbrev S5x384 : Shape := ⟨2, ![5, 384]⟩
abbrev S5x384x1 : Shape := ⟨3, ![5, 384, 1]⟩
abbrev S1x384x1x64 : Shape := ⟨4, ![1, 384, 1, 64]⟩
abbrev S5x384x12x128 : Shape := ⟨4, ![5, 384, 12, 128]⟩
abbrev S5x384x1x1 : Shape := ⟨4, ![5, 384, 1, 1]⟩
abbrev S1x1x12x128 : Shape := ⟨4, ![1, 1, 12, 128]⟩
abbrev S5x384x12x64x2 : Shape := ⟨5, ![5, 384, 12, 64, 2]⟩
abbrev S5x384x12x64x1 : Shape := ⟨5, ![5, 384, 12, 64, 1]⟩
abbrev S5x384x12x64 : Shape := ⟨4, ![5, 384, 12, 64]⟩

abbrev nBuf : Space → Nat
  | .hbm => 30
  | .vmem => 21
  | .smem => 0
  | _ => 0

abbrev bufTy : (tb : Table) → Fin (tcTables nBuf tb) → BufTy
  | .hbm, ⟨0, _⟩ => ⟨S5x384x1536, .bf16⟩
  | .hbm, ⟨1, _⟩ => ⟨S5x6x1536, .f32⟩
  | .hbm, ⟨2, _⟩ => ⟨S6x1536, .f32⟩
  | .hbm, ⟨3, _⟩ => ⟨S384x64, .f32⟩
  | .hbm, ⟨4, _⟩ => ⟨S384x64, .f32⟩
  | .hbm, ⟨5, _⟩ => ⟨S1536x12x128, .fp8e4m3⟩
  | .hbm, ⟨6, _⟩ => ⟨S1536x12x128, .fp8e4m3⟩
  | .hbm, ⟨7, _⟩ => ⟨S1536x12x128, .fp8e4m3⟩
  | .hbm, ⟨8, _⟩ => ⟨S12x128, .f32⟩
  | .hbm, ⟨9, _⟩ => ⟨S12x128, .f32⟩
  | .hbm, ⟨10, _⟩ => ⟨S12x128, .f32⟩
  | .hbm, ⟨11, _⟩ => ⟨S12x128, .f32⟩
  | .hbm, ⟨12, _⟩ => ⟨S12x128, .f32⟩
  | .hbm, ⟨13, _⟩ => ⟨S12x128, .f32⟩
  | .hbm, ⟨14, _⟩ => ⟨S12x128, .f32⟩
  | .hbm, ⟨15, _⟩ => ⟨S12x128, .f32⟩
  | .hbm, ⟨16, _⟩ => ⟨S1x6x1536, .f32⟩
  | .hbm, ⟨17, _⟩ => ⟨S5x6x1536, .f32⟩
  | .hbm, ⟨18, _⟩ => ⟨S5x6x1536, .f32⟩
  | .hbm, ⟨19, _⟩ => ⟨S5x1x1536, .f32⟩
  | .hbm, ⟨20, _⟩ => ⟨S5x1536, .f32⟩
  | .hbm, ⟨21, _⟩ => ⟨S5x1x1536, .f32⟩
  | .hbm, ⟨22, _⟩ => ⟨S5x1x1536, .f32⟩
  | .hbm, ⟨23, _⟩ => ⟨S5x1536, .f32⟩
  | .hbm, ⟨24, _⟩ => ⟨S5x1x1536, .f32⟩
  | .hbm, ⟨25, _⟩ => ⟨S5x12x384x128, .bf16⟩
  | .hbm, ⟨26, _⟩ => ⟨S5x12x384x128, .bf16⟩
  | .hbm, ⟨27, _⟩ => ⟨S5x12x384x128, .bf16⟩
  | .hbm, ⟨28, _⟩ => ⟨S5x384x1536, .fp8e4m3⟩
  | .hbm, ⟨29, _⟩ => ⟨S5x384, .f32⟩
  | .local _ .vmem, ⟨0, _⟩ => ⟨S5x384x1536, .bf16⟩
  | .local _ .vmem, ⟨1, _⟩ => ⟨S5x1x1536, .f32⟩
  | .local _ .vmem, ⟨2, _⟩ => ⟨S5x1x1536, .f32⟩
  | .local _ .vmem, ⟨3, _⟩ => ⟨S384x64, .f32⟩
  | .local _ .vmem, ⟨4, _⟩ => ⟨S384x64, .f32⟩
  | .local _ .vmem, ⟨5, _⟩ => ⟨S1536x12x128, .fp8e4m3⟩
  | .local _ .vmem, ⟨6, _⟩ => ⟨S1536x12x128, .fp8e4m3⟩
  | .local _ .vmem, ⟨7, _⟩ => ⟨S1536x12x128, .fp8e4m3⟩
  | .local _ .vmem, ⟨8, _⟩ => ⟨S12x128, .f32⟩
  | .local _ .vmem, ⟨9, _⟩ => ⟨S12x128, .f32⟩
  | .local _ .vmem, ⟨10, _⟩ => ⟨S12x128, .f32⟩
  | .local _ .vmem, ⟨11, _⟩ => ⟨S12x128, .f32⟩
  | .local _ .vmem, ⟨12, _⟩ => ⟨S12x128, .f32⟩
  | .local _ .vmem, ⟨13, _⟩ => ⟨S12x128, .f32⟩
  | .local _ .vmem, ⟨14, _⟩ => ⟨S12x128, .f32⟩
  | .local _ .vmem, ⟨15, _⟩ => ⟨S12x128, .f32⟩
  | .local _ .vmem, ⟨16, _⟩ => ⟨S5x12x384x128, .bf16⟩
  | .local _ .vmem, ⟨17, _⟩ => ⟨S5x12x384x128, .bf16⟩
  | .local _ .vmem, ⟨18, _⟩ => ⟨S5x12x384x128, .bf16⟩
  | .local _ .vmem, ⟨19, _⟩ => ⟨S5x384x1536, .fp8e4m3⟩
  | .local _ .vmem, ⟨20, _⟩ => ⟨S5x384, .f32⟩
  | _, _ => ⟨S5x384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9_0 : Ref sig .tc := ⟨.hbm, 25, rfl⟩
abbrev main_v9_1 : Ref sig .tc := ⟨.hbm, 26, rfl⟩
abbrev main_v9_2 : Ref sig .tc := ⟨.hbm, 27, rfl⟩
abbrev main_v9_3 : Ref sig .tc := ⟨.hbm, 28, rfl⟩
abbrev main_v9_4 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S5x384x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x12x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x12x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x12x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S12x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S12x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S12x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S12x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S5x12x384x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S5x12x384x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S5x12x384x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S5x384x1536 .fp8e4m3 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S5x384 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Proof.FfnFrame.lean ====
/- The frame of the program `Ffn` at any float instance: the outputs' contents are not named. -/
module

public import proofs.«01_k».proof.Proof.Gen.Ffn.Frame
public import proofs.«01_k».proof.Proof.Gen.Ffn.Skeleton
public import Idealize.ShloMosaic.Lib.Pipeline.DatRel
public import Idealize.ShloMosaic.Lib.Claim

@[expose] public section

set_option maxRecDepth 16384

noncomputable section

namespace Cert.Ffn.Hand

open Cert.Ffn Cert.Ffn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Ffn`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 8 rfl).trans ((hA c 8).trans (V_main_arg8 m c)),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x384x1536 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x384x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x6x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x1536 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x8960 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8960 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8960 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8960x1536 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1536 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1536 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x384x1536 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x384x8960 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S5x384 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S384x8960 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: checking it walks past the default budget)
set_option maxHeartbeats 1000000 in
/-- The body's triple: on whole staging memrefs — the inputs' at their contents,
    the FORGOTTEN outputs' (11, 12, 13) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S1x384x1536 .fp8e4m3) (harg1 : arg1.IsWhole) (arg2 : Memref sig .tc .vmem S5x384 .f32) (harg2 : arg2.IsWhole) (arg3 : Memref sig .tc .vmem S1x384x1536 .f32) (harg3 : arg3.IsWhole) (arg4 : Memref sig .tc .vmem S1x6x1536 .f32) (harg4 : arg4.IsWhole) (arg5 : Memref sig .tc .vmem S6x1536 .f32) (harg5 : arg5.IsWhole) (arg6 : Memref sig .tc .vmem S1536x8960 .fp8e4m3) (harg6 : arg6.IsWhole) (arg7 : Memref sig .tc .vmem S1x8960 .f32) (harg7 : arg7.IsWhole) (arg8 : Memref sig .tc .vmem S1x8960 .f32) (harg8 : arg8.IsWhole) (arg9 : Memref sig .tc .vmem S8960x1536 .fp8e4m3) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1x384x1536 .bf16) (harg12 : arg12.IsWhole) (arg13 : Memref sig .tc .vmem S1x384x8960 .fp8e4m3) (harg13 : arg13.IsWhole) (arg14 : Memref sig .tc .vmem S5x384 .f32) (harg14 : arg14.IsWhole) (arg15 : Memref sig .tc .vmem S384x8960 .f32) (harg15 : arg15.IsWhole)
    (x0 : Vec F S1x384x1536 .fp8e4m3) (x1 : Vec F S5x384 .f32) (x2 : Vec F S1x384x1536 .f32) (x3 : Vec F S1x6x1536 .f32) (x4 : Vec F S6x1536 .f32) (x5 : Vec F S1536x8960 .fp8e4m3) (x6 : Vec F S1x8960 .f32) (x7 : Vec F S1x8960 .f32) (x8 : Vec F S8960x1536 .fp8e4m3) (x9 : Vec F S1x1536 .f32) (x10 : Vec F S1x1536 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact HS0
    ipureintro; rfl

/-- The output windows this certificate FORGETS (11, 12, 13): nothing reads what the kernel leaves in them, so nothing
    of it is named (Lib/Pipeline/Dat.lean `Dat.toRForget`). -/
def forgets0 : Fin 14 → Bool := fun w => w.val == 11 || w.val == 12 || w.val == 13

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun0_A c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [HS0]; · iexact HS0
  iintro ⟨H0, H1, H2, H3, H4, H5, H6, H7, H8, H9, H10, H11, H12, H13, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 11, 12, 13) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (fun c => (dats m 0 c).toRForget forgets0) (A_eq m) (run_main m ρ)

/-- THE FRAME: `Cert.quiescent_Ffn`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Ffn.Hand

end
-- ==== Proof.FfnTerms.lean ====
/- The terms that the kernel's body leaves in its buffers at one sample, named. -/
module

public import proofs.«01_k».proof.Proof.Gen.FfnIdeal.Skeleton
public import Idealize.ShloMosaic.Lib.Pipeline.ValueKit

@[expose] public section

set_option maxRecDepth 16384

noncomputable section

namespace Cert.FfnIdeal.Hand

open Cert.FfnIdeal Cert.FfnIdeal.Gen
open Idealize.ShloMosaic

variable {F : FTy → Type} [FloatOps F] [Named F]

/-- The last chunk of the hidden row. -/
def lastK (v1 : Vec F S1x384 .f32) (x0 : Vec F S1x384x1536 .fp8e4m3) (x5 : Vec F S1536x8960 .fp8e4m3) (x6 x7 : Vec F S1x8960 .f32) : FVec F S384x1280 .f32 :=
  (k0_pay31 (k0_pay30 (k0_pay2 v1) (k0_pay3 x0) (View.ld (Val := Elt F) x5 (Rect.unit ![0, 7680] ![1536, 1280] inb_S1536x8960_S1536x1280_0_7680))) (View.ld (Val := Elt F) x6 (Rect.unit ![0, 7680] ![1, 1280] inb_S1x8960_S1x1280_0_7680)) (View.ld (Val := Elt F) x7 (Rect.unit ![0, 7680] ![1, 1280] inb_S1x8960_S1x1280_0_7680)))

/-- The running maximum before the last slice. -/
def maxK (v1 : Vec F S1x384 .f32) (x0 : Vec F S1x384x1536 .fp8e4m3) (x5 : Vec F S1536x8960 .fp8e4m3) (x6 x7 : Vec F S1x8960 .f32) : FVec F S384x128 .f32 :=
  (k0_pay33 (k0_pay29 (k0_pay24 (k0_pay19 (k0_pay16 (k0_pay2 v1) (k0_pay3 x0) (View.ld (Val := Elt F) x5 (Rect.unit ![0, 3840] ![1536, 1280] inb_S1536x8960_S1536x1280_0_3840)) (View.ld (Val := Elt F) x6 (Rect.unit ![0, 3840] ![1, 1280] inb_S1x8960_S1x1280_0_3840)) (View.ld (Val := Elt F) x7 (Rect.unit ![0, 3840] ![1, 1280] inb_S1x8960_S1x1280_0_3840))) (k0_pay18 (k0_pay2 v1) (k0_pay3 x0) (k0_pay13 (k0_pay2 v1) (k0_pay3 x0) (View.ld (Val := Elt F) x5 (Rect.unit ![0, 2560] ![1536, 1280] inb_S1536x8960_S1536x1280_0_2560)) (View.ld (Val := Elt F) x6 (Rect.unit ![0, 2560] ![1, 1280] inb_S1x8960_S1x1280_0_2560)) (View.ld (Val := Elt F) x7 (Rect.unit ![0, 2560] ![1, 1280] inb_S1x8960_S1x1280_0_2560))) (k0_pay15 (k0_pay2 v1) (k0_pay3 x0) (k0_pay10 (k0_pay9 (k0_pay2 v1) (k0_pay3 x0) (View.ld (Val := Elt F) x5 (Rect.unit ![0, 1280] ![1536, 1280] inb_S1536x8960_S1536x1280_0_1280))) (View.ld (Val := Elt F) x6 (Rect.unit ![0, 1280] ![1, 1280] inb_S1x8960_S1x1280_0_1280)) (View.ld (Val := Elt F) x7 (Rect.unit ![0, 1280] ![1, 1280] inb_S1x8960_S1x1280_0_1280))) (k0_pay12 (k0_pay8 (k0_pay4 v1 x0 (View.ld (Val := Elt F) x5 (Rect.unit ![0, 0] ![1536, 1280] inb_S1536x8960_S1536x1280_0_0)) (View.ld (Val := Elt F) x6 (Rect.unit ![0, 0] ![1, 1280] inb_S1x8960_S1x1280_0_0))) (k0_pay5 (View.ld (Val := Elt F) x7 (Rect.unit ![0, 0] ![1, 1280] inb_S1x8960_S1x1280_0_0)))) (k0_pay9 (k0_pay2 v1) (k0_pay3 x0) (View.ld (Val := Elt F) x5 (Rect.unit ![0, 1280] ![1536, 1280] inb_S1536x8960_S1536x1280_0_1280))) (View.ld (Val := Elt F) x6 (Rect.unit ![0, 1280] ![1, 1280] inb_S1x8960_S1x1280_0_1280)) (View.ld (Val := Elt F) x7 (Rect.unit ![0, 1280] ![1, 1280] inb_S1x8960_S1x1280_0_1280))) (View.ld (Val := Elt F) x5 (Rect.unit ![0, 2560] ![1536, 1280] inb_S1536x8960_S1536x1280_0_2560)) (View.ld (Val := Elt F) x6 (Rect.unit ![0, 2560] ![1, 1280] inb_S1x8960_S1x1280_0_2560)) (View.ld (Val := Elt F) x7 (Rect.unit ![0, 2560] ![1, 1280] inb_S1x8960_S1x1280_0_2560))) (View.ld (Val := Elt F) x5 (Rect.unit ![0, 3840] ![1536, 1280] inb_S1536x8960_S1536x1280_0_3840)) (View.ld (Val := Elt F) x6 (Rect.unit ![0, 3840] ![1, 1280] inb_S1x8960_S1x1280_0_3840)) (View.ld (Val := Elt F) x7 (Rect.unit ![0, 3840] ![1, 1280] inb_S1x8960_S1x1280_0_3840)))) (k0_pay20 (k0_pay2 v1) (k0_pay3 x0) (View.ld (Val := Elt F) x5 (Rect.unit ![0, 5120] ![1536, 1280] inb_S1536x8960_S1536x1280_0_5120)) (View.ld (Val := Elt F) x6 (Rect.unit ![0, 5120] ![1, 1280] inb_S1x8960_S1x1280_0_5120)) (View.ld (Val := Elt F) x7 (Rect.unit ![0, 5120] ![1, 1280] inb_S1x8960_S1x1280_0_5120))) (k0_pay21 (k0_pay2 v1) (k0_pay3 x0) (View.ld (Val := Elt F) x5 (Rect.unit ![0, 5120] ![1536, 1280] inb_S1536x8960_S1536x1280_0_5120)) (View.ld (Val := Elt F) x6 (Rect.unit ![0, 5120] ![1, 1280] inb_S1x8960_S1x1280_0_5120)) (View.ld (Val := Elt F) x7 (Rect.unit ![0, 5120] ![1, 1280] inb_S1x8960_S1x1280_0_5120)))) (k0_pay25 (k0_pay2 v1) (k0_pay3 x0) (View.ld (Val := Elt F) x5 (Rect.unit ![0, 6400] ![1536, 1280] inb_S1536x8960_S1536x1280_0_6400)) (View.ld (Val := Elt F) x6 (Rect.unit ![0, 6400] ![1, 1280] inb_S1x8960_S1x1280_0_6400))) (k0_pay26 (View.ld (Val := Elt F) x7 (Rect.unit ![0, 6400] ![1, 1280] inb_S1x8960_S1x1280_0_6400))) (FloatOps.ofBits FTy.f32 0x3F000000#32)) (k0_pay30 (k0_pay2 v1) (k0_pay3 x0) (View.ld (Val := Elt F) x5 (Rect.unit ![0, 7680] ![1536, 1280] inb_S1536x8960_S1536x1280_0_7680))) (View.ld (Val := Elt F) x6 (Rect.unit ![0, 7680] ![1, 1280] inb_S1x8960_S1x1280_0_7680)) (View.ld (Val := Elt F) x7 (Rect.unit ![0, 7680] ![1, 1280] inb_S1x8960_S1x1280_0_7680)))

/-- The scale of the hidden rows, as a column. -/
def scaleK (v1 : Vec F S1x384 .f32) (x0 : Vec F S1x384x1536 .fp8e4m3) (x5 : Vec F S1536x8960 .fp8e4m3) (x6 x7 : Vec F S1x8960 .f32) : FVec F S384x1 .f32 :=
  k0_pay34 (lastK v1 x0 x5 x6 x7) (maxK v1 x0 x5 x6 x7)

/-- Chunk 0 of the hidden row as it is stored. -/
def chunkK0 (v1 : Vec F S1x384 .f32) (x0 : Vec F S1x384x1536 .fp8e4m3) (x5 : Vec F S1536x8960 .fp8e4m3) (x6 x7 : Vec F S1x8960 .f32) : FVec F S384x1280 .f32 :=
  k0_pay7 (k0_pay4 v1 x0 (View.ld (Val := Elt F) x5 (Rect.unit ![0, 0] ![1536, 1280] inb_S1536x8960_S1536x1280_0_0)) (View.ld (Val := Elt F) x6 (Rect.unit ![0, 0] ![1, 1280] inb_S1x8960_S1x1280_0_0))) (k0_pay5 (View.ld (Val := Elt F) x7 (Rect.unit ![0, 0] ![1, 1280] inb_S1x8960_S1x1280_0_0)))

/-- Chunk 1 of the hidden row as it is stored. -/
def chunkK1 (v1 : Vec F S1x384 .f32) (x0 : Vec F S1x384x1536 .fp8e4m3) (x5 : Vec F S1536x8960 .fp8e4m3) (x6 x7 : Vec F S1x8960 .f32) : FVec F S384x1280 .f32 :=
  k0_pay11 (k0_pay9 (k0_pay2 v1) (k0_pay3 x0) (View.ld (Val := Elt F) x5 (Rect.unit ![0, 1280] ![1536, 1280] inb_S1536x8960_S1536x1280_0_1280))) (View.ld (Val := Elt F) x6 (Rect.unit ![0, 1280] ![1, 1280] inb_S1x8960_S1x1280_0_1280)) (View.ld (Val := Elt F) x7 (Rect.unit ![0, 1280] ![1, 1280] inb_S1x8960_S1x1280_0_1280))

/-- Chunk 2 of the hidden row as it is stored. -/
def chunkK2 (v1 : Vec F S1x384 .f32) (x0 : Vec F S1x384x1536 .fp8e4m3) (x5 : Vec F S1536x8960 .fp8e4m3) (x6 x7 : Vec F S1x8960 .f32) : FVec F S384x1280 .f32 :=
  k0_pay14 (k0_pay2 v1) (k0_pay3 x0) (View.ld (Val := Elt F) x5 (Rect.unit ![0, 2560] ![1536, 1280] inb_S1536x8960_S1536x1280_0_2560)) (View.ld (Val := Elt F) x6 (Rect.unit ![0, 2560] ![1, 1280] inb_S1x8960_S1x1280_0_2560)) (View.ld (Val := Elt F) x7 (Rect.unit ![0, 2560] ![1, 1280] inb_S1x8960_S1x1280_0_2560))

/-- Chunk 3 of the hidden row as it is stored. -/
def chunkK3 (v1 : Vec F S1x384 .f32) (x0 : Vec F S1x384x1536 .fp8e4m3) (x5 : Vec F S1536x8960 .fp8e4m3) (x6 x7 : Vec F S1x8960 .f32) : FVec F S384x1280 .f32 :=
  k0_pay17 (k0_pay2 v1) (k0_pay3 x0) (View.ld (Val := Elt F) x5 (Rect.unit ![0, 3840] ![1536, 1280] inb_S1536x8960_S1536x1280_0_3840)) (View.ld (Val := Elt F) x6 (Rect.unit ![0, 3840] ![1, 1280] inb_S1x8960_S1x1280_0_3840)) (View.ld (Val := Elt F) x7 (Rect.unit ![0, 3840] ![1, 1280] inb_S1x8960_S1x1280_0_3840))

/-- Chunk 4 of the hidden row as it is stored. -/
def chunkK4 (v1 : Vec F S1x384 .f32) (x0 : Vec F S1x384x1536 .fp8e4m3) (x5 : Vec F S1536x8960 .fp8e4m3) (x6 x7 : Vec F S1x8960 .f32) : FVec F S384x1280 .f32 :=
  k0_pay23 (k0_pay20 (k0_pay2 v1) (k0_pay3 x0) (View.ld (Val := Elt F) x5 (Rect.unit ![0, 5120] ![1536, 1280] inb_S1536x8960_S1536x1280_0_5120)) (View.ld (Val := Elt F) x6 (Rect.unit ![0, 5120] ![1, 1280] inb_S1x8960_S1x1280_0_5120)) (View.ld (Val := Elt F) x7 (Rect.unit ![0, 5120] ![1, 1280] inb_S1x8960_S1x1280_0_5120))) (k0_pay21 (k0_pay2 v1) (k0_pay3 x0) (View.ld (Val := Elt F) x5 (Rect.unit ![0, 5120] ![1536, 1280] inb_S1536x8960_S1536x1280_0_5120)) (View.ld (Val := Elt F) x6 (Rect.unit ![0, 5120] ![1, 1280] inb_S1x8960_S1x1280_0_5120)) (View.ld (Val := Elt F) x7 (Rect.unit ![0, 5120] ![1, 1280] inb_S1x8960_S1x1280_0_5120)))

/-- Chunk 5 of the hidden row as it is stored. -/
def chunkK5 (v1 : Vec F S1x384 .f32) (x0 : Vec F S1x384x1536 .fp8e4m3) (x5 : Vec F S1536x8960 .fp8e4m3) (x6 x7 : Vec F S1x8960 .f32) : FVec F S384x1280 .f32 :=
  k0_pay28 (k0_pay25 (k0_pay2 v1) (k0_pay3 x0) (View.ld (Val := Elt F) x5 (Rect.unit ![0, 6400] ![1536, 1280] inb_S1536x8960_S1536x1280_0_6400)) (View.ld (Val := Elt F) x6 (Rect.unit ![0, 6400] ![1, 1280] inb_S1x8960_S1x1280_0_6400))) (k0_pay26 (View.ld (Val := Elt F) x7 (Rect.unit ![0, 6400] ![1, 1280] inb_S1x8960_S1x1280_0_6400))) (FloatOps.ofBits FTy.f32 0x3F000000#32)

/-- Chunk 6 of the hidden row as it is stored. -/
def chunkK6 (v1 : Vec F S1x384 .f32) (x0 : Vec F S1x384x1536 .fp8e4m3) (x5 : Vec F S1536x8960 .fp8e4m3) (x6 x7 : Vec F S1x8960 .f32) : FVec F S384x1280 .f32 :=
  k0_pay32 (k0_pay30 (k0_pay2 v1) (k0_pay3 x0) (View.ld (Val := Elt F) x5 (Rect.unit ![0, 7680] ![1536, 1280] inb_S1536x8960_S1536x1280_0_7680))) (View.ld (Val := Elt F) x6 (Rect.unit ![0, 7680] ![1, 1280] inb_S1x8960_S1x1280_0_7680)) (View.ld (Val := Elt F) x7 (Rect.unit ![0, 7680] ![1, 1280] inb_S1x8960_S1x1280_0_7680))

/-- The result block of one sample. -/
def outK (v1 : Vec F S1x384 .f32) (x0 : Vec F S1x384x1536 .fp8e4m3) (x5 : Vec F S1536x8960 .fp8e4m3) (x6 x7 : Vec F S1x8960 .f32)
    (x2 : Vec F S1x384x1536 .f32) (x3 : Vec F S1x6x1536 .f32) (x4 : Vec F S6x1536 .f32) (x8 : Vec F S8960x1536 .fp8e4m3) (x9 x10 : Vec F S1x1536 .f32) :
    FVec F S1x384x1536 .bf16 :=
  k0_pay1 (k0_pay55 (View.ld (Val := Elt F) x4 (Rect.unit ![5, 0] ![1, 1536] inb_S6x1536_S1x1536_5_0)) (View.ld (Val := Elt F) x3 (Rect.unit ![0, 5, 0] ![1, 1, 1536] inb_S1x6x1536_S1x1x1536_0_5_0))) (k0_pay56 x2)
    (k0_pay57 (scaleK v1 x0 x5 x6 x7) (k0_pay49 (scaleK v1 x0 x5 x6 x7) (k0_pay42 (scaleK v1 x0 x5 x6 x7) (k0_pay36 (lastK v1 x0 x5 x6 x7) (maxK v1 x0 x5 x6 x7) (chunkK0 v1 x0 x5 x6 x7)) k0_pay37 (View.ld (Val := Elt F) x8 (Rect.unit ![0, 0] ![1280, 1536] inb_S8960x1536_S1280x1536_0_0)) (chunkK1 v1 x0 x5 x6 x7) (View.ld (Val := Elt F) x8 (Rect.unit ![1280, 0] ![1280, 1536] inb_S8960x1536_S1280x1536_1280_0)))
        (k0_pay43 (scaleK v1 x0 x5 x6 x7) (chunkK2 v1 x0 x5 x6 x7)) (View.ld (Val := Elt F) x8 (Rect.unit ![2560, 0] ![1280, 1536] inb_S8960x1536_S1280x1536_2560_0)) (chunkK3 v1 x0 x5 x6 x7) (View.ld (Val := Elt F) x8 (Rect.unit ![3840, 0] ![1280, 1536] inb_S8960x1536_S1280x1536_3840_0)) (chunkK4 v1 x0 x5 x6 x7) (View.ld (Val := Elt F) x8 (Rect.unit ![5120, 0] ![1280, 1536] inb_S8960x1536_S1280x1536_5120_0)))
      (k0_pay50 (scaleK v1 x0 x5 x6 x7) (chunkK5 v1 x0 x5 x6 x7)) (FloatOps.ofBits FTy.f32 0xC3E00000#32) (View.ld (Val := Elt F) x8 (Rect.unit ![6400, 0] ![1280, 1536] inb_S8960x1536_S1280x1536_6400_0)) (chunkK6 v1 x0 x5 x6 x7) (View.ld (Val := Elt F) x8 (Rect.unit ![7680, 0] ![1280, 1536] inb_S8960x1536_S1280x1536_7680_0))) x9 x10

end Cert.FfnIdeal.Hand

end
-- ==== Proof.FfnBody.lean ====
/- One run of the kernel's body: what it leaves in each of its three output blocks. -/
module

public import proofs.«01_k».proof.Proof.Gen.FfnIdeal.Frame
public import proofs.«01_k».proof.Proof.FfnTerms
public import Idealize.ShloMosaic.Lib.Pipeline.ValueKit
public import Idealize.ShloMosaic.Lib.Pipeline.ReadBack

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body runs from any scratch and any output blocks, leaves its inputs alone, and leaves in the outputs what the named terms say. -/
theorem kernelRun0_A (c : Dev nD) (i : grid0.Coords) (arg1 : Memref sig .tc .vmem S1x384x1536 .fp8e4m3) (harg1 : arg1.IsWhole) (arg2 : Memref sig .tc .vmem S5x384 .f32) (harg2 : arg2.IsWhole) (arg3 : Memref sig .tc .vmem S1x384x1536 .f32) (harg3 : arg3.IsWhole) (arg4 : Memref sig .tc .vmem S1x6x1536 .f32) (harg4 : arg4.IsWhole) (arg5 : Memref sig .tc .vmem S6x1536 .f32) (harg5 : arg5.IsWhole) (arg6 : Memref sig .tc .vmem S1536x8960 .fp8e4m3) (harg6 : arg6.IsWhole) (arg7 : Memref sig .tc .vmem S1x8960 .f32) (harg7 : arg7.IsWhole) (arg8 : Memref sig .tc .vmem S1x8960 .f32) (harg8 : arg8.IsWhole) (arg9 : Memref sig .tc .vmem S8960x1536 .fp8e4m3) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1x384x1536 .bf16) (harg12 : arg12.IsWhole) (arg13 : Memref sig .tc .vmem S1x384x8960 .fp8e4m3) (harg13 : arg13.IsWhole) (arg14 : Memref sig .tc .vmem S5x384 .f32) (harg14 : arg14.IsWhole) (arg15 : Memref sig .tc .vmem S384x8960 .f32) (harg15 : arg15.IsWhole)
    (x0 : Vec F S1x384x1536 .fp8e4m3) (x1 : Vec F S5x384 .f32) (x2 : Vec F S1x384x1536 .f32) (x3 : Vec F S1x6x1536 .f32) (x4 : Vec F S6x1536 .f32) (x5 : Vec F S1536x8960 .fp8e4m3) (x6 : Vec F S1x8960 .f32) (x7 : Vec F S1x8960 .f32) (x8 : Vec F S8960x1536 .fp8e4m3) (x9 : Vec F S1x1536 .f32) (x10 : Vec F S1x1536 .f32) (y : Vec F S5x384 .f32) (Q11 : Vec F S1x384x1536 .bf16 → Prop) (Q12 : Vec F S1x384x8960 .fp8e4m3 → Prop) (Q13 : Vec F S5x384 .f32 → Prop)
    (h11 : ∀ f, Q11 (View.read (Elt F) arg12.view (arg12.view.writes (Elt F) f [⟨Rect.unit ![0, 0, 0] ![1, 384, 1536] inb_S1x384x1536_S1x384x1536_0_0_0, outK (View.ld (Val := Elt F) x1 (Rect.unit (s := S5x384) (k0_off1 i) ![1, 384] (k0_off1_inb i))) x0 x5 x6 x7 x2 x3 x4 x8 x9 x10⟩])))
    (h12 : ∀ f, Q12 (View.read (Elt F) arg13.view (arg13.view.writes (Elt F) f [⟨Rect.unit ![0, 0, 7680] ![1, 384, 1280] inb_S1x384x8960_S1x384x1280_0_0_7680, k0_pay54 (scaleK (View.ld (Val := Elt F) x1 (Rect.unit (s := S5x384) (k0_off1 i) ![1, 384] (k0_off1_inb i))) x0 x5 x6 x7) (chunkK6 (View.ld (Val := Elt F) x1 (Rect.unit (s := S5x384) (k0_off1 i) ![1, 384] (k0_off1_inb i))) x0 x5 x6 x7)⟩,
        ⟨Rect.unit ![0, 0, 6400] ![1, 384, 1280] inb_S1x384x8960_S1x384x1280_0_0_6400, k0_pay52 (k0_pay50 (scaleK (View.ld (Val := Elt F) x1 (Rect.unit (s := S5x384) (k0_off1 i) ![1, 384] (k0_off1_inb i))) x0 x5 x6 x7) (chunkK5 (View.ld (Val := Elt F) x1 (Rect.unit (s := S5x384) (k0_off1 i) ![1, 384] (k0_off1_inb i))) x0 x5 x6 x7)) (FloatOps.ofBits FTy.f32 0xC3E00000#32)⟩,
        ⟨Rect.unit ![0, 0, 5120] ![1, 384, 1280] inb_S1x384x8960_S1x384x1280_0_0_5120, k0_pay48 (scaleK (View.ld (Val := Elt F) x1 (Rect.unit (s := S5x384) (k0_off1 i) ![1, 384] (k0_off1_inb i))) x0 x5 x6 x7) (chunkK4 (View.ld (Val := Elt F) x1 (Rect.unit (s := S5x384) (k0_off1 i) ![1, 384] (k0_off1_inb i))) x0 x5 x6 x7)⟩,
        ⟨Rect.unit ![0, 0, 3840] ![1, 384, 1280] inb_S1x384x8960_S1x384x1280_0_0_3840, k0_pay46 (scaleK (View.ld (Val := Elt F) x1 (Rect.unit (s := S5x384) (k0_off1 i) ![1, 384] (k0_off1_inb i))) x0 x5 x6 x7) (chunkK3 (View.ld (Val := Elt F) x1 (Rect.unit (s := S5x384) (k0_off1 i) ![1, 384] (k0_off1_inb i))) x0 x5 x6 x7)⟩,
        ⟨Rect.unit ![0, 0, 2560] ![1, 384, 1280] inb_S1x384x8960_S1x384x1280_0_0_2560, k0_pay44 (scaleK (View.ld (Val := Elt F) x1 (Rect.unit (s := S5x384) (k0_off1 i) ![1, 384] (k0_off1_inb i))) x0 x5 x6 x7) (chunkK2 (View.ld (Val := Elt F) x1 (Rect.unit (s := S5x384) (k0_off1 i) ![1, 384] (k0_off1_inb i))) x0 x5 x6 x7)⟩,
        ⟨Rect.unit ![0, 0, 1280] ![1, 384, 1280] inb_S1x384x8960_S1x384x1280_0_0_1280, k0_pay41 (scaleK (View.ld (Val := Elt F) x1 (Rect.unit (s := S5x384) (k0_off1 i) ![1, 384] (k0_off1_inb i))) x0 x5 x6 x7) (chunkK1 (View.ld (Val := Elt F) x1 (Rect.unit (s := S5x384) (k0_off1 i) ![1, 384] (k0_off1_inb i))) x0 x5 x6 x7)⟩,
        ⟨Rect.unit ![0, 0, 0] ![1, 384, 1280] inb_S1x384x8960_S1x384x1280_0_0_0, k0_pay39 (k0_pay36 (lastK (View.ld (Val := Elt F) x1 (Rect.unit (s := S5x384) (k0_off1 i) ![1, 384] (k0_off1_inb i))) x0 x5 x6 x7) (maxK (View.ld (Val := Elt F) x1 (Rect.unit (s := S5x384) (k0_off1 i) ![1, 384] (k0_off1_inb i))) x0 x5 x6 x7) (chunkK0 (View.ld (Val := Elt F) x1 (Rect.unit (s := S5x384) (k0_off1 i) ![1, 384] (k0_off1_inb i))) x0 x5 x6 x7)) k0_pay37⟩])))
    (h13 : Q13 (View.read (Elt F) arg14.view (arg14.view.writes (Elt F) (harg14.unread y) [⟨Rect.unit (k0_off1 i) ![1, 384] (k0_off1_inb i), k0_pay35 (lastK (View.ld (Val := Elt F) x1 (Rect.unit (s := S5x384) (k0_off1 i) ![1, 384] (k0_off1_inb i))) x0 x5 x6 x7) (maxK (View.ld (Val := Elt F) x1 (Rect.unit (s := S5x384) (k0_off1 i) ![1, 384] (k0_off1_inb i))) x0 x5 x6 x7)⟩]))) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ owns (c : Thread nD τ) arg14 fullShare y ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, ⌜Q11 d⌝ ∗ owns (c : Thread nD τ) arg12 fullShare d) ∗ (∃ d, ⌜Q12 d⌝ ∗ owns (c : Thread nD τ) arg13 fullShare d) ∗ (∃ d, ⌜Q13 d⌝ ∗ owns (c : Thread nD τ) arg14 fullShare d) ∗ (∃ d, owns (c : Thread nD τ) arg15 fullShare d)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg14.eq_unread hf13
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; swap
      · iexists _; isplitr; swap; · iexact H11
        ipureintro; rfl
      ipureintro
      frame_open
      simp (disch := decide) only [↓ View.readCov_skip, ↓ View.readCov_cons_toLoadRect, ↓ View.readCov_fill]
      simp (disch := decide) only [View.read_writes_junk_eq_canon, View.canon_cons_unit_lit', View.ld_unit_lit', View.readCov_unit_lit', View.readCov_cons_unit_lit', View.readAt_eq_ld, Memref.IsWhole.read_unread]
      exact h11 _
    isplitl [H12]
    · iexists _; isplitr; swap
      · iexists _; isplitr; swap; · iexact H12
        ipureintro; rfl
      ipureintro
      frame_open
      simp (disch := decide) only [↓ View.readCov_skip, ↓ View.readCov_cons_toLoadRect, ↓ View.readCov_fill]
      simp (disch := decide) only [View.read_writes_junk_eq_canon, View.canon_cons_unit_lit', View.ld_unit_lit', View.readCov_unit_lit', View.readCov_cons_unit_lit', View.readAt_eq_ld, Memref.IsWhole.read_unread]
      exact h12 _
    isplitl [H13]
    · iexists _; isplitr; swap
      · iexists _; isplitr; swap; · iexact H13
        ipureintro; rfl
      ipureintro
      frame_open
      simp (disch := decide) only [↓ View.readCov_skip, ↓ View.readCov_cons_toLoadRect, ↓ View.readCov_fill]
      simp (disch := decide) only [View.read_writes_junk_eq_canon, View.canon_cons_unit_lit', View.ld_unit_lit', View.readCov_unit_lit', View.readCov_cons_unit_lit', View.readAt_eq_ld, Memref.IsWhole.read_unread]
      exact h13
    iexists _, _; isplitr; swap; · iexact HS0
    ipureintro; rfl

end Cert.FfnIdeal.Hand

end
-- ==== Proof.FfnSpec.lean ====
/- The feed-forward step as functions of extended reals, and the identities between the form the kernel
   computes and the form the reference states: the halved pre-activation, the running maximum over lanes,
   the products taken in seven pieces, the diagonal that turns a row into a column and back. -/
module

public import Idealize.ShloMosaic.Lib.Pointwise

@[expose] public section

noncomputable section

namespace Cert.FfnSpec

open Idealize.ShloMosaic

/-- The factor √(2/π) of the tanh form of GELU. -/
def C : ℝ := Real.sqrt (2 * Real.pi⁻¹)

/-- The cubic coefficient of the tanh form of GELU. -/
def K : ℝ := 8943 / 200000

/-- The constant 0.5 as both programs spell it. -/
def half : EReal := Ideal.ofBits .f32 0x3F000000#32

/-- Its value. -/
theorem half_eq : half = ((1 / 2 : ℝ) : EReal) := by
  simp [half, Ideal.ofBits, Ideal.ieee, -EReal.coe_mul]; norm_num

/-- The pattern of minus infinity. -/
theorem ofBits_bot : Ideal.ofBits .f32 0xFF800000#32 = (⊥ : EReal) := by
  simp [Ideal.ofBits, Ideal.ieee]

/-- GELU with the product distributed, as the reference states it. -/
def gelu (h : EReal) : EReal :=
  half * (h + h * Ideal.tanh ((C : EReal) * (h + (K : EReal) * h * h * h)))

/-- GELU of twice the argument, as the kernel computes it from the halved pre-activation. -/
def geluHalf (u : EReal) : EReal :=
  u + u * Ideal.tanh (u * (((2 * C : ℝ) : EReal) + ((8 * K * C : ℝ) : EReal) * (u * u)))

/-- One half distributes over every sum. -/
theorem half_mul_add (a b : EReal) : half * (a + b) = half * a + half * b := by
  rw [half_eq]
  exact EReal.left_distrib_of_nonneg_of_ne_top (by exact_mod_cast (by norm_num : (0 : ℝ) ≤ 1 / 2)) (EReal.coe_ne_top _) a b

/-- Halving both terms of the affine map halves its value. -/
theorem half_affine (x s b : EReal) : x * (half * s) + half * b = half * (x * s + b) := by
  rw [half_mul_add, ← mul_assoc, mul_comm x half, mul_assoc]

theorem C_pos : 0 < C := Real.sqrt_pos.mpr (by positivity)

theorem coe_pos_mul_top {r : ℝ} (h : 0 < r) : (r : EReal) * ⊤ = ⊤ := EReal.coe_mul_top_of_pos h
theorem coe_pos_mul_bot {r : ℝ} (h : 0 < r) : (r : EReal) * ⊥ = ⊥ := EReal.coe_mul_bot_of_pos h

/-- The two forms of GELU agree, at infinite arguments too. -/
theorem geluHalf_half (h : EReal) : geluHalf (half * h) = gelu h := by
  have hK : (0 : ℝ) < K := by unfold K; norm_num
  have hC := C_pos
  have h2C : (0 : ℝ) < 2 * C := by positivity
  have h8 : (0 : ℝ) < 8 * K * C := by positivity
  have hh : (0 : ℝ) < 1 / 2 := by norm_num
  unfold geluHalf gelu
  rw [half_eq]
  induction h with
  | bot =>
    rw [coe_pos_mul_bot hh, EReal.bot_mul_bot, coe_pos_mul_top h8, EReal.coe_add_top, EReal.bot_mul_top,
      coe_pos_mul_bot hK, EReal.bot_mul_bot, EReal.top_mul_bot, EReal.bot_add, EReal.bot_add,
      coe_pos_mul_bot hh]
  | top =>
    have ht : Ideal.tanh ⊤ = 1 := rfl
    rw [coe_pos_mul_top hh, EReal.top_mul_top, coe_pos_mul_top h8, EReal.coe_add_top, EReal.top_mul_top,
      coe_pos_mul_top hK, EReal.top_mul_top, EReal.top_mul_top, EReal.top_add_top, coe_pos_mul_top hC, ht, mul_one,
      EReal.top_add_top, coe_pos_mul_top hh]
  | coe r =>
    have e : ((1 / 2 : ℝ) : EReal) * r * (((2 * C : ℝ) : EReal) + ((8 * K * C : ℝ) : EReal) * (((1 / 2 : ℝ) : EReal) * r * (((1 / 2 : ℝ) : EReal) * r)))
        = (C : EReal) * (r + (K : EReal) * r * r * r) := by
      simp only [← EReal.coe_mul, ← EReal.coe_add]
      congr 1
      ring
    rw [e, mul_assoc, ← half_eq, ← half_mul_add]

/-- The absolute value. -/
def ab (x : EReal) : EReal := max x (-x)

/-- The largest absolute value of a row. -/
def amax {n : ℕ} (g : Fin n → EReal) : EReal :=
  Finset.fold max (Ideal.ofBits .f32 0xFF800000#32) (fun k => ab (g k)) Finset.univ

/-- The scale of a row from its largest absolute value. -/
def scaleOf (a : EReal) : EReal :=
  if 0 < a then Ideal.div a (Ideal.ofBits .f32 0x43E00000#32) else 1

/-- The code of one value at its row's scale. -/
def codeOf (x s : EReal) : EReal :=
  min (Ideal.ofBits .f32 0x43E00000#32) (max (Ideal.ofBits .f32 0xC3E00000#32) (Ideal.div x s))

/-- One value of the hidden row `codes`, `xs`. -/
def hidden (codes : Fin 1536 → EReal) (xs : EReal) (w1 : Fin 1536 → Fin 8960 → EReal) (s1 b1 : Fin 8960 → EReal)
    (n : Fin 8960) : EReal :=
  gelu ((∑ k, codes k * w1 k n) * xs * s1 n + b1 n)

/-- The scale of a row of values. -/
def rowScale {n : ℕ} (h : Fin n → EReal) : EReal := scaleOf (amax h)

/-- One value of the step's result from its hidden row `h`. -/
def result (h : Fin 8960 → EReal) (w2 : Fin 8960 → Fin 1536 → EReal) (s2 b2 r gate : Fin 1536 → EReal)
    (j : Fin 1536) : EReal :=
  r j + gate j * ((∑ n, codeOf (h n) (rowScale h) * w2 n j) * rowScale h * s2 j + b2 j)

/-! ## The running maximum -/

/-- Ten slices of 128 lanes of `g` taken into the running maximum `a` at lane `l`. -/
def fold10 (a : EReal) (g : Fin 1280 → EReal) (l : Fin 128) : EReal :=
  max (max (max (max (max (max (max (max (max (max a (ab (g ⟨l, by omega⟩))) (ab (g ⟨128 + l, by omega⟩)))
    (ab (g ⟨256 + l, by omega⟩))) (ab (g ⟨384 + l, by omega⟩))) (ab (g ⟨512 + l, by omega⟩)))
    (ab (g ⟨640 + l, by omega⟩))) (ab (g ⟨768 + l, by omega⟩))) (ab (g ⟨896 + l, by omega⟩)))
    (ab (g ⟨1024 + l, by omega⟩))) (ab (g ⟨1152 + l, by omega⟩))

/-- The same for the first ten slices, where nothing ran before. -/
def fold10First (g : Fin 1280 → EReal) (l : Fin 128) : EReal :=
  max (max (max (max (max (max (max (max (max (ab (g ⟨l, by omega⟩)) (ab (g ⟨128 + l, by omega⟩)))
    (ab (g ⟨256 + l, by omega⟩))) (ab (g ⟨384 + l, by omega⟩))) (ab (g ⟨512 + l, by omega⟩)))
    (ab (g ⟨640 + l, by omega⟩))) (ab (g ⟨768 + l, by omega⟩))) (ab (g ⟨896 + l, by omega⟩)))
    (ab (g ⟨1024 + l, by omega⟩))) (ab (g ⟨1152 + l, by omega⟩))

/-- Ten slices are below a bound exactly when all their values are. -/
theorem fold10First_le (g : Fin 1280 → EReal) (c : EReal) :
    (∀ l, fold10First g l ≤ c) ↔ ∀ n, ab (g n) ≤ c := by
  simp only [fold10First, max_le_iff]
  refine ⟨fun h n => ?_, fun h l => ?_⟩
  · have hl := h ⟨(n : ℕ) % 128, Nat.mod_lt _ (by norm_num)⟩
    obtain ⟨⟨⟨⟨⟨⟨⟨⟨⟨h0, h1⟩, h2⟩, h3⟩, h4⟩, h5⟩, h6⟩, h7⟩, h8⟩, h9⟩ := hl
    have key : ∀ (o : ℕ) (ho : o + (n : ℕ) % 128 < 1280), (n : ℕ) = o + (n : ℕ) % 128 →
        ab (g ⟨o + (n : ℕ) % 128, ho⟩) ≤ c → ab (g n) ≤ c := by
      intro o ho e hle
      have en : n = ⟨o + (n : ℕ) % 128, ho⟩ := Fin.ext e
      rw [en]; exact hle
    have hn := n.isLt
    have hd : (n : ℕ) / 128 < 10 := by omega
    rcases (by omega : (n : ℕ) / 128 = 0 ∨ (n : ℕ) / 128 = 1 ∨ (n : ℕ) / 128 = 2 ∨ (n : ℕ) / 128 = 3 ∨ (n : ℕ) / 128 = 4
      ∨ (n : ℕ) / 128 = 5 ∨ (n : ℕ) / 128 = 6 ∨ (n : ℕ) / 128 = 7 ∨ (n : ℕ) / 128 = 8 ∨ (n : ℕ) / 128 = 9)
      with hq | hq | hq | hq | hq | hq | hq | hq | hq | hq
    · have en : n = ⟨(n : ℕ) % 128, by omega⟩ := Fin.ext (by simp; omega)
      rw [en]; exact h0
    · exact key 128 (by omega) (by omega) h1
    · exact key 256 (by omega) (by omega) h2
    · exact key 384 (by omega) (by omega) h3
    · exact key 512 (by omega) (by omega) h4
    · exact key 640 (by omega) (by omega) h5
    · exact key 768 (by omega) (by omega) h6
    · exact key 896 (by omega) (by omega) h7
    · exact key 1024 (by omega) (by omega) h8
    · exact key 1152 (by omega) (by omega) h9
  · exact ⟨⟨⟨⟨⟨⟨⟨⟨⟨h _, h _⟩, h _⟩, h _⟩, h _⟩, h _⟩, h _⟩, h _⟩, h _⟩, h _⟩

/-- Taking ten slices into a running maximum. -/
theorem fold10_eq (a : EReal) (g : Fin 1280 → EReal) (l : Fin 128) : fold10 a g l = max a (fold10First g l) := by
  simp only [fold10, fold10First, max_assoc]

/-- The whole running maximum over seven chunks at lane `l`. -/
def fold70 (g0 g1 g2 g3 g4 g5 g6 : Fin 1280 → EReal) (l : Fin 128) : EReal :=
  fold10 (fold10 (fold10 (fold10 (fold10 (fold10 (fold10First g0 l) g1 l) g2 l) g3 l) g4 l) g5 l) g6 l

/-- The maximum over the lanes of the running maximum is the largest absolute value of the whole row. -/
theorem amax_chunks (h : Fin 8960 → EReal) :
    Finset.fold max (Ideal.ofBits .f32 0xFF800000#32)
        (fun l => fold70 (fun n => h ⟨n, by omega⟩) (fun n => h ⟨1280 + n, by omega⟩) (fun n => h ⟨2560 + n, by omega⟩)
          (fun n => h ⟨3840 + n, by omega⟩) (fun n => h ⟨5120 + n, by omega⟩) (fun n => h ⟨6400 + n, by omega⟩)
          (fun n => h ⟨7680 + n, by omega⟩) l) Finset.univ = amax h := by
  unfold amax
  rw [ofBits_bot]
  refine eq_of_forall_ge_iff fun c => ?_
  rw [Finset.fold_max_le, Finset.fold_max_le]
  simp only [bot_le, true_and, Finset.mem_univ, forall_true_left, fold70, fold10_eq, max_le_iff, forall_and]
  rw [fold10First_le, fold10First_le, fold10First_le, fold10First_le, fold10First_le, fold10First_le, fold10First_le]
  refine ⟨fun hc n => ?_, fun hc => ⟨⟨⟨⟨⟨⟨fun _ => hc _, fun _ => hc _⟩, fun _ => hc _⟩, fun _ => hc _⟩, fun _ => hc _⟩, fun _ => hc _⟩, fun _ => hc _⟩⟩
  obtain ⟨⟨⟨⟨⟨⟨h0, h1⟩, h2⟩, h3⟩, h4⟩, h5⟩, h6⟩ := hc
  have hn := n.isLt
  have key : ∀ (o : ℕ) (ho : ∀ j : Fin 1280, o + (j : ℕ) < 8960), (n : ℕ) = o + (n : ℕ) % 1280 →
      (∀ j : Fin 1280, ab (h ⟨o + j, ho j⟩) ≤ c) → ab (h n) ≤ c := by
    intro o ho e hle
    have hj := hle ⟨(n : ℕ) % 1280, Nat.mod_lt _ (by norm_num)⟩
    have en : n = ⟨o + (n : ℕ) % 1280, ho ⟨(n : ℕ) % 1280, Nat.mod_lt _ (by norm_num)⟩⟩ := Fin.ext e
    rw [en]; exact hj
  rcases (by omega : (n : ℕ) / 1280 = 0 ∨ (n : ℕ) / 1280 = 1 ∨ (n : ℕ) / 1280 = 2 ∨ (n : ℕ) / 1280 = 3 ∨ (n : ℕ) / 1280 = 4
    ∨ (n : ℕ) / 1280 = 5 ∨ (n : ℕ) / 1280 = 6) with hq | hq | hq | hq | hq | hq | hq
  · have en : n = ⟨(n : ℕ) % 1280, by omega⟩ := Fin.ext (by show (n : ℕ) = (n : ℕ) % 1280; omega)
    rw [en]; exact h0 ⟨(n : ℕ) % 1280, Nat.mod_lt _ (by norm_num)⟩
  · exact key 1280 (fun j => by omega) (by omega) h1
  · exact key 2560 (fun j => by omega) (by omega) h2
  · exact key 3840 (fun j => by omega) (by omega) h3
  · exact key 5120 (fun j => by omega) (by omega) h4
  · exact key 6400 (fun j => by omega) (by omega) h5
  · exact key 7680 (fun j => by omega) (by omega) h6

/-! ## The product in seven pieces -/

/-- A sum over `m * n` positions is the sum over `m` pieces of `n`. -/
theorem sum_pieces (m n : ℕ) (f : Fin (m * n) → EReal) :
    ∑ k, f k = ∑ c : Fin m, ∑ j : Fin n, f (finProdFinEquiv (c, j)) := by
  rw [← Equiv.sum_comp finProdFinEquiv f, Fintype.sum_prod_type]

/-- A sum over the hidden row is the sum of its seven pieces, in the kernel's order. -/
theorem sum_chunks (f : Fin 8960 → EReal) :
    ∑ n, f n = (∑ j : Fin 1280, f ⟨j, by omega⟩) + (∑ j : Fin 1280, f ⟨1280 + j, by omega⟩)
      + (∑ j : Fin 1280, f ⟨2560 + j, by omega⟩) + (∑ j : Fin 1280, f ⟨3840 + j, by omega⟩)
      + (∑ j : Fin 1280, f ⟨5120 + j, by omega⟩) + (∑ j : Fin 1280, f ⟨6400 + j, by omega⟩)
      + (∑ j : Fin 1280, f ⟨7680 + j, by omega⟩) := by
  have e := sum_pieces 7 1280 f
  rw [Fin.sum_univ_seven] at e
  have key : ∀ (q : Fin 7) (o : ℕ) (ho : ∀ j : Fin 1280, o + (j : ℕ) < 8960), 1280 * (q : ℕ) = o →
      ∑ j : Fin 1280, f (finProdFinEquiv (q, j)) = ∑ j : Fin 1280, f ⟨o + j, ho j⟩ := by
    intro q o ho e
    refine Finset.sum_congr rfl fun j _ => congrArg f (Fin.ext ?_)
    rw [finProdFinEquiv_apply_val]
    show (j : ℕ) + 1280 * (q : ℕ) = o + (j : ℕ)
    rw [e, Nat.add_comm]
  have key0 : ∑ j : Fin 1280, f (finProdFinEquiv ((0 : Fin 7), j)) = ∑ j : Fin 1280, f ⟨j, by omega⟩ := by
    refine Finset.sum_congr rfl fun j _ => congrArg f (Fin.ext ?_)
    rw [finProdFinEquiv_apply_val]
    simp
  rw [key0, key 1 1280 (fun j => by omega) rfl, key 2 2560 (fun j => by omega) rfl, key 3 3840 (fun j => by omega) rfl,
    key 4 5120 (fun j => by omega) rfl, key 5 6400 (fun j => by omega) rfl, key 6 7680 (fun j => by omega) rfl] at e
  exact e

/-! ## The diagonal -/

/-- Two lane numbers below 128 as words are equal exactly when they are. -/
theorem lane_eq (a b : ℕ) (ha : a < 128) (hb : b < 128) : (BitVec.ofNat 32 a = BitVec.ofNat 32 b) ↔ a = b := by
  constructor
  · intro h
    have := congrArg BitVec.toNat h
    simp only [BitVec.toNat_ofNat] at this
    omega
  · rintro rfl; rfl

/-- The sum along a row of the diagonal is its entry. -/
theorem diag_row (f : Fin 128 → EReal) (i : ℕ) (hi : i < 128) :
    ∑ x : Fin 128, Scalar.select (IntOp.cmpi .eq (BitVec.ofNat 32 i) (BitVec.ofNat 32 (x : ℕ))) (f x) 0 = f ⟨i, hi⟩ := by
  rw [Finset.sum_eq_single (⟨i, hi⟩ : Fin 128)]
  · simp [Scalar.select, IntOp.cmpi]
  · intro x _ hx
    have hne : ¬ (BitVec.ofNat 32 i = BitVec.ofNat 32 (x : ℕ)) := fun h =>
      hx (Fin.ext ((lane_eq i x hi x.isLt).mp h).symm)
    simp [Scalar.select, IntOp.cmpi, beq_eq_false_iff_ne.mpr hne]
  · intro h; exact absurd (Finset.mem_univ _) h

/-- The sum down a column of the diagonal is its entry. -/
theorem diag_col (f : Fin 128 → EReal) (i : ℕ) (hi : i < 128) :
    ∑ x : Fin 128, Scalar.select (IntOp.cmpi .eq (BitVec.ofNat 32 (x : ℕ)) (BitVec.ofNat 32 i)) (f x) 0 = f ⟨i, hi⟩ := by
  rw [Finset.sum_eq_single (⟨i, hi⟩ : Fin 128)]
  · simp [Scalar.select, IntOp.cmpi]
  · intro x _ hx
    have hne : ¬ (BitVec.ofNat 32 (x : ℕ) = BitVec.ofNat 32 i) := fun h =>
      hx (Fin.ext ((lane_eq x i x.isLt hi).mp h))
    simp [Scalar.select, IntOp.cmpi, beq_eq_false_iff_ne.mpr hne]
  · intro h; exact absurd (Finset.mem_univ _) h

end Cert.FfnSpec

end
-- ==== Proof.FfnCell.lean ====
/- The kernel's values at an index, on the extended reals. -/
module

public import proofs.«01_k».proof.Proof.Gen.FfnIdeal.Skeleton
public import proofs.«01_k».proof.Proof.FfnSpec
public import Idealize.ShloMosaic.Lib.Pointwise

@[expose] public section

set_option maxRecDepth 16384

noncomputable section

namespace Cert.FfnIdeal.Cell

open Cert.FfnIdeal Cert.FfnIdeal.Gen Cert.FfnSpec
open Idealize.ShloMosaic

/-- The row of scales as a column: the diagonal's sums are its entries. -/
theorem column_apply (v1 : Vec Ideal S1x384 .f32) (i : Fin 384) : k0_pay2 v1 (ix2 i 0) = v1 (ix2 0 i) := by
  pointwise [k0_pay2]
  split_ifs with h h'
  · exact diag_row (fun x => v1 (ix2 0 ⟨x, by omega⟩)) i h
  · refine (diag_row (fun x => v1 (ix2 0 ⟨128 + x, by omega⟩)) (i - 128) h').trans ?_
    exact congrArg (fun k => v1 (ix2 0 k)) (Fin.ext (by show 128 + ((i : ℕ) - 128) = i; omega))
  · refine (diag_row (fun x => v1 (ix2 0 ⟨256 + x, by omega⟩)) (i - 128 - 128) (by omega)).trans ?_
    exact congrArg (fun k => v1 (ix2 0 k)) (Fin.ext (by show 256 + ((i : ℕ) - 128 - 128) = i; omega))

/-- The column of hidden scales as a row. -/
theorem row_apply (v400 : FVec Ideal S384x1280 .f32) (v430 : FVec Ideal S384x128 .f32) (i : Fin 384) :
    k0_pay35 v400 v430 (ix2 0 i) = k0_pay34 v400 v430 (ix2 i 0) := by
  pointwise [k0_pay35]
  split_ifs with h h'
  · exact diag_col (fun x => k0_pay34 v400 v430 (ix2 ⟨x, by omega⟩ 0)) i h
  · refine (diag_col (fun x => k0_pay34 v400 v430 (ix2 ⟨128 + x, by omega⟩ 0)) (i - 128) h').trans ?_
    exact congrArg (fun k => k0_pay34 v400 v430 (ix2 k 0)) (Fin.ext (by show 128 + ((i : ℕ) - 128) = i; omega))
  · refine (diag_col (fun x => k0_pay34 v400 v430 (ix2 ⟨256 + x, by omega⟩ 0)) (i - 128 - 128) (by omega)).trans ?_
    exact congrArg (fun k => k0_pay34 v400 v430 (ix2 k 0)) (Fin.ext (by show 256 + ((i : ℕ) - 128 - 128) = i; omega))

/-- The named constant `gelu_a` is 2√(2/π). -/
theorem gelu_a_eq : (Named.named (F := Ideal) κ "gelu_a" (φ := .f32) 0x3FCC422A#32 : EReal) = ((2 * C : ℝ) : EReal) :=
  IdealRules.named_const.ideal_named_scalar _ _ _ _ rfl

/-- The named constant `gelu_b` is 8·0.044715·√(2/π). -/
theorem gelu_b_eq : (Named.named (F := Ideal) κ "gelu_b" (φ := .f32) 0x3E922279#32 : EReal) = ((8 * K * C : ℝ) : EReal) :=
  IdealRules.named_const.ideal_named_scalar _ _ _ _ rfl

/-- One hidden value of a chunk. -/
theorem chunk_apply (v26 : FVec Ideal S384x1 .f32) (v28 : FVec Ideal S384x1536 .fp8e4m3) (w : Vec Ideal S1536x1280 .fp8e4m3)
    (s b : Vec Ideal S1x1280 .f32) (i : Fin 384) (n : Fin 1280) :
    k0_pay13 v26 v28 w s b (ix2 i n)
      = gelu ((∑ k : Fin 1536, v28 (ix2 i k) * w (ix2 k n)) * v26 (ix2 i 0) * s (ix2 0 n) + b (ix2 0 n)) := by
  pointwise [k0_pay13]
  rw [gelu_a_eq, gelu_b_eq, ← geluHalf_half, ← half_affine]
  rfl

/-- The running maximum after the slices this step takes, at lane `l`. -/
theorem pay8_apply (v38 : FVec Ideal S384x1280 .f32) (v40 : FVec Ideal S1x1280 .f32) (i : Fin 384) (l : Fin 128) :
    k0_pay8 v38 v40 (ix2 i l) = max (max (max (max (max (max (max (max (max (ab (k0_pay6 v38 v40 (ix2 i ⟨l, by omega⟩))) (ab (k0_pay6 v38 v40 (ix2 i ⟨128 + l, by omega⟩)))) (ab (k0_pay6 v38 v40 (ix2 i ⟨256 + l, by omega⟩)))) (ab (k0_pay6 v38 v40 (ix2 i ⟨384 + l, by omega⟩)))) (ab (k0_pay6 v38 v40 (ix2 i ⟨512 + l, by omega⟩)))) (ab (k0_pay6 v38 v40 (ix2 i ⟨640 + l, by omega⟩)))) (ab (k0_pay6 v38 v40 (ix2 i ⟨768 + l, by omega⟩)))) (ab (k0_pay6 v38 v40 (ix2 i ⟨896 + l, by omega⟩)))) (ab (k0_pay6 v38 v40 (ix2 i ⟨1024 + l, by omega⟩)))) (ab (k0_pay6 v38 v40 (ix2 i ⟨1152 + l, by omega⟩))) := by
  pointwise [k0_pay8]
  rfl

/-- The running maximum after the slices this step takes, at lane `l`. -/
theorem pay12_apply (a : FVec Ideal S384x128 .f32) (v89 : FVec Ideal S384x1280 .f32) (v90 v96 : Vec Ideal S1x1280 .f32) (i : Fin 384) (l : Fin 128) :
    k0_pay12 a v89 v90 v96 (ix2 i l) = max (max (max (max (max (max (max (max (max (a (ix2 i l)) (ab (k0_pay10 v89 v90 v96 (ix2 i ⟨l, by omega⟩)))) (ab (k0_pay10 v89 v90 v96 (ix2 i ⟨128 + l, by omega⟩)))) (ab (k0_pay10 v89 v90 v96 (ix2 i ⟨256 + l, by omega⟩)))) (ab (k0_pay10 v89 v90 v96 (ix2 i ⟨384 + l, by omega⟩)))) (ab (k0_pay10 v89 v90 v96 (ix2 i ⟨512 + l, by omega⟩)))) (ab (k0_pay10 v89 v90 v96 (ix2 i ⟨640 + l, by omega⟩)))) (ab (k0_pay10 v89 v90 v96 (ix2 i ⟨768 + l, by omega⟩)))) (ab (k0_pay10 v89 v90 v96 (ix2 i ⟨896 + l, by omega⟩)))) (ab (k0_pay10 v89 v90 v96 (ix2 i ⟨1024 + l, by omega⟩))) := by
  pointwise [k0_pay12]
  rfl

/-- The running maximum after the slices this step takes, at lane `l`. -/
theorem pay15_apply (v26 : FVec Ideal S384x1 .f32) (v28 : FVec Ideal S384x1536 .fp8e4m3) (c : FVec Ideal S384x1280 .f32) (a : FVec Ideal S384x128 .f32) (w : Vec Ideal S1536x1280 .fp8e4m3) (s b : Vec Ideal S1x1280 .f32) (i : Fin 384) (l : Fin 128) :
    k0_pay15 v26 v28 c a w s b (ix2 i l) = max (max (max (max (max (max (a (ix2 i l)) (ab (c (ix2 i ⟨1152 + l, by omega⟩)))) (ab (k0_pay13 v26 v28 w s b (ix2 i ⟨l, by omega⟩)))) (ab (k0_pay13 v26 v28 w s b (ix2 i ⟨128 + l, by omega⟩)))) (ab (k0_pay13 v26 v28 w s b (ix2 i ⟨256 + l, by omega⟩)))) (ab (k0_pay13 v26 v28 w s b (ix2 i ⟨384 + l, by omega⟩)))) (ab (k0_pay13 v26 v28 w s b (ix2 i ⟨512 + l, by omega⟩))) := by
  pointwise [k0_pay15]
  rfl

/-- The running maximum after the slices this step takes, at lane `l`. -/
theorem pay18_apply (v26 : FVec Ideal S384x1 .f32) (v28 : FVec Ideal S384x1536 .fp8e4m3) (c : FVec Ideal S384x1280 .f32) (a : FVec Ideal S384x128 .f32) (w : Vec Ideal S1536x1280 .fp8e4m3) (s b : Vec Ideal S1x1280 .f32) (i : Fin 384) (l : Fin 128) :
    k0_pay18 v26 v28 c a w s b (ix2 i l) = max (max (max (max (max (max (a (ix2 i l)) (ab (c (ix2 i ⟨640 + l, by omega⟩)))) (ab (c (ix2 i ⟨768 + l, by omega⟩)))) (ab (c (ix2 i ⟨896 + l, by omega⟩)))) (ab (c (ix2 i ⟨1024 + l, by omega⟩)))) (ab (c (ix2 i ⟨1152 + l, by omega⟩)))) (ab (k0_pay16 v26 v28 w s b (ix2 i ⟨l, by omega⟩))) := by
  pointwise [k0_pay18]
  rfl

/-- The running maximum after the slices this step takes, at lane `l`. -/
theorem pay19_apply (c : FVec Ideal S384x1280 .f32) (a : FVec Ideal S384x128 .f32) (i : Fin 384) (l : Fin 128) :
    k0_pay19 c a (ix2 i l) = max (max (max (max (max (max (max (max (max (a (ix2 i l)) (ab (c (ix2 i ⟨128 + l, by omega⟩)))) (ab (c (ix2 i ⟨256 + l, by omega⟩)))) (ab (c (ix2 i ⟨384 + l, by omega⟩)))) (ab (c (ix2 i ⟨512 + l, by omega⟩)))) (ab (c (ix2 i ⟨640 + l, by omega⟩)))) (ab (c (ix2 i ⟨768 + l, by omega⟩)))) (ab (c (ix2 i ⟨896 + l, by omega⟩)))) (ab (c (ix2 i ⟨1024 + l, by omega⟩)))) (ab (c (ix2 i ⟨1152 + l, by omega⟩))) := by
  pointwise [k0_pay19]
  rfl

/-- The running maximum after the slices this step takes, at lane `l`. -/
theorem pay24_apply (a : FVec Ideal S384x128 .f32) (p q : FVec Ideal S384x1280 .f32) (i : Fin 384) (l : Fin 128) :
    k0_pay24 a p q (ix2 i l) = max (max (max (max (max (max (max (max (max (max (a (ix2 i l)) (ab (k0_pay22 p q (ix2 i ⟨l, by omega⟩)))) (ab (k0_pay22 p q (ix2 i ⟨128 + l, by omega⟩)))) (ab (k0_pay22 p q (ix2 i ⟨256 + l, by omega⟩)))) (ab (k0_pay22 p q (ix2 i ⟨384 + l, by omega⟩)))) (ab (k0_pay22 p q (ix2 i ⟨512 + l, by omega⟩)))) (ab (k0_pay22 p q (ix2 i ⟨640 + l, by omega⟩)))) (ab (k0_pay22 p q (ix2 i ⟨768 + l, by omega⟩)))) (ab (k0_pay22 p q (ix2 i ⟨896 + l, by omega⟩)))) (ab (k0_pay22 p q (ix2 i ⟨1024 + l, by omega⟩)))) (ab (k0_pay22 p q (ix2 i ⟨1152 + l, by omega⟩))) := by
  pointwise [k0_pay24]
  rfl

/-- The running maximum after the slices this step takes, at lane `l`. -/
theorem pay29_apply (a : FVec Ideal S384x128 .f32) (p : FVec Ideal S384x1280 .f32) (q : FVec Ideal S1x1280 .f32) (r : Ideal .f32) (i : Fin 384) (l : Fin 128) :
    k0_pay29 a p q r (ix2 i l) = max (max (max (max (max (max (max (max (max (max (a (ix2 i l)) (ab (k0_pay27 p q r (ix2 i ⟨l, by omega⟩)))) (ab (k0_pay27 p q r (ix2 i ⟨128 + l, by omega⟩)))) (ab (k0_pay27 p q r (ix2 i ⟨256 + l, by omega⟩)))) (ab (k0_pay27 p q r (ix2 i ⟨384 + l, by omega⟩)))) (ab (k0_pay27 p q r (ix2 i ⟨512 + l, by omega⟩)))) (ab (k0_pay27 p q r (ix2 i ⟨640 + l, by omega⟩)))) (ab (k0_pay27 p q r (ix2 i ⟨768 + l, by omega⟩)))) (ab (k0_pay27 p q r (ix2 i ⟨896 + l, by omega⟩)))) (ab (k0_pay27 p q r (ix2 i ⟨1024 + l, by omega⟩)))) (ab (k0_pay27 p q r (ix2 i ⟨1152 + l, by omega⟩))) := by
  pointwise [k0_pay29]
  rfl

/-- The running maximum after the slices this step takes, at lane `l`. -/
theorem pay33_apply (a : FVec Ideal S384x128 .f32) (p : FVec Ideal S384x1280 .f32) (s b : Vec Ideal S1x1280 .f32) (i : Fin 384) (l : Fin 128) :
    k0_pay33 a p s b (ix2 i l) = max (max (max (max (max (max (max (max (max (a (ix2 i l)) (ab (k0_pay31 p s b (ix2 i ⟨l, by omega⟩)))) (ab (k0_pay31 p s b (ix2 i ⟨128 + l, by omega⟩)))) (ab (k0_pay31 p s b (ix2 i ⟨256 + l, by omega⟩)))) (ab (k0_pay31 p s b (ix2 i ⟨384 + l, by omega⟩)))) (ab (k0_pay31 p s b (ix2 i ⟨512 + l, by omega⟩)))) (ab (k0_pay31 p s b (ix2 i ⟨640 + l, by omega⟩)))) (ab (k0_pay31 p s b (ix2 i ⟨768 + l, by omega⟩)))) (ab (k0_pay31 p s b (ix2 i ⟨896 + l, by omega⟩)))) (ab (k0_pay31 p s b (ix2 i ⟨1024 + l, by omega⟩))) := by
  pointwise [k0_pay33]
  rfl

/-- The scale of a row from the running maximum and the last slice. -/
theorem pay34_apply (c : FVec Ideal S384x1280 .f32) (a : FVec Ideal S384x128 .f32) (i : Fin 384) :
    k0_pay34 c a (ix2 i 0) = scaleOf (Finset.fold max (Ideal.ofBits .f32 0xFF800000#32)
      (fun l : Fin 128 => max (a (ix2 i l)) (ab (c (ix2 i ⟨1152 + l, by omega⟩)))) Finset.univ) := by
  pointwise [k0_pay34]
  rfl

/-- The codes of a chunk. -/
theorem code_apply (s : FVec Ideal S384x1 .f32) (h : Vec Ideal S384x1280 .f32) (i : Fin 384) (n : Fin 1280) :
    k0_pay40 s h (ix2 i n) = codeOf (h (ix2 i n)) (s (ix2 i 0)) := by
  pointwise [k0_pay40]
  rfl

/-- The sum of the first two products. -/
theorem pay42_apply (v441 : FVec Ideal S384x1 .f32) (v473 v474 : FVec Ideal S384x1280 .f32) (v480 : Vec Ideal S1280x1536 .fp8e4m3)
    (v482 : Vec Ideal S384x1280 .f32) (v493 : Vec Ideal S1280x1536 .fp8e4m3) (i : Fin 384) (j : Fin 1536) :
    k0_pay42 v441 v473 v474 v480 v482 v493 (ix2 i j)
      = (∑ n : Fin 1280, k0_pay38 v473 v474 (ix2 i n) * v480 (ix2 n j)) + ∑ n : Fin 1280, k0_pay40 v441 v482 (ix2 i n) * v493 (ix2 n j) := by
  pointwise [k0_pay42]

/-- The next three products added. -/
theorem pay49_apply (v441 : FVec Ideal S384x1 .f32) (v495 : FVec Ideal S384x1536 .f32) (v503 : FVec Ideal S384x1280 .fp8e4m3)
    (v507 : Vec Ideal S1280x1536 .fp8e4m3) (v510 : Vec Ideal S384x1280 .f32) (v521 : Vec Ideal S1280x1536 .fp8e4m3)
    (v524 : Vec Ideal S384x1280 .f32) (v535 : Vec Ideal S1280x1536 .fp8e4m3) (i : Fin 384) (j : Fin 1536) :
    k0_pay49 v441 v495 v503 v507 v510 v521 v524 v535 (ix2 i j)
      = v495 (ix2 i j) + (∑ n : Fin 1280, v503 (ix2 i n) * v507 (ix2 n j))
        + (∑ n : Fin 1280, k0_pay45 v441 v510 (ix2 i n) * v521 (ix2 n j))
        + ∑ n : Fin 1280, k0_pay47 v441 v524 (ix2 i n) * v535 (ix2 n j) := by
  pointwise [k0_pay49]

/-- The last two products added, times the row's scale. -/
theorem pay57_apply (v441 : FVec Ideal S384x1 .f32) (v537 : FVec Ideal S384x1536 .f32) (v540 : FVec Ideal S384x1280 .f32) (cst : Ideal .f32)
    (v549 : Vec Ideal S1280x1536 .fp8e4m3) (v552 : Vec Ideal S384x1280 .f32) (v563 : Vec Ideal S1280x1536 .fp8e4m3)
    (i : Fin 384) (j : Fin 1536) :
    k0_pay57 v441 v537 v540 cst v549 v552 v563 (ix2 i j)
      = (v537 (ix2 i j) + (∑ n : Fin 1280, k0_pay51 v540 cst (ix2 i n) * v549 (ix2 n j))
        + ∑ n : Fin 1280, k0_pay53 v441 v552 (ix2 i n) * v563 (ix2 n j)) * v441 (ix2 i 0) := by
  pointwise [k0_pay57]

/-- The gate row. -/
theorem gate_apply (a : Vec Ideal S1x1536 .f32) (b : Vec Ideal S1x1x1536 .f32) (j : Fin 1536) :
    k0_pay55 a b (ix2 0 j) = a (ix2 0 j) + b (ix3 0 0 j) := by
  pointwise [k0_pay55]

/-- The residual block without its leading axis. -/
theorem resid_apply (r : Vec Ideal S1x384x1536 .f32) (i : Fin 384) (j : Fin 1536) :
    k0_pay56 r (ix2 i j) = r (ix3 0 i j) := by
  pointwise [k0_pay56]

/-- The block of codes without its leading axis. -/
theorem codes_apply (r : Vec Ideal S1x384x1536 .fp8e4m3) (i : Fin 384) (j : Fin 1536) :
    k0_pay3 r (ix2 i j) = r (ix3 0 i j) := by
  pointwise [k0_pay3]

/-- The step's result. -/
theorem out_apply (a : FVec Ideal S1x1536 .f32) (b c : FVec Ideal S384x1536 .f32) (d e : Vec Ideal S1x1536 .f32) (i : Fin 384) (j : Fin 1536) :
    k0_pay1 a b c d e (ix3 0 i j) = b (ix2 i j) + a (ix2 0 j) * (c (ix2 i j) * d (ix2 0 j) + e (ix2 0 j)) := by
  pointwise [k0_pay1]

/-! ## The seven chunks are one function -/

theorem chunk0 (v1 : Vec Ideal S1x384 .f32) (v27 : Vec Ideal S1x384x1536 .fp8e4m3) (w : Vec Ideal S1536x1280 .fp8e4m3) (s b : Vec Ideal S1x1280 .f32) :
    k0_pay6 (k0_pay4 v1 v27 w s) (k0_pay5 b) = k0_pay13 (k0_pay2 v1) (k0_pay3 v27) w s b := rfl

theorem chunk1 (v26 : FVec Ideal S384x1 .f32) (v28 : FVec Ideal S384x1536 .fp8e4m3) (w : Vec Ideal S1536x1280 .fp8e4m3) (s b : Vec Ideal S1x1280 .f32) :
    k0_pay10 (k0_pay9 v26 v28 w) s b = k0_pay13 v26 v28 w s b := rfl

theorem chunk3 (v26 : FVec Ideal S384x1 .f32) (v28 : FVec Ideal S384x1536 .fp8e4m3) (w : Vec Ideal S1536x1280 .fp8e4m3) (s b : Vec Ideal S1x1280 .f32) :
    k0_pay16 v26 v28 w s b = k0_pay13 v26 v28 w s b := rfl

theorem chunk4 (v26 : FVec Ideal S384x1 .f32) (v28 : FVec Ideal S384x1536 .fp8e4m3) (w : Vec Ideal S1536x1280 .fp8e4m3) (s b : Vec Ideal S1x1280 .f32) :
    k0_pay22 (k0_pay20 v26 v28 w s b) (k0_pay21 v26 v28 w s b) = k0_pay13 v26 v28 w s b := rfl

theorem chunk5 (v26 : FVec Ideal S384x1 .f32) (v28 : FVec Ideal S384x1536 .fp8e4m3) (w : Vec Ideal S1536x1280 .fp8e4m3) (s b : Vec Ideal S1x1280 .f32) :
    k0_pay27 (k0_pay25 v26 v28 w s) (k0_pay26 b) (FloatOps.ofBits FTy.f32 0x3F000000#32) = k0_pay13 v26 v28 w s b := rfl

theorem chunk6 (v26 : FVec Ideal S384x1 .f32) (v28 : FVec Ideal S384x1536 .fp8e4m3) (w : Vec Ideal S1536x1280 .fp8e4m3) (s b : Vec Ideal S1x1280 .f32) :
    k0_pay31 (k0_pay30 v26 v28 w) s b = k0_pay13 v26 v28 w s b := rfl

end Cert.FfnIdeal.Cell

end
-- ==== Proof.FfnRow.lean ====
/- The kernel's pieces of one sample put together: the whole hidden row, its scale, its codes and the result. -/
module

public import proofs.«01_k».proof.Proof.FfnCell
public import proofs.«01_k».proof.Proof.FfnTerms
public import Idealize.ShloMosaic.Lib.WritesUnit
public import Idealize.ShloMosaic.Lib.Pipeline.ValueKit

@[expose] public section

set_option maxRecDepth 16384

noncomputable section

namespace Cert.FfnIdeal.Cell

open Cert.FfnIdeal Cert.FfnIdeal.Gen Cert.FfnIdeal.Hand Cert.FfnSpec
open Idealize.ShloMosaic

/-- The running maximum over all seven chunks, at lane `l`. -/
theorem lanes (v1 : Vec Ideal S1x384 .f32) (x0 : Vec Ideal S1x384x1536 .fp8e4m3)
    (w0 w1 w2 w3 w4 w5 w6 : Vec Ideal S1536x1280 .fp8e4m3) (s0 s1 s2 s3 s4 s5 s6 b0 b1 b2 b3 b4 b5 b6 : Vec Ideal S1x1280 .f32)
    (i : Fin 384) (l : Fin 128) :
    max ((k0_pay33 (k0_pay29 (k0_pay24 (k0_pay19 (k0_pay16 (k0_pay2 v1) (k0_pay3 x0) w3 s3 b3) (k0_pay18 (k0_pay2 v1) (k0_pay3 x0) (k0_pay13 (k0_pay2 v1) (k0_pay3 x0) w2 s2 b2) (k0_pay15 (k0_pay2 v1) (k0_pay3 x0) (k0_pay10 (k0_pay9 (k0_pay2 v1) (k0_pay3 x0) w1) s1 b1) (k0_pay12 (k0_pay8 (k0_pay4 v1 x0 w0 s0) (k0_pay5 b0)) (k0_pay9 (k0_pay2 v1) (k0_pay3 x0) w1) s1 b1) w2 s2 b2) w3 s3 b3)) (k0_pay20 (k0_pay2 v1) (k0_pay3 x0) w4 s4 b4) (k0_pay21 (k0_pay2 v1) (k0_pay3 x0) w4 s4 b4)) (k0_pay25 (k0_pay2 v1) (k0_pay3 x0) w5 s5) (k0_pay26 b5) (FloatOps.ofBits FTy.f32 0x3F000000#32)) (k0_pay30 (k0_pay2 v1) (k0_pay3 x0) w6) s6 b6) (ix2 i l)) (ab ((k0_pay31 (k0_pay30 (k0_pay2 v1) (k0_pay3 x0) w6) s6 b6) (ix2 i ⟨1152 + l, by omega⟩)))
      = fold70 (fun n => k0_pay13 (k0_pay2 v1) (k0_pay3 x0) w0 s0 b0 (ix2 i n))
          (fun n => k0_pay13 (k0_pay2 v1) (k0_pay3 x0) w1 s1 b1 (ix2 i n))
          (fun n => k0_pay13 (k0_pay2 v1) (k0_pay3 x0) w2 s2 b2 (ix2 i n))
          (fun n => k0_pay13 (k0_pay2 v1) (k0_pay3 x0) w3 s3 b3 (ix2 i n))
          (fun n => k0_pay13 (k0_pay2 v1) (k0_pay3 x0) w4 s4 b4 (ix2 i n))
          (fun n => k0_pay13 (k0_pay2 v1) (k0_pay3 x0) w5 s5 b5 (ix2 i n))
          (fun n => k0_pay13 (k0_pay2 v1) (k0_pay3 x0) w6 s6 b6 (ix2 i n)) l := by
  simp only [pay33_apply, pay29_apply, pay24_apply, pay19_apply, pay18_apply, pay15_apply, pay12_apply, pay8_apply,
    chunk0, chunk1, chunk3, chunk4, chunk5, chunk6]
  rfl

/-- One sample's hidden row from its codes, its row of scales and the weights. -/
def hid (v1 : Vec Ideal S1x384 .f32) (x0 : Vec Ideal S1x384x1536 .fp8e4m3) (x5 : Vec Ideal S1536x8960 .fp8e4m3)
    (x6 x7 : Vec Ideal S1x8960 .f32) (i : Fin 384) : Fin 8960 → EReal :=
  hidden (fun k => x0 (ix3 0 i k)) (v1 (ix2 0 i)) (fun k n => x5 (ix2 k n)) (fun n => x6 (ix2 0 n)) (fun n => x7 (ix2 0 n))

/-- A chunk's hidden values are those of the whole row at the chunk's offset. -/
theorem piece (v1 : Vec Ideal S1x384 .f32) (x0 : Vec Ideal S1x384x1536 .fp8e4m3) (x5 : Vec Ideal S1536x8960 .fp8e4m3)
    (x6 x7 : Vec Ideal S1x8960 .f32) (o : ℕ) (ho : o + 1280 ≤ 8960)
    (hw : ∀ a, (![0, o] : Fin 2 → ℕ) a + (![1536, 1280] : Fin 2 → ℕ) a ≤ S1536x8960.size a)
    (hs : ∀ a, (![0, o] : Fin 2 → ℕ) a + (![1, 1280] : Fin 2 → ℕ) a ≤ S1x8960.size a)
    (i : Fin 384) (n : Fin 1280) :
    k0_pay13 (k0_pay2 v1) (k0_pay3 x0) (View.ld (Val := Elt Ideal) x5 (Rect.unit ![0, o] ![1536, 1280] hw))
        (View.ld (Val := Elt Ideal) x6 (Rect.unit ![0, o] ![1, 1280] hs)) (View.ld (Val := Elt Ideal) x7 (Rect.unit ![0, o] ![1, 1280] hs)) (ix2 i n)
      = hid v1 x0 x5 x6 x7 i ⟨o + n, by omega⟩ := by
  have e5 : ∀ k : Fin 1536, (View.ld (Val := Elt Ideal) x5 (Rect.unit ![0, o] ![1536, 1280] hw) : Vec Ideal S1536x1280 .fp8e4m3) (ix2 k n)
      = x5 (ix2 k ⟨o + n, by omega⟩) := fun k =>
    congrArg x5 (funext fun a => Fin.ext (by fin_cases a <;> simp [ix2]))
  have e6 : ∀ y : Vec Ideal S1x8960 .f32, (View.ld (Val := Elt Ideal) y (Rect.unit ![0, o] ![1, 1280] hs) : Vec Ideal S1x1280 .f32) (ix2 0 n)
      = y (ix2 0 ⟨o + n, by omega⟩) := fun y =>
    congrArg y (funext fun a => Fin.ext (by fin_cases a <;> simp [ix2]))
  rw [chunk_apply, column_apply, e6, e6]
  simp only [e5, codes_apply]
  rfl

/-- The first chunk. -/
theorem piece0 (v1 : Vec Ideal S1x384 .f32) (x0 : Vec Ideal S1x384x1536 .fp8e4m3) (x5 : Vec Ideal S1536x8960 .fp8e4m3)
    (x6 x7 : Vec Ideal S1x8960 .f32)
    (hw : ∀ a, (![0, 0] : Fin 2 → ℕ) a + (![1536, 1280] : Fin 2 → ℕ) a ≤ S1536x8960.size a)
    (hs : ∀ a, (![0, 0] : Fin 2 → ℕ) a + (![1, 1280] : Fin 2 → ℕ) a ≤ S1x8960.size a)
    (i : Fin 384) (n : Fin 1280) :
    k0_pay13 (k0_pay2 v1) (k0_pay3 x0) (View.ld (Val := Elt Ideal) x5 (Rect.unit ![0, 0] ![1536, 1280] hw))
        (View.ld (Val := Elt Ideal) x6 (Rect.unit ![0, 0] ![1, 1280] hs)) (View.ld (Val := Elt Ideal) x7 (Rect.unit ![0, 0] ![1, 1280] hs)) (ix2 i n)
      = hid v1 x0 x5 x6 x7 i ⟨n, by omega⟩ := by
  rw [piece v1 x0 x5 x6 x7 0 (by omega) hw hs]
  exact congrArg _ (Fin.ext (Nat.zero_add _))

/-- The kernel's scale of row `i` is that of the whole hidden row. -/
theorem scale_col (v1 : Vec Ideal S1x384 .f32) (x0 : Vec Ideal S1x384x1536 .fp8e4m3) (x5 : Vec Ideal S1536x8960 .fp8e4m3)
    (x6 x7 : Vec Ideal S1x8960 .f32) (i : Fin 384) :
    scaleK v1 x0 x5 x6 x7 (ix2 i 0) = rowScale (hid v1 x0 x5 x6 x7 i) := by
  unfold scaleK
  rw [pay34_apply]
  unfold lastK maxK
  simp only [lanes, piece0]
  simp only [piece v1 x0 x5 x6 x7 1280 (by omega)]
  simp only [piece v1 x0 x5 x6 x7 2560 (by omega)]
  simp only [piece v1 x0 x5 x6 x7 3840 (by omega)]
  simp only [piece v1 x0 x5 x6 x7 5120 (by omega)]
  simp only [piece v1 x0 x5 x6 x7 6400 (by omega)]
  simp only [piece v1 x0 x5 x6 x7 7680 (by omega)]
  exact congrArg scaleOf (amax_chunks _)

/-- The scale as a row. -/
theorem scale_row (v1 : Vec Ideal S1x384 .f32) (x0 : Vec Ideal S1x384x1536 .fp8e4m3) (x5 : Vec Ideal S1536x8960 .fp8e4m3)
    (x6 x7 : Vec Ideal S1x8960 .f32) (i : Fin 384) :
    k0_pay35 (lastK v1 x0 x5 x6 x7) (maxK v1 x0 x5 x6 x7) (ix2 0 i) = rowScale (hid v1 x0 x5 x6 x7 i) :=
  (row_apply _ _ i).trans (scale_col v1 x0 x5 x6 x7 i)

theorem pay7_apply (a : FVec Ideal S384x1280 .f32) (b : FVec Ideal S1x1280 .f32) (i : Fin 384) (n : Fin 1280) :
    k0_pay7 a b (ix2 i n) = k0_pay6 a b (ix2 i n) := by
  pointwise [k0_pay7]

/-- Chunk 0 as stored. -/
theorem stored0 (v1 : Vec Ideal S1x384 .f32) (x0 : Vec Ideal S1x384x1536 .fp8e4m3) (x5 : Vec Ideal S1536x8960 .fp8e4m3)
    (x6 x7 : Vec Ideal S1x8960 .f32) (i : Fin 384) (n : Fin 1280) :
    chunkK0 v1 x0 x5 x6 x7 (ix2 i n) = hid v1 x0 x5 x6 x7 i ⟨n, by omega⟩ := by
  unfold chunkK0
  rw [pay7_apply, chunk0]
  exact piece0 v1 x0 x5 x6 x7 _ _ i n

theorem pay11_apply (a : FVec Ideal S384x1280 .f32) (b c : Vec Ideal S1x1280 .f32) (i : Fin 384) (n : Fin 1280) :
    k0_pay11 a b c (ix2 i n) = k0_pay10 a b c (ix2 i n) := by
  pointwise [k0_pay11]

/-- Chunk 1 as stored. -/
theorem stored1 (v1 : Vec Ideal S1x384 .f32) (x0 : Vec Ideal S1x384x1536 .fp8e4m3) (x5 : Vec Ideal S1536x8960 .fp8e4m3)
    (x6 x7 : Vec Ideal S1x8960 .f32) (i : Fin 384) (n : Fin 1280) :
    chunkK1 v1 x0 x5 x6 x7 (ix2 i n) = hid v1 x0 x5 x6 x7 i ⟨1280 + n, by omega⟩ := by
  unfold chunkK1
  rw [pay11_apply, chunk1]
  exact piece v1 x0 x5 x6 x7 1280 (by omega) _ _ i n

theorem pay14_apply (a : FVec Ideal S384x1 .f32) (b : FVec Ideal S384x1536 .fp8e4m3) (c : Vec Ideal S1536x1280 .fp8e4m3) (d e : Vec Ideal S1x1280 .f32) (i : Fin 384) (n : Fin 1280) :
    k0_pay14 a b c d e (ix2 i n) = k0_pay13 a b c d e (ix2 i n) := by
  pointwise [k0_pay14]

/-- Chunk 2 as stored. -/
theorem stored2 (v1 : Vec Ideal S1x384 .f32) (x0 : Vec Ideal S1x384x1536 .fp8e4m3) (x5 : Vec Ideal S1536x8960 .fp8e4m3)
    (x6 x7 : Vec Ideal S1x8960 .f32) (i : Fin 384) (n : Fin 1280) :
    chunkK2 v1 x0 x5 x6 x7 (ix2 i n) = hid v1 x0 x5 x6 x7 i ⟨2560 + n, by omega⟩ := by
  unfold chunkK2
  rw [pay14_apply]
  exact piece v1 x0 x5 x6 x7 2560 (by omega) _ _ i n

theorem pay17_apply (a : FVec Ideal S384x1 .f32) (b : FVec Ideal S384x1536 .fp8e4m3) (c : Vec Ideal S1536x1280 .fp8e4m3) (d e : Vec Ideal S1x1280 .f32) (i : Fin 384) (n : Fin 1280) :
    k0_pay17 a b c d e (ix2 i n) = k0_pay16 a b c d e (ix2 i n) := by
  pointwise [k0_pay17]

/-- Chunk 3 as stored. -/
theorem stored3 (v1 : Vec Ideal S1x384 .f32) (x0 : Vec Ideal S1x384x1536 .fp8e4m3) (x5 : Vec Ideal S1536x8960 .fp8e4m3)
    (x6 x7 : Vec Ideal S1x8960 .f32) (i : Fin 384) (n : Fin 1280) :
    chunkK3 v1 x0 x5 x6 x7 (ix2 i n) = hid v1 x0 x5 x6 x7 i ⟨3840 + n, by omega⟩ := by
  unfold chunkK3
  rw [pay17_apply, chunk3]
  exact piece v1 x0 x5 x6 x7 3840 (by omega) _ _ i n

theorem pay23_apply (a b : FVec Ideal S384x1280 .f32) (i : Fin 384) (n : Fin 1280) :
    k0_pay23 a b (ix2 i n) = k0_pay22 a b (ix2 i n) := by
  pointwise [k0_pay23]

/-- Chunk 4 as stored. -/
theorem stored4 (v1 : Vec Ideal S1x384 .f32) (x0 : Vec Ideal S1x384x1536 .fp8e4m3) (x5 : Vec Ideal S1536x8960 .fp8e4m3)
    (x6 x7 : Vec Ideal S1x8960 .f32) (i : Fin 384) (n : Fin 1280) :
    chunkK4 v1 x0 x5 x6 x7 (ix2 i n) = hid v1 x0 x5 x6 x7 i ⟨5120 + n, by omega⟩ := by
  unfold chunkK4
  rw [pay23_apply, chunk4]
  exact piece v1 x0 x5 x6 x7 5120 (by omega) _ _ i n

theorem pay28_apply (a : FVec Ideal S384x1280 .f32) (b : FVec Ideal S1x1280 .f32) (c : Ideal .f32) (i : Fin 384) (n : Fin 1280) :
    k0_pay28 a b c (ix2 i n) = k0_pay27 a b c (ix2 i n) := by
  pointwise [k0_pay28]

/-- Chunk 5 as stored. -/
theorem stored5 (v1 : Vec Ideal S1x384 .f32) (x0 : Vec Ideal S1x384x1536 .fp8e4m3) (x5 : Vec Ideal S1536x8960 .fp8e4m3)
    (x6 x7 : Vec Ideal S1x8960 .f32) (i : Fin 384) (n : Fin 1280) :
    chunkK5 v1 x0 x5 x6 x7 (ix2 i n) = hid v1 x0 x5 x6 x7 i ⟨6400 + n, by omega⟩ := by
  unfold chunkK5
  rw [pay28_apply, chunk5]
  exact piece v1 x0 x5 x6 x7 6400 (by omega) _ _ i n

theorem pay32_apply (a : FVec Ideal S384x1280 .f32) (b c : Vec Ideal S1x1280 .f32) (i : Fin 384) (n : Fin 1280) :
    k0_pay32 a b c (ix2 i n) = k0_pay31 a b c (ix2 i n) := by
  pointwise [k0_pay32]

/-- Chunk 6 as stored. -/
theorem stored6 (v1 : Vec Ideal S1x384 .f32) (x0 : Vec Ideal S1x384x1536 .fp8e4m3) (x5 : Vec Ideal S1536x8960 .fp8e4m3)
    (x6 x7 : Vec Ideal S1x8960 .f32) (i : Fin 384) (n : Fin 1280) :
    chunkK6 v1 x0 x5 x6 x7 (ix2 i n) = hid v1 x0 x5 x6 x7 i ⟨7680 + n, by omega⟩ := by
  unfold chunkK6
  rw [pay32_apply, chunk6]
  exact piece v1 x0 x5 x6 x7 7680 (by omega) _ _ i n

theorem codes0_eq (c : FVec Ideal S384x1280 .f32) (a : FVec Ideal S384x128 .f32) (h : Vec Ideal S384x1280 .f32) :
    k0_pay38 (k0_pay36 c a h) k0_pay37 = k0_pay40 (k0_pay34 c a) h := rfl

/-- The codes of chunk 0 as stored. -/
theorem out0_apply (c : FVec Ideal S384x1280 .f32) (a : FVec Ideal S384x128 .f32) (h : Vec Ideal S384x1280 .f32) (i : Fin 384) (n : Fin 1280) :
    k0_pay39 (k0_pay36 c a h) k0_pay37 (ix3 0 i n) = codeOf (h (ix2 i n)) ((k0_pay34 c a) (ix2 i 0)) := by
  refine Eq.trans ?_ (code_apply (k0_pay34 c a) h i n)
  have e : k0_pay39 (k0_pay36 c a h) k0_pay37 (ix3 0 i n) = (k0_pay38 (k0_pay36 c a h) k0_pay37) (ix2 i n) := by
    pointwise [k0_pay39]
  rw [e]; rfl

/-- The codes of chunk 1 as stored. -/
theorem out1_apply (s : FVec Ideal S384x1 .f32) (h : Vec Ideal S384x1280 .f32) (i : Fin 384) (n : Fin 1280) :
    k0_pay41 s h (ix3 0 i n) = codeOf (h (ix2 i n)) (s (ix2 i 0)) := by
  refine Eq.trans ?_ (code_apply s h i n)
  have e : k0_pay41 s h (ix3 0 i n) = (k0_pay40 s h) (ix2 i n) := by
    pointwise [k0_pay41]
  rw [e]

theorem codes2_eq (s : FVec Ideal S384x1 .f32) (h : Vec Ideal S384x1280 .f32) :
    k0_pay43 s h = k0_pay40 s h := rfl

/-- The codes of chunk 2 as stored. -/
theorem out2_apply (s : FVec Ideal S384x1 .f32) (h : Vec Ideal S384x1280 .f32) (i : Fin 384) (n : Fin 1280) :
    k0_pay44 s h (ix3 0 i n) = codeOf (h (ix2 i n)) (s (ix2 i 0)) := by
  refine Eq.trans ?_ (code_apply s h i n)
  have e : k0_pay44 s h (ix3 0 i n) = (k0_pay43 s h) (ix2 i n) := by
    pointwise [k0_pay44]
  rw [e]; rfl

theorem codes3_eq (s : FVec Ideal S384x1 .f32) (h : Vec Ideal S384x1280 .f32) :
    k0_pay45 s h = k0_pay40 s h := rfl

/-- The codes of chunk 3 as stored. -/
theorem out3_apply (s : FVec Ideal S384x1 .f32) (h : Vec Ideal S384x1280 .f32) (i : Fin 384) (n : Fin 1280) :
    k0_pay46 s h (ix3 0 i n) = codeOf (h (ix2 i n)) (s (ix2 i 0)) := by
  refine Eq.trans ?_ (code_apply s h i n)
  have e : k0_pay46 s h (ix3 0 i n) = (k0_pay45 s h) (ix2 i n) := by
    pointwise [k0_pay46]
  rw [e]; rfl

theorem codes4_eq (s : FVec Ideal S384x1 .f32) (h : Vec Ideal S384x1280 .f32) :
    k0_pay47 s h = k0_pay40 s h := rfl

/-- The codes of chunk 4 as stored. -/
theorem out4_apply (s : FVec Ideal S384x1 .f32) (h : Vec Ideal S384x1280 .f32) (i : Fin 384) (n : Fin 1280) :
    k0_pay48 s h (ix3 0 i n) = codeOf (h (ix2 i n)) (s (ix2 i 0)) := by
  refine Eq.trans ?_ (code_apply s h i n)
  have e : k0_pay48 s h (ix3 0 i n) = (k0_pay47 s h) (ix2 i n) := by
    pointwise [k0_pay48]
  rw [e]; rfl

theorem codes5_eq (s : FVec Ideal S384x1 .f32) (h : Vec Ideal S384x1280 .f32) :
    k0_pay51 (k0_pay50 s h) (FloatOps.ofBits FTy.f32 0xC3E00000#32) = k0_pay40 s h := rfl

/-- The codes of chunk 5 as stored. -/
theorem out5_apply (s : FVec Ideal S384x1 .f32) (h : Vec Ideal S384x1280 .f32) (i : Fin 384) (n : Fin 1280) :
    k0_pay52 (k0_pay50 s h) (FloatOps.ofBits FTy.f32 0xC3E00000#32) (ix3 0 i n) = codeOf (h (ix2 i n)) (s (ix2 i 0)) := by
  refine Eq.trans ?_ (code_apply s h i n)
  have e : k0_pay52 (k0_pay50 s h) (FloatOps.ofBits FTy.f32 0xC3E00000#32) (ix3 0 i n) = (k0_pay51 (k0_pay50 s h) (FloatOps.ofBits FTy.f32 0xC3E00000#32)) (ix2 i n) := by
    pointwise [k0_pay52]
  rw [e]; rfl

theorem codes6_eq (s : FVec Ideal S384x1 .f32) (h : Vec Ideal S384x1280 .f32) :
    k0_pay53 s h = k0_pay40 s h := rfl

/-- The codes of chunk 6 as stored. -/
theorem out6_apply (s : FVec Ideal S384x1 .f32) (h : Vec Ideal S384x1280 .f32) (i : Fin 384) (n : Fin 1280) :
    k0_pay54 s h (ix3 0 i n) = codeOf (h (ix2 i n)) (s (ix2 i 0)) := by
  refine Eq.trans ?_ (code_apply s h i n)
  have e : k0_pay54 s h (ix3 0 i n) = (k0_pay53 s h) (ix2 i n) := by
    pointwise [k0_pay54]
  rw [e]; rfl

/-- A chunk of rows of the second weights. -/
theorem rows8 (x8 : Vec Ideal S8960x1536 .fp8e4m3) (o : ℕ) (ho : o + 1280 ≤ 8960)
    (hw : ∀ a, (![o, 0] : Fin 2 → ℕ) a + (![1280, 1536] : Fin 2 → ℕ) a ≤ S8960x1536.size a) (n : Fin 1280) (j : Fin 1536) :
    (View.ld (Val := Elt Ideal) x8 (Rect.unit ![o, 0] ![1280, 1536] hw) : Vec Ideal S1280x1536 .fp8e4m3) (ix2 n j) = x8 (ix2 ⟨o + n, by omega⟩ j) :=
  congrArg x8 (funext fun a => Fin.ext (by fin_cases a <;> simp [ix2]))

theorem rows8_zero (x8 : Vec Ideal S8960x1536 .fp8e4m3)
    (hw : ∀ a, (![0, 0] : Fin 2 → ℕ) a + (![1280, 1536] : Fin 2 → ℕ) a ≤ S8960x1536.size a) (n : Fin 1280) (j : Fin 1536) :
    (View.ld (Val := Elt Ideal) x8 (Rect.unit ![0, 0] ![1280, 1536] hw) : Vec Ideal S1280x1536 .fp8e4m3) (ix2 n j) = x8 (ix2 ⟨n, by omega⟩ j) :=
  congrArg x8 (funext fun a => Fin.ext (by fin_cases a <;> simp [ix2]))

theorem gate_row5 (x4 : Vec Ideal S6x1536 .f32) (j : Fin 1536) :
    (View.ld (Val := Elt Ideal) x4 (Rect.unit ![5, 0] ![1, 1536] inb_S6x1536_S1x1536_5_0) : Vec Ideal S1x1536 .f32) (ix2 0 j) = x4 (ix2 5 j) :=
  congrArg x4 (funext fun a => Fin.ext (by fin_cases a <;> simp [ix2]))

theorem gate_e5 (x3 : Vec Ideal S1x6x1536 .f32) (j : Fin 1536) :
    (View.ld (Val := Elt Ideal) x3 (Rect.unit ![0, 5, 0] ![1, 1, 1536] inb_S1x6x1536_S1x1x1536_0_5_0) : Vec Ideal S1x1x1536 .f32) (ix3 0 0 j) = x3 (ix3 0 5 j) :=
  congrArg x3 (funext fun a => Fin.ext (by fin_cases a <;> simp [ix3]))

/-- The result block of one sample, element by element. -/
theorem outK_apply (v1 : Vec Ideal S1x384 .f32) (x0 : Vec Ideal S1x384x1536 .fp8e4m3) (x5 : Vec Ideal S1536x8960 .fp8e4m3)
    (x6 x7 : Vec Ideal S1x8960 .f32)
    (x2 : Vec Ideal S1x384x1536 .f32) (x3 : Vec Ideal S1x6x1536 .f32) (x4 : Vec Ideal S6x1536 .f32) (x8 : Vec Ideal S8960x1536 .fp8e4m3)
    (x9 x10 : Vec Ideal S1x1536 .f32) (i : Fin 384) (j : Fin 1536) :
    outK v1 x0 x5 x6 x7 x2 x3 x4 x8 x9 x10 (ix3 0 i j)
      = result (hid v1 x0 x5 x6 x7 i) (fun n j => x8 (ix2 n j)) (fun j => x9 (ix2 0 j)) (fun j => x10 (ix2 0 j)) (fun j => x2 (ix3 0 i j))
          (fun j => x4 (ix2 5 j) + x3 (ix3 0 5 j)) j := by
  unfold outK
  rw [out_apply, resid_apply, gate_apply, gate_row5, gate_e5, pay57_apply, pay49_apply, pay42_apply]
  rw [codes0_eq, codes2_eq, codes3_eq, codes4_eq, codes5_eq, codes6_eq]
  rw [show k0_pay34 (lastK v1 x0 x5 x6 x7) (maxK v1 x0 x5 x6 x7) = scaleK v1 x0 x5 x6 x7 from rfl]
  simp only [code_apply, scale_col, stored0, stored1, stored2, stored3, stored4, stored5, stored6, rows8_zero]
  simp only [rows8 x8 1280 (by omega)]
  simp only [rows8 x8 2560 (by omega)]
  simp only [rows8 x8 3840 (by omega)]
  simp only [rows8 x8 5120 (by omega)]
  simp only [rows8 x8 6400 (by omega)]
  simp only [rows8 x8 7680 (by omega)]
  simp only [rows8_zero x8]
  unfold result
  rw [sum_chunks]

/-! ## Reading the stores back -/

/-- The block of results is one store. -/
theorem out_read (v : View sig .tc .vmem S1x384x1536 .bf16) (f : v.ty.Contents (Elt Ideal)) (w : FVec Ideal S1x384x1536 .bf16) (i : Fin 384) (j : Fin 1536) :
    View.read (Elt Ideal) v (v.writes (Elt Ideal) f [⟨Rect.unit ![0, 0, 0] ![1, 384, 1536] inb_S1x384x1536_S1x384x1536_0_0_0, w⟩]) (ix3 0 i j) = w (ix3 0 i j) :=
  View.read_writes_cons_unit_of_mem v f _ w [] (ix3 0 i j) (ix3 0 i j) rfl (by intro a; fin_cases a <;> simp)

/-- A row of scales is one store: the row that was written. -/
theorem row_read (v : View sig .tc .vmem S5x384 .f32) (f : v.ty.Contents (Elt Ideal)) (off : Fin 2 → ℕ) (inb : ∀ a, off a + (![1, 384] : Fin 2 → ℕ) a ≤ S5x384.size a)
    (w : FVec Ideal S1x384 .f32) (s : Fin 5) (hoff : off = ![(s : ℕ), 0]) (i : Fin 384) :
    View.read (Elt Ideal) v (v.writes (Elt Ideal) f [⟨Rect.unit off ![1, 384] inb, w⟩]) (ix2 s i) = w (ix2 0 i) :=
  View.read_writes_cons_unit_of_mem v f inb w [] (ix2 s i) (ix2 0 i) hoff (by intro a; fin_cases a <;> simp [ix2])

/-- The rows that were not written stay. -/
theorem row_read_other (v : View sig .tc .vmem S5x384 .f32) (f : v.ty.Contents (Elt Ideal)) (off : Fin 2 → ℕ) (inb : ∀ a, off a + (![1, 384] : Fin 2 → ℕ) a ≤ S5x384.size a)
    (w : FVec Ideal S1x384 .f32) (s t : Fin 5) (hoff : off = ![(t : ℕ), 0]) (h : s < t) (i : Fin 384) :
    View.read (Elt Ideal) v (v.writes (Elt Ideal) f [⟨Rect.unit off ![1, 384] inb, w⟩]) (ix2 s i) = View.read (Elt Ideal) v f (ix2 s i) :=
  View.read_writes_cons_unit_of_not_mem v f inb w [] (ix2 s i) hoff 0 (Or.inl h)

/-- The block of codes is seven stores, one for each chunk. -/
theorem codes_read (v1 : Vec Ideal S1x384 .f32) (x0 : Vec Ideal S1x384x1536 .fp8e4m3) (x5 : Vec Ideal S1536x8960 .fp8e4m3)
    (x6 x7 : Vec Ideal S1x8960 .f32) (v : View sig .tc .vmem S1x384x8960 .fp8e4m3) (f : v.ty.Contents (Elt Ideal)) (i : Fin 384) (n : Fin 8960) :
    View.read (Elt Ideal) v (v.writes (Elt Ideal) f [⟨Rect.unit ![0, 0, 7680] ![1, 384, 1280] inb_S1x384x8960_S1x384x1280_0_0_7680, k0_pay54 (scaleK v1 x0 x5 x6 x7) (chunkK6 v1 x0 x5 x6 x7)⟩,
        ⟨Rect.unit ![0, 0, 6400] ![1, 384, 1280] inb_S1x384x8960_S1x384x1280_0_0_6400, k0_pay52 (k0_pay50 (scaleK v1 x0 x5 x6 x7) (chunkK5 v1 x0 x5 x6 x7)) (FloatOps.ofBits FTy.f32 0xC3E00000#32)⟩,
        ⟨Rect.unit ![0, 0, 5120] ![1, 384, 1280] inb_S1x384x8960_S1x384x1280_0_0_5120, k0_pay48 (scaleK v1 x0 x5 x6 x7) (chunkK4 v1 x0 x5 x6 x7)⟩,
        ⟨Rect.unit ![0, 0, 3840] ![1, 384, 1280] inb_S1x384x8960_S1x384x1280_0_0_3840, k0_pay46 (scaleK v1 x0 x5 x6 x7) (chunkK3 v1 x0 x5 x6 x7)⟩,
        ⟨Rect.unit ![0, 0, 2560] ![1, 384, 1280] inb_S1x384x8960_S1x384x1280_0_0_2560, k0_pay44 (scaleK v1 x0 x5 x6 x7) (chunkK2 v1 x0 x5 x6 x7)⟩,
        ⟨Rect.unit ![0, 0, 1280] ![1, 384, 1280] inb_S1x384x8960_S1x384x1280_0_0_1280, k0_pay41 (scaleK v1 x0 x5 x6 x7) (chunkK1 v1 x0 x5 x6 x7)⟩,
        ⟨Rect.unit ![0, 0, 0] ![1, 384, 1280] inb_S1x384x8960_S1x384x1280_0_0_0, k0_pay39 (k0_pay36 (lastK v1 x0 x5 x6 x7) (maxK v1 x0 x5 x6 x7) (chunkK0 v1 x0 x5 x6 x7)) k0_pay37⟩])
        (ix3 0 i n)
      = codeOf (hid v1 x0 x5 x6 x7 i n) (rowScale (hid v1 x0 x5 x6 x7 i)) := by
  by_cases h6 : 7680 ≤ (n : ℕ)
  · refine (View.read_writes_cons_unit_of_mem v f _ _ _ (ix3 0 i n) (ix3 0 i (⟨(n : ℕ) - 7680, by omega⟩ : Fin 1280)) rfl
      (by intro a; fin_cases a <;> simp [ix3] <;> omega)).trans ?_
    refine (out6_apply _ _ i _).trans ?_
    rw [stored6]
    refine congrArg₂ codeOf (congrArg _ (Fin.ext ?_)) (scale_col v1 x0 x5 x6 x7 i)
    show 7680 + ((n : ℕ) - 7680) = n; omega
  refine (View.read_writes_cons_unit_of_not_mem v f _ _ _ (ix3 0 i n) rfl 2 (Or.inl (by show (n : ℕ) < 7680; omega))).trans ?_
  by_cases h5 : 6400 ≤ (n : ℕ)
  · refine (View.read_writes_cons_unit_of_mem v f _ _ _ (ix3 0 i n) (ix3 0 i (⟨(n : ℕ) - 6400, by omega⟩ : Fin 1280)) rfl
      (by intro a; fin_cases a <;> simp [ix3] <;> omega)).trans ?_
    refine (out5_apply _ _ i _).trans ?_
    rw [stored5]
    refine congrArg₂ codeOf (congrArg _ (Fin.ext ?_)) (scale_col v1 x0 x5 x6 x7 i)
    show 6400 + ((n : ℕ) - 6400) = n; omega
  refine (View.read_writes_cons_unit_of_not_mem v f _ _ _ (ix3 0 i n) rfl 2 (Or.inl (by show (n : ℕ) < 6400; omega))).trans ?_
  by_cases h4 : 5120 ≤ (n : ℕ)
  · refine (View.read_writes_cons_unit_of_mem v f _ _ _ (ix3 0 i n) (ix3 0 i (⟨(n : ℕ) - 5120, by omega⟩ : Fin 1280)) rfl
      (by intro a; fin_cases a <;> simp [ix3] <;> omega)).trans ?_
    refine (out4_apply _ _ i _).trans ?_
    rw [stored4]
    refine congrArg₂ codeOf (congrArg _ (Fin.ext ?_)) (scale_col v1 x0 x5 x6 x7 i)
    show 5120 + ((n : ℕ) - 5120) = n; omega
  refine (View.read_writes_cons_unit_of_not_mem v f _ _ _ (ix3 0 i n) rfl 2 (Or.inl (by show (n : ℕ) < 5120; omega))).trans ?_
  by_cases h3 : 3840 ≤ (n : ℕ)
  · refine (View.read_writes_cons_unit_of_mem v f _ _ _ (ix3 0 i n) (ix3 0 i (⟨(n : ℕ) - 3840, by omega⟩ : Fin 1280)) rfl
      (by intro a; fin_cases a <;> simp [ix3] <;> omega)).trans ?_
    refine (out3_apply _ _ i _).trans ?_
    rw [stored3]
    refine congrArg₂ codeOf (congrArg _ (Fin.ext ?_)) (scale_col v1 x0 x5 x6 x7 i)
    show 3840 + ((n : ℕ) - 3840) = n; omega
  refine (View.read_writes_cons_unit_of_not_mem v f _ _ _ (ix3 0 i n) rfl 2 (Or.inl (by show (n : ℕ) < 3840; omega))).trans ?_
  by_cases h2 : 2560 ≤ (n : ℕ)
  · refine (View.read_writes_cons_unit_of_mem v f _ _ _ (ix3 0 i n) (ix3 0 i (⟨(n : ℕ) - 2560, by omega⟩ : Fin 1280)) rfl
      (by intro a; fin_cases a <;> simp [ix3] <;> omega)).trans ?_
    refine (out2_apply _ _ i _).trans ?_
    rw [stored2]
    refine congrArg₂ codeOf (congrArg _ (Fin.ext ?_)) (scale_col v1 x0 x5 x6 x7 i)
    show 2560 + ((n : ℕ) - 2560) = n; omega
  refine (View.read_writes_cons_unit_of_not_mem v f _ _ _ (ix3 0 i n) rfl 2 (Or.inl (by show (n : ℕ) < 2560; omega))).trans ?_
  by_cases h1 : 1280 ≤ (n : ℕ)
  · refine (View.read_writes_cons_unit_of_mem v f _ _ _ (ix3 0 i n) (ix3 0 i (⟨(n : ℕ) - 1280, by omega⟩ : Fin 1280)) rfl
      (by intro a; fin_cases a <;> simp [ix3] <;> omega)).trans ?_
    refine (out1_apply _ _ i _).trans ?_
    rw [stored1]
    refine congrArg₂ codeOf (congrArg _ (Fin.ext ?_)) (scale_col v1 x0 x5 x6 x7 i)
    show 1280 + ((n : ℕ) - 1280) = n; omega
  refine (View.read_writes_cons_unit_of_not_mem v f _ _ _ (ix3 0 i n) rfl 2 (Or.inl (by show (n : ℕ) < 1280; omega))).trans ?_
  refine (View.read_writes_cons_unit_of_mem v f _ _ _ (ix3 0 i n) (ix3 0 i (⟨(n : ℕ), by omega⟩ : Fin 1280)) rfl
    (by intro a; fin_cases a <;> simp [ix3])).trans ?_
  refine (out0_apply _ _ _ i _).trans ?_
  rw [stored0]
  refine congrArg₂ codeOf (congrArg _ (Fin.ext ?_)) (scale_col v1 x0 x5 x6 x7 i)
  rfl

end Cert.FfnIdeal.Cell

end
-- ==== Proof.FfnRun.lean ====
/- The run of the kernel over the five samples: what each output block holds after each sample, and the arguments unchanged. -/
module

public import proofs.«01_k».proof.Proof.FfnBody
public import proofs.«01_k».proof.Proof.FfnRow
public import Idealize.ShloMosaic.Lib.Pipeline.DatRel
public import Idealize.ShloMosaic.Lib.Pipeline.ArrRel
public import Idealize.ShloMosaic.Lib.Claim

@[expose] public section

set_option maxRecDepth 16384

noncomputable section

namespace Cert.FfnIdeal.Hand

open Cert.FfnIdeal Cert.FfnIdeal.Gen Cert.FfnIdeal.Cell Cert.FfnSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

abbrev ms0_0 (t : Fin cfg0.N) : Memref sig .tc .vmem S1x384x1536 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x384x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x6x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x1536 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x8960 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8960 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8960 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8960x1536 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1536 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1536 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x384x1536 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x384x8960 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S5x384 .f32 := win0_13.stage (cfg0.slots t 13)
abbrev hs0_13 (t : Fin cfg0.N) : (ms0_13 t).IsWhole := hstage0_13 ((cfg0.slots t 13).cast nbuf0_13)
abbrev scM0_0 : Memref sig .tc .vmem S384x8960 .f32 := Memref.whole cc0_scratch0

/-- The invariant is the scratch at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What each output holds -/

/-- The row of scales that sample `t` reads. -/
def v1At (c : Dev nD) (t : Fin cfg0.N) : Vec Ideal S1x384 .f32 :=
  View.ld (Val := Elt Ideal) (iblk m c 1 t) (Rect.unit (s := S5x384) (k0_off1 (grid0.coords t)) ![1, 384] (k0_off1_inb (grid0.coords t)))

/-- The hidden row `i` of sample `t`. -/
def hidAt (c : Dev nD) (t : Fin cfg0.N) (i : Fin 384) : Fin 8960 → EReal :=
  hid (v1At m c t) (iblk m c 0 t) (iblk m c 5 t) (iblk m c 6 t) (iblk m c 7 t) i

/-- The table of modulation rows and the sample's own. -/
abbrev modAt (c : Dev nD) (t : Fin cfg0.N) : Vec Ideal S6x1536 .f32 := iblk m c 4 t
abbrev eAt (c : Dev nD) (t : Fin cfg0.N) : Vec Ideal S1x6x1536 .f32 := iblk m c 3 t

/-- The result block after sample `t`. -/
def Post11 (c : Dev nD) (t : Fin cfg0.N) (X : Vec Ideal S1x384x1536 .bf16) : Prop :=
  ∀ (i : Fin 384) (j : Fin 1536), X (ix3 0 i j)
    = result (hidAt m c t i) (fun n j => (iblk m c 8 t : Vec Ideal S8960x1536 .fp8e4m3) (ix2 n j)) (fun j => (iblk m c 9 t : Vec Ideal S1x1536 .f32) (ix2 0 j))
        (fun j => (iblk m c 10 t : Vec Ideal S1x1536 .f32) (ix2 0 j)) (fun j => (iblk m c 2 t : Vec Ideal S1x384x1536 .f32) (ix3 0 i j))
        (fun j => modAt m c t (ix2 5 j) + eAt m c t (ix3 0 5 j)) j

/-- The block of codes after sample `t`. -/
def Post12 (c : Dev nD) (t : Fin cfg0.N) (X : Vec Ideal S1x384x8960 .fp8e4m3) : Prop :=
  ∀ (i : Fin 384) (n : Fin 8960), X (ix3 0 i n) = codeOf (hidAt m c t i n) (rowScale (hidAt m c t i))

/-- The array of scales after sample `t`: the rows of the samples so far. -/
def Post13 (c : Dev nD) (t : Fin cfg0.N) (X : Vec Ideal S5x384 .f32) : Prop :=
  ∀ s : Fin 5, s.val ≤ t.val → ∀ i : Fin 384, X (ix2 s i) = rowScale (hidAt m c s i)

/-- The three output windows. -/
def outs : Fin 14 → Bool := fun w => w.val == 11 || w.val == 12 || w.val == 13

/-- What the body leaves in the output windows. -/
def Rl (c : Dev nD) (w : Fin cfg0.W) (t : Fin cfg0.N) : ((cfg0.win w).block.Idx → Elt Ideal (cfg0.win w).elt) → Prop :=
  match w with
  | ⟨11, _⟩ => fun X => Post11 m c t X
  | ⟨12, _⟩ => fun X => Post12 m c t X
  | ⟨13, _⟩ => fun X => Post13 m c t X
  | _ => fun _ => True

/-- The proof data of the pipeline: every input buffer holds its block; the outputs are told by the relation below. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- The proof data with the outputs told by `Rl`. -/
abbrev rdat (c : Dev nD) : Pipeline.RDat τ (Elt Ideal) Unit ℕ (UR sig nD τ) ℕ (cfgs 0) c := (dats m 0 c).toRRel (cfg := cfg0) outs (Rl m c)

/-- The row of the scales' array that point `t` uses is row `t`. -/
theorem off_at : ∀ t : Fin 5, k0_off1 (grid0.coords t) = ![(t : ℕ), 0] := by decide +kernel

theorem noflush13 : ∀ t : Fin cfg0.N, t.val ≠ 4 → (cfg0.win 13).flush t = false := by decide +kernel

/-- What the body finds in the scales' array: the rows of the samples before. -/
theorem finds13 (c : Dev nD) (t : Fin cfg0.N) (y : Vec Ideal S5x384 .f32) (h : (rdat m c).Finds 13 t y) :
    ∀ s : Fin 5, s.val < t.val → ∀ i : Fin 384, y (ix2 s i) = rowScale (hidAt m c s i) := by
  intro s hs i
  have ht : t.val ≠ 0 := by omega
  have hN : t.val < 5 := t.isLt
  rcases ((rdat m c).finds_of_pos (w := 13) (t := t) rfl ht y).mp h with hf | hl
  · have := noflush13 ⟨t.val - 1, by omega⟩ (by show t.val - 1 ≠ 4; omega)
    exact absurd (this.symm.trans hf) Bool.false_ne_true
  · exact (Pipeline.Dat.toRRel_leaves (dats m 0 c) (fgt := outs) (Rl := Rl m c) (w := 13) rfl hl : Post13 m c _ y) s (by show s.val ≤ t.val - 1; omega) i

/-- The scales' array with the row of sample `t` written. -/
theorem post13 (c : Dev nD) (t : Fin cfg0.N) (a : Memref sig .tc .vmem S5x384 .f32) (ha : a.IsWhole) (y : Vec Ideal S5x384 .f32)
    (h : (rdat m c).Finds 13 t y) :
    Post13 m c t (View.read (Elt Ideal) a.view (a.view.writes (Elt Ideal) (ha.unread y)
      [⟨Rect.unit (k0_off1 (grid0.coords t)) ![1, 384] (k0_off1_inb (grid0.coords t)), k0_pay35 (lastK (v1At m c t) (iblk m c 0 t) (iblk m c 5 t) (iblk m c 6 t) (iblk m c 7 t)) (maxK (v1At m c t) (iblk m c 0 t) (iblk m c 5 t) (iblk m c 6 t) (iblk m c 7 t))⟩])) := by
  intro s hs i
  rcases Nat.lt_or_eq_of_le hs with hlt | heq
  · refine (row_read_other a.view _ _ _ _ s t (off_at t) hlt i).trans ?_
    rw [ha.read_unread]
    exact finds13 m c t y h s hlt i
  · obtain rfl : s = t := Fin.ext heq
    refine (row_read a.view _ _ _ _ s (off_at s) i).trans ?_
    exact scale_row (v1At m c s) (iblk m c 0 s) (iblk m c 5 s) (iblk m c 6 s) (iblk m c 7 s) i

/-- What the body finds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, ⌜(rdat m c).Finds 11 t d⌝ ∗ owns (c : Thread nD τ) (ms0_11 t) fullShare d)
    ∗ (∃ d, ⌜(rdat m c).Finds 12 t d⌝ ∗ owns (c : Thread nD τ) (ms0_12 t) fullShare d)
    ∗ (∃ d, ⌜(rdat m c).Finds 13 t d⌝ ∗ owns (c : Thread nD τ) (ms0_13 t) fullShare d))

/-- What the body leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, ⌜Post11 m c t d⌝ ∗ owns (c : Thread nD τ) (ms0_11 t) fullShare d)
    ∗ (∃ d, ⌜Post12 m c t d⌝ ∗ owns (c : Thread nD τ) (ms0_12 t) fullShare d)
    ∗ (∃ d, ⌜Post13 m c t d⌝ ∗ owns (c : Thread nD τ) (ms0_13 t) fullShare d))

set_option maxHeartbeats 4000000 in
/-- The body at any sample. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, -, H11⟩, ⟨%d12, -, H12⟩, ⟨%d13, %h13, H13⟩⟩
  iapply ((kernelRun0_A c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) d13 (Post11 m c t) (Post12 m c t) (Post13 m c t)
    (fun f i j => (out_read _ f _ i j).trans (outK_apply (v1At m c t) (iblk m c 0 t) (iblk m c 5 t) (iblk m c 6 t) (iblk m c 7 t) _ _ _ _ _ _ i j))
    (fun f i n => codes_read (v1At m c t) (iblk m c 0 t) (iblk m c 5 t) (iblk m c 6 t) (iblk m c 7 t) _ f i n)
    (post13 m c t _ _ d13 h13)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexact H13
  isplitl [HS0]; · iexact HS0
  iintro ⟨H0, H1, H2, H3, H4, H5, H6, H7, H8, H9, H10, H11, H12, H13, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation, at every sample. -/
theorem body_obligation (c : Dev nD) : Pipeline.BodyObligationRel (dats m 0 c) (defs₀ (F := Ideal)) Variants.none () Set.univ outs (Rl m c) := fun t => by
  rw [bigSep_W0, bigSep_W0, defs₀_row]
  exact triple_restated (sound_body m c t) rfl .rfl fun _ => .rfl

set_option backward.isDefEq.respectTransparency.types false in
/-- The run, and no signal pending at its end. -/
theorem run_main_quiescent : θ_run defs (onTc (τ := τ) (main (F := Ideal))) (s₀ m ρ) (fun r => (Pipeline.RDat.FramePost (cfgs 0) (fun c => rdat m c) (V m)) r ∧ r.2.sem = fun _ => 0) :=
  Pipeline.RDat.θ_run_frame (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.RDat.FramePost (cfgs 0) (fun c => rdat m c) (V m)) :=
  (θ_run defs _ _).mono (fun _ h => h.1) (run_main_quiescent m ρ)

/-- From what a run leaves in the arrays to the arguments being unchanged. -/
theorem args_of (rdat : (c : Dev nD) → Pipeline.RDat τ (Elt Ideal) Unit ℕ (UR sig nD τ) ℕ (cfgs 0) c)
    (hA : ∀ c w, (rdat c).A w = V m c (Pipeline.arrRef spec0 w))
    (h : θ_run defs (onTc (τ := τ) (main (F := Ideal))) (s₀ m ρ) (Pipeline.RDat.FramePost (cfgs 0) rdat (V m))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 8 rfl).trans ((hA c 8).trans (V_main_arg8 m c)),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-- Every run leaves the arguments unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  args_of m ρ (fun c => rdat m c) (A_eq m) (run_main m ρ)

/-- Every run ends with the arguments unchanged and no signal pending. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.FfnIdeal.Hand

end
-- ==== Proof.FfnStep.lean ====
/- The feed-forward step on all samples, as functions of its eleven arguments. -/
module

public import proofs.«01_k».proof.Proof.FfnSpec
public import Idealize.ShloMosaic.Lib.Pointwise

@[expose] public section

noncomputable section

namespace Cert.FfnSpec

open Idealize.ShloMosaic

/-- Hidden row `i` of sample `s`. -/
def hidA (a0 : (⟨3, ![5, 384, 1536]⟩ : Shape).Idx → EReal) (a1 : (⟨2, ![5, 384]⟩ : Shape).Idx → EReal)
    (a5 : (⟨2, ![1536, 8960]⟩ : Shape).Idx → EReal) (a6 a7 : (⟨1, ![8960]⟩ : Shape).Idx → EReal) (s : Fin 5) (i : Fin 384) :
    Fin 8960 → EReal :=
  hidden (fun k => a0 (ix3 s i k)) (a1 (ix2 s i)) (fun k n => a5 (ix2 k n)) (fun n => a6 (ix1 n)) (fun n => a7 (ix1 n))

/-- The result. -/
def outA (a0 : (⟨3, ![5, 384, 1536]⟩ : Shape).Idx → EReal) (a1 : (⟨2, ![5, 384]⟩ : Shape).Idx → EReal)
    (a2 : (⟨3, ![5, 384, 1536]⟩ : Shape).Idx → EReal) (a3 : (⟨3, ![5, 6, 1536]⟩ : Shape).Idx → EReal)
    (a4 : (⟨2, ![6, 1536]⟩ : Shape).Idx → EReal)
    (a5 : (⟨2, ![1536, 8960]⟩ : Shape).Idx → EReal) (a6 a7 : (⟨1, ![8960]⟩ : Shape).Idx → EReal)
    (a8 : (⟨2, ![8960, 1536]⟩ : Shape).Idx → EReal) (a9 a10 : (⟨1, ![1536]⟩ : Shape).Idx → EReal) :
    (⟨3, ![5, 384, 1536]⟩ : Shape).Idx → EReal := fun x =>
  result (hidA a0 a1 a5 a6 a7 (x 0) (x 1)) (fun n j => a8 (ix2 n j)) (fun j => a9 (ix1 j)) (fun j => a10 (ix1 j))
    (fun j => a2 (ix3 (x 0) (x 1) j)) (fun j => a4 (ix2 5 j) + a3 (ix3 (x 0) 5 j)) (x 2)

/-- The codes of the hidden rows. -/
def codesA (a0 : (⟨3, ![5, 384, 1536]⟩ : Shape).Idx → EReal) (a1 : (⟨2, ![5, 384]⟩ : Shape).Idx → EReal)
    (a5 : (⟨2, ![1536, 8960]⟩ : Shape).Idx → EReal) (a6 a7 : (⟨1, ![8960]⟩ : Shape).Idx → EReal) :
    (⟨3, ![5, 384, 8960]⟩ : Shape).Idx → EReal := fun x =>
  codeOf (hidA a0 a1 a5 a6 a7 (x 0) (x 1) (x 2)) (rowScale (hidA a0 a1 a5 a6 a7 (x 0) (x 1)))

/-- The scales of the hidden rows. -/
def scaleA (a0 : (⟨3, ![5, 384, 1536]⟩ : Shape).Idx → EReal) (a1 : (⟨2, ![5, 384]⟩ : Shape).Idx → EReal)
    (a5 : (⟨2, ![1536, 8960]⟩ : Shape).Idx → EReal) (a6 a7 : (⟨1, ![8960]⟩ : Shape).Idx → EReal) :
    (⟨2, ![5, 384]⟩ : Shape).Idx → EReal := fun x =>
  rowScale (hidA a0 a1 a5 a6 a7 (x 0) (x 1))

end Cert.FfnSpec

end
-- ==== Proof.FfnValue.lean ====
/- The kernel's results as functions of its arguments. -/
module

public import proofs.«01_k».proof.Proof.FfnRun
public import proofs.«01_k».proof.Proof.FfnStep

@[expose] public section

set_option maxRecDepth 16384

noncomputable section

namespace Cert.FfnIdeal.Hand

open Cert.FfnIdeal Cert.FfnIdeal.Gen Cert.FfnIdeal.Cell Cert.FfnSpec
open Idealize.ShloMosaic Idealize.ShloMosaic.TcCoe Idealize.SL.Sem

variable (m : (ℓ : Loc nD τ sig) → Buf (Elt Ideal) ℓ) (ρ : Dev nD → PrngReg)

/-! ## Each block at its place in its array -/

theorem idx0 : ∀ t : Fin cfg0.N, win0_0.index t = ![t.val, 0, 0] := by decide +kernel
theorem idx1 : ∀ t : Fin cfg0.N, win0_1.index t = ![0, 0] := by decide +kernel
theorem idx2 : ∀ t : Fin cfg0.N, win0_2.index t = ![t.val, 0, 0] := by decide +kernel
theorem idx3 : ∀ t : Fin cfg0.N, win0_3.index t = ![t.val, 0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![t.val, 0, 0] := by decide +kernel
theorem idx12 : ∀ t : Fin cfg0.N, win0_12.index t = ![t.val, 0, 0] := by decide +kernel
theorem idx13 : ∀ t : Fin cfg0.N, win0_13.index t = ![0, 0] := by decide +kernel

theorem blk0 (c : Dev nD) (t : Fin cfg0.N) (i : Fin 384) (k : Fin 1536) :
    iblk m c 0 t (ix3 0 i k : (win0_0.xblock (grid0.coords t)).Idx) = m ((c : Thread nD τ).loc main_arg0) (ix3 t i k) := by
  blk_ext [iblk, V, idx0]
theorem blk1 (c : Dev nD) (t : Fin cfg0.N) (s : Fin 5) (i : Fin 384) :
    iblk m c 1 t (ix2 s i : (win0_1.xblock (grid0.coords t)).Idx) = m ((c : Thread nD τ).loc main_arg1) (ix2 s i) := by
  blk_ext [iblk, V, idx1]
theorem blk2 (c : Dev nD) (t : Fin cfg0.N) (i : Fin 384) (k : Fin 1536) :
    iblk m c 2 t (ix3 0 i k : (win0_2.xblock (grid0.coords t)).Idx) = m ((c : Thread nD τ).loc main_arg2) (ix3 t i k) := by
  blk_ext [iblk, V, idx2]
theorem blk3 (c : Dev nD) (t : Fin cfg0.N) (i : Fin 6) (k : Fin 1536) :
    iblk m c 3 t (ix3 0 i k : (win0_3.xblock (grid0.coords t)).Idx) = m ((c : Thread nD τ).loc main_arg3) (ix3 t i k) := by
  blk_ext [iblk, V, idx3]
theorem blk4 (c : Dev nD) (t : Fin cfg0.N) (i : Fin 6) (k : Fin 1536) :
    iblk m c 4 t (ix2 i k : (win0_4.xblock (grid0.coords t)).Idx) = m ((c : Thread nD τ).loc main_arg4) (ix2 i k) := by
  blk_ext [iblk, V, idx4]
theorem blk5 (c : Dev nD) (t : Fin cfg0.N) (i : Fin 1536) (k : Fin 8960) :
    iblk m c 5 t (ix2 i k : (win0_5.xblock (grid0.coords t)).Idx) = m ((c : Thread nD τ).loc main_arg5) (ix2 i k) := by
  blk_ext [iblk, V, idx5]
theorem blk8 (c : Dev nD) (t : Fin cfg0.N) (i : Fin 8960) (k : Fin 1536) :
    iblk m c 8 t (ix2 i k : (win0_8.xblock (grid0.coords t)).Idx) = m ((c : Thread nD τ).loc main_arg8) (ix2 i k) := by
  blk_ext [iblk, V, idx8]
theorem blk6 (c : Dev nD) (t : Fin cfg0.N) (k : Fin 8960) :
    iblk m c 6 t (ix2 0 k : (win0_6.xblock (grid0.coords t)).Idx) = m ((c : Thread nD τ).loc main_arg6) (ix1 k) := by
  blk_ext! [iblk, V, idx6]
theorem blk7 (c : Dev nD) (t : Fin cfg0.N) (k : Fin 8960) :
    iblk m c 7 t (ix2 0 k : (win0_7.xblock (grid0.coords t)).Idx) = m ((c : Thread nD τ).loc main_arg7) (ix1 k) := by
  blk_ext! [iblk, V, idx7]
theorem blk9 (c : Dev nD) (t : Fin cfg0.N) (k : Fin 1536) :
    iblk m c 9 t (ix2 0 k : (win0_9.xblock (grid0.coords t)).Idx) = m ((c : Thread nD τ).loc main_arg9) (ix1 k) := by
  blk_ext! [iblk, V, idx9]
theorem blk10 (c : Dev nD) (t : Fin cfg0.N) (k : Fin 1536) :
    iblk m c 10 t (ix2 0 k : (win0_10.xblock (grid0.coords t)).Idx) = m ((c : Thread nD τ).loc main_arg10) (ix1 k) := by
  blk_ext! [iblk, V, idx10]

/-- The hidden row in terms of the arguments. -/
theorem hidAt_eq (c : Dev nD) (t : Fin cfg0.N) (i : Fin 384) : hidAt m c t i = hidA (m ((c : Thread nD τ).loc main_arg0)) (m ((c : Thread nD τ).loc main_arg1)) (m ((c : Thread nD τ).loc main_arg5)) (m ((c : Thread nD τ).loc main_arg6)) (m ((c : Thread nD τ).loc main_arg7)) t i := by
  have e1 : v1At m c t (ix2 0 i) = m ((c : Thread nD τ).loc main_arg1) (ix2 t i) := by
    refine Eq.trans ?_ (blk1 m c t t i)
    refine congrArg (iblk m c 1 t) (funext fun a => Fin.ext ?_)
    show k0_off1 (grid0.coords t) a + 1 * ((ix2 (0 : Fin 1) i a : Fin _) : ℕ) = _
    rw [off_at t]
    fin_cases a <;> simp [ix2]
  unfold hidAt hid hidA
  rw [e1]
  simp only [blk0, blk5, blk6, blk7]

theorem emb11 (t : Fin cfg0.N) (i : Fin 384) (j : Fin 1536) : (win0_11.blk t).view.emb (ix3 0 i j) = ix3 t i j := by
  blk_ext [idx11]
theorem emb12 (t : Fin cfg0.N) (i : Fin 384) (j : Fin 8960) : (win0_12.blk t).view.emb (ix3 0 i j) = ix3 t i j := by
  blk_ext [idx12]
theorem emb13 (t : Fin cfg0.N) (s : Fin 5) (i : Fin 384) : (win0_13.blk t).view.emb (ix2 s i) = ix2 s i := by
  blk_ext [idx13]

/-- An index of a block of one sample. -/
theorem ix3_unit {a b : ℕ} (y : (⟨3, ![1, a, b]⟩ : Shape).Idx) : y = ix3 0 (y 1) (y 2) := by
  funext d; fin_cases d
  · exact Subsingleton.elim (α := Fin 1) _ _
  · rfl
  · rfl

theorem flush13 : ∀ t : Fin cfg0.N, (cfg0.win 13).flush t = true → t.val = 4 := by decide +kernel

/-- The block of the result, in terms of the arguments. -/
theorem post11_eq (c : Dev nD) (t : Fin cfg0.N) (X) (hP : Post11 m c t X) (i : Fin 384) (j : Fin 1536) :
    X (ix3 0 i j) = outA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ((win0_11.blk t).view.emb (ix3 0 i j)) := by
  rw [emb11, hP i j, hidAt_eq]
  simp only [modAt, eAt, blk2, blk3, blk4, blk8, blk9, blk10]
  rfl

/-- The block of codes. -/
theorem post12_eq (c : Dev nD) (t : Fin cfg0.N) (X) (hP : Post12 m c t X) (i : Fin 384) (j : Fin 8960) :
    X (ix3 0 i j) = codesA (m ((c : Thread nD τ).loc main_arg0)) (m ((c : Thread nD τ).loc main_arg1)) (m ((c : Thread nD τ).loc main_arg5)) (m ((c : Thread nD τ).loc main_arg6)) (m ((c : Thread nD τ).loc main_arg7)) ((win0_12.blk t).view.emb (ix3 0 i j)) := by
  rw [emb12, hP i j, hidAt_eq]
  rfl

/-- The scales, after the last sample. -/
theorem post13_eq (c : Dev nD) (t : Fin cfg0.N) (h4 : t.val = 4) (X) (hP : Post13 m c t X) (s : Fin 5) (i : Fin 384) :
    X (ix2 s i) = scaleA (m ((c : Thread nD τ).loc main_arg0)) (m ((c : Thread nD τ).loc main_arg1)) (m ((c : Thread nD τ).loc main_arg5)) (m ((c : Thread nD τ).loc main_arg6)) (m ((c : Thread nD τ).loc main_arg7)) ((win0_13.blk t).view.emb (ix2 s i)) := by
  rw [emb13, hP s (by have := s.isLt; omega) i]
  exact congrArg rowScale (hidAt_eq m c (s : Fin cfg0.N) i)

/-- Every run ends with the three results at their values, and the arguments unchanged. -/
theorem run_values : θ_run defs (onTc (τ := τ) (main (F := Ideal))) ⟨m, fun _ => 0, ρ⟩ (fun r => ∀ c : Dev nD,
      r.2.mem ((c.tc : Thread nD τ).loc main_v4_0) = outA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v4_1) = codesA (m ((c : Thread nD τ).loc main_arg0)) (m ((c : Thread nD τ).loc main_arg1)) (m ((c : Thread nD τ).loc main_arg5)) (m ((c : Thread nD τ).loc main_arg6)) (m ((c : Thread nD τ).loc main_arg7))
      ∧ r.2.mem ((c.tc : Thread nD τ).loc main_v4_2) = scaleA (m ((c : Thread nD τ).loc main_arg0)) (m ((c : Thread nD τ).loc main_arg1)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r hr c => ?_) (θ_run_and (run_main m ρ) (unchanged m ρ))
  obtain ⟨h, hu⟩ := hr
  obtain ⟨after, hL, hA⟩ := h.exists_exact c
  refine ⟨(hA 11).trans ?_, (hA 12).trans ?_, (hA 13).trans ?_, hu c⟩
  · refine Pipeline.Dat.arrAt_eq_of_covers _ 11 _ (by decide +kernel) fun t hf y => ?_
    have hP : Post11 m c t (after 11 t) := Pipeline.Dat.toRRel_leaves (dats m 0 c) (fgt := outs) (Rl := Rl m c) (w := 11) rfl (hL 11 t hf)
    rw [show y = ix3 0 (y 1) (y 2) from ix3_unit y]
    exact post11_eq m c t _ hP (y 1) (y 2)
  · refine Pipeline.Dat.arrAt_eq_of_covers _ 12 _ (by decide +kernel) fun t hf y => ?_
    have hP : Post12 m c t (after 12 t) := Pipeline.Dat.toRRel_leaves (dats m 0 c) (fgt := outs) (Rl := Rl m c) (w := 12) rfl (hL 12 t hf)
    rw [show y = ix3 0 (y 1) (y 2) from ix3_unit y]
    exact post12_eq m c t _ hP (y 1) (y 2)
  · refine Pipeline.Dat.arrAt_eq_of_covers _ 13 _ (by decide +kernel) fun t hf y => ?_
    have hP : Post13 m c t (after 13 t) := Pipeline.Dat.toRRel_leaves (dats m 0 c) (fgt := outs) (Rl := Rl m c) (w := 13) rfl (hL 13 t hf)
    have h4 := flush13 t hf
    have hy : y = ix2 (y 0) (y 1) := by funext d; fin_cases d <;> rfl
    rw [hy]
    exact post13_eq m c t h4 _ hP (y 0) (y 1)

end Cert.FfnIdeal.Hand

end
-- ==== Proof.FfnRefCell.lean ====
/- The reference's values at an index, on the extended reals. -/
module

public import proofs.«01_k».proof.Proof.Gen.FfnRefIdeal.Skeleton
public import proofs.«01_k».proof.Proof.FfnSpec
public import Idealize.ShloMosaic.Lib.Pointwise

@[expose] public section

set_option maxRecDepth 16384

noncomputable section

namespace Cert.FfnRefIdeal.Cell

open Cert.FfnRefIdeal Cert.FfnRefIdeal.Gen Cert.FfnSpec
open Idealize.ShloMosaic

/-- The named constant `gelu_c` is √(2/π). -/
theorem gelu_c_eq : (Named.named (F := Ideal) κ "gelu_c" (φ := .f32) 0x3F4C422A#32 : EReal) = (C : EReal) :=
  IdealRules.named_const.ideal_named_scalar _ _ _ _ rfl

/-- The named constant `gelu_k` is 0.044715. -/
theorem gelu_k_eq : (Named.named (F := Ideal) κ "gelu_k" (φ := .f32) 0x3D372713#32 : EReal) = (K : EReal) :=
  IdealRules.named_const.ideal_named_scalar _ _ _ _ rfl

/-- Sample `s`'s hidden row `i`. -/
def hid (v0 : Vec Ideal S5x384x1536 .fp8e4m3) (v1 : Vec Ideal S1536x8960 .fp8e4m3) (v3 : Vec Ideal S5x384 .f32)
    (v7 v11 : Vec Ideal S8960 .f32) (s : Fin 5) (i : Fin 384) : Fin 8960 → EReal :=
  hidden (fun k => v0 (ix3 s i k)) (v3 (ix2 s i)) (fun k n => v1 (ix2 k n)) (fun n => v7 (ix1 n)) (fun n => v11 (ix1 n))

/-- The hidden values. -/
theorem hidden_apply (v0 : Vec Ideal S5x384x1536 .fp8e4m3) (v1 : Vec Ideal S1536x8960 .fp8e4m3) (v3 : Vec Ideal S5x384 .f32)
    (v7 v11 : Vec Ideal S8960 .f32) (s : Fin 5) (i : Fin 384) (n : Fin 8960) :
    k0_pay3 v0 v1 v3 v7 v11 (ix3 s i n) = hid v0 v1 v3 v7 v11 s i n := by
  pointwise [k0_pay3]
  rw [gelu_c_eq, gelu_k_eq]
  rfl

/-- The largest absolute value of each row of any array of hidden values. -/
def amaxVec (g : FVec Ideal S5x384x8960 .f32) : FVec Ideal S5x384 .f32 :=
  multiReduction .maximumf [2] S5x384 (absf g) 0xFF800000#32 reduces_S5x384x8960_S5x384 (.inl rfl) rfl

/-- Its entry is the fold of the absolute values along the row. -/
theorem amaxVec_apply (g : FVec Ideal S5x384x8960 .f32) (s : Fin 5) (i : Fin 384) :
    amaxVec g (ix2 s i) = amax (fun n => g (ix3 s i n)) := by
  obtain ⟨r, hr⟩ : ∃ r, r = amax (fun n => g (ix3 s i n)) := ⟨_, rfl⟩
  rw [← hr]
  pointwise [amaxVec]
  rw [hr]
  unfold amax
  exact congrArg (fun f => Finset.fold max (Ideal.ofBits .f32 0xFF800000#32) f Finset.univ) (funext fun n => rfl)

/-- The scales from the largest absolute values. -/
def scaleVec (a : FVec Ideal S5x384 .f32) : FVec Ideal S5x384 .f32 :=
  select (cmpf .ogt a (broadcast S5x384 (Scalar.ofBits .f32 0x00000000#32)))
    (divf a (broadcast S5x384 (Scalar.ofBits .f32 0x43E00000#32)))
    (broadcast S5x384 (Scalar.ofBits .f32 0x3F800000#32))

/-- A scale at its index. -/
theorem scaleVec_apply (a : FVec Ideal S5x384 .f32) (s : Fin 5) (i : Fin 384) :
    scaleVec a (ix2 s i) = scaleOf (a (ix2 s i)) := by
  pointwise [scaleVec]
  rfl

/-- The codes of any array of hidden values at any scales. -/
def codeVec (g : FVec Ideal S5x384x8960 .f32) (sc : FVec Ideal S5x384 .f32) : FVec Ideal S5x384x8960 .fp8e4m3 :=
  truncf .fp8e4m3 (minimumf (broadcast S5x384x8960 (Scalar.ofBits .f32 0x43E00000#32))
    (maximumf (broadcast S5x384x8960 (Scalar.ofBits .f32 0xC3E00000#32))
      (divf g (broadcastTo S5x384x8960 (shapeCast S5x384x1 sc shapeCasts_S5x384_S5x384x1) broadcasts_S5x384x1_S5x384x8960)))) bitsLt_fp8e4m3_f32

/-- A code at its index. -/
theorem codeVec_apply (g : FVec Ideal S5x384x8960 .f32) (sc : FVec Ideal S5x384 .f32) (s : Fin 5) (i : Fin 384) (n : Fin 8960) :
    codeVec g sc (ix3 s i n) = codeOf (g (ix3 s i n)) (sc (ix2 s i)) := by
  pointwise [codeVec]
  rfl

/-- The reference's scales are those of its hidden values. -/
theorem pay4_eq (v0 : Vec Ideal S5x384x1536 .fp8e4m3) (v1 : Vec Ideal S1536x8960 .fp8e4m3) (v3 : Vec Ideal S5x384 .f32)
    (v7 v11 : Vec Ideal S8960 .f32) : k0_pay4 v0 v1 v3 v7 v11 = scaleVec (amaxVec (k0_pay3 v0 v1 v3 v7 v11)) := rfl

/-- The reference's codes are those of its hidden values. -/
theorem codes_eq (v0 : Vec Ideal S5x384x1536 .fp8e4m3) (v1 : Vec Ideal S1536x8960 .fp8e4m3) (v3 : Vec Ideal S5x384 .f32)
    (v7 v11 : Vec Ideal S8960 .f32) : k0_pay1 (k0_pay5 v0 v1 v3 v7 v11) k0_pay6
      = codeVec (k0_pay3 v0 v1 v3 v7 v11) (k0_pay4 v0 v1 v3 v7 v11) := rfl

/-- The scale of a row. -/
theorem scale_apply (v0 : Vec Ideal S5x384x1536 .fp8e4m3) (v1 : Vec Ideal S1536x8960 .fp8e4m3) (v3 : Vec Ideal S5x384 .f32)
    (v7 v11 : Vec Ideal S8960 .f32) (s : Fin 5) (i : Fin 384) :
    k0_pay4 v0 v1 v3 v7 v11 (ix2 s i) = rowScale (hid v0 v1 v3 v7 v11 s i) := by
  have e : (fun n => k0_pay3 v0 v1 v3 v7 v11 (ix3 s i n)) = hid v0 v1 v3 v7 v11 s i :=
    funext fun n => hidden_apply v0 v1 v3 v7 v11 s i n
  rw [pay4_eq, scaleVec_apply, amaxVec_apply, e, rowScale]

/-- The codes. -/
theorem code_apply (v0 : Vec Ideal S5x384x1536 .fp8e4m3) (v1 : Vec Ideal S1536x8960 .fp8e4m3) (v3 : Vec Ideal S5x384 .f32)
    (v7 v11 : Vec Ideal S8960 .f32) (s : Fin 5) (i : Fin 384) (n : Fin 8960) :
    k0_pay1 (k0_pay5 v0 v1 v3 v7 v11) k0_pay6 (ix3 s i n)
      = codeOf (hid v0 v1 v3 v7 v11 s i n) (rowScale (hid v0 v1 v3 v7 v11 s i)) := by
  rw [codes_eq, codeVec_apply, scale_apply, hidden_apply]

/-- The result from any codes and scales. -/
theorem pay2_apply (sc : FVec Ideal S5x384 .f32) (c d : FVec Ideal S5x384x8960 .f32) (v45 : Vec Ideal S8960x1536 .fp8e4m3) (v50 v54 : Vec Ideal S1536 .f32)
    (v58 : Vec Ideal S5x384x1536 .f32) (v59 : Vec Ideal S5x1x1536 .f32) (s : Fin 5) (i : Fin 384) (j : Fin 1536) :
    k0_pay2 sc c d v45 v50 v54 v58 v59 (ix3 s i j)
      = v58 (ix3 s i j) + v59 (ix3 s 0 j) * ((∑ n : Fin 8960, k0_pay1 c d (ix3 s i n) * v45 (ix2 n j)) * sc (ix2 s i) * v50 (ix1 j) + v54 (ix1 j)) := by
  pointwise [k0_pay2]

/-- The step's result. -/
theorem out_apply (v0 : Vec Ideal S5x384x1536 .fp8e4m3) (v1 : Vec Ideal S1536x8960 .fp8e4m3) (v3 : Vec Ideal S5x384 .f32)
    (v7 v11 : Vec Ideal S8960 .f32) (v45 : Vec Ideal S8960x1536 .fp8e4m3) (v50 v54 : Vec Ideal S1536 .f32)
    (v58 : Vec Ideal S5x384x1536 .f32) (v59 : Vec Ideal S5x1x1536 .f32) (s : Fin 5) (i : Fin 384) (j : Fin 1536) :
    k0_pay2 (k0_pay4 v0 v1 v3 v7 v11) (k0_pay5 v0 v1 v3 v7 v11) k0_pay6 v45 v50 v54 v58 v59 (ix3 s i j)
      = result (hid v0 v1 v3 v7 v11 s i) (fun n j => v45 (ix2 n j)) (fun j => v50 (ix1 j)) (fun j => v54 (ix1 j))
          (fun j => v58 (ix3 s i j)) (fun j => v59 (ix3 s 0 j)) j := by
  rw [pay2_apply, scale_apply]
  simp only [code_apply]
  rfl

end Cert.FfnRefIdeal.Cell

end
-- ==== Proof.FfnRefValue.lean ====
/- The reference's results as functions of its arguments. -/
module

public import proofs.«01_k».proof.Proof.Gen.FfnRefIdeal.Value
public import proofs.«01_k».proof.Proof.FfnRefCell
public import proofs.«01_k».proof.Proof.FfnStep
public import Idealize.ShloMosaic.Lib.Pipeline.ValueKit

@[expose] public section

set_option maxRecDepth 16384

noncomputable section

namespace Cert.FfnRefIdeal.Hand

open Cert.FfnRefIdeal Cert.FfnRefIdeal.Gen Cert.FfnRefIdeal.Cell Cert.FfnSpec
open Idealize.ShloMosaic Idealize.ShloMosaic.TcCoe Idealize.SL.Sem

variable (m : (ℓ : Loc nD τ sig) → Buf (Elt Ideal) ℓ) (ρ : Dev nD → PrngReg)

/-! ## Each block is its whole array -/

theorem idx0 : ∀ t : Fin cfg0.N, win0_0.index t = ![0, 0, 0] := by decide +kernel
theorem idx1 : ∀ t : Fin cfg0.N, win0_1.index t = ![0, 0] := by decide +kernel
theorem idx2 : ∀ t : Fin cfg0.N, win0_2.index t = ![0, 0, 0] := by decide +kernel
theorem idx3 : ∀ t : Fin cfg0.N, win0_3.index t = ![0, 0, 0] := by decide +kernel
theorem idx4 : ∀ t : Fin cfg0.N, win0_4.index t = ![0, 0] := by decide +kernel
theorem idx5 : ∀ t : Fin cfg0.N, win0_5.index t = ![0] := by decide +kernel
theorem idx6 : ∀ t : Fin cfg0.N, win0_6.index t = ![0] := by decide +kernel
theorem idx7 : ∀ t : Fin cfg0.N, win0_7.index t = ![0, 0] := by decide +kernel
theorem idx8 : ∀ t : Fin cfg0.N, win0_8.index t = ![0] := by decide +kernel
theorem idx9 : ∀ t : Fin cfg0.N, win0_9.index t = ![0] := by decide +kernel
theorem idx10 : ∀ t : Fin cfg0.N, win0_10.index t = ![0, 0, 0] := by decide +kernel
theorem idx11 : ∀ t : Fin cfg0.N, win0_11.index t = ![0, 0, 0] := by decide +kernel
theorem idx12 : ∀ t : Fin cfg0.N, win0_12.index t = ![0, 0] := by decide +kernel

theorem blk0 (c : Dev nD) (t : Fin cfg0.N) (s : Fin 5) (i : Fin 384) (k : Fin 1536) :
    iblk m c 0 t (ix3 s i k : (win0_0.xblock (grid0.coords t)).Idx) = m ((c : Thread nD τ).loc main_arg0) (ix3 s i k) := by
  blk_ext [iblk, V, idx0]
theorem blk1 (c : Dev nD) (t : Fin cfg0.N) (s : Fin 5) (i : Fin 384) :
    iblk m c 1 t (ix2 s i : (win0_1.xblock (grid0.coords t)).Idx) = m ((c : Thread nD τ).loc main_arg1) (ix2 s i) := by
  blk_ext [iblk, V, idx1]
theorem blk2 (c : Dev nD) (t : Fin cfg0.N) (s : Fin 5) (i : Fin 384) (k : Fin 1536) :
    iblk m c 2 t (ix3 s i k : (win0_2.xblock (grid0.coords t)).Idx) = m ((c : Thread nD τ).loc main_arg2) (ix3 s i k) := by
  blk_ext [iblk, V, idx2]
theorem blk4 (c : Dev nD) (t : Fin cfg0.N) (i : Fin 1536) (k : Fin 8960) :
    iblk m c 4 t (ix2 i k : (win0_4.xblock (grid0.coords t)).Idx) = m ((c : Thread nD τ).loc main_arg5) (ix2 i k) := by
  blk_ext [iblk, V, idx4]
theorem blk5 (c : Dev nD) (t : Fin cfg0.N) (k : Fin 8960) :
    iblk m c 5 t (ix1 k : (win0_5.xblock (grid0.coords t)).Idx) = m ((c : Thread nD τ).loc main_arg6) (ix1 k) := by
  blk_ext [iblk, V, idx5]
theorem blk6 (c : Dev nD) (t : Fin cfg0.N) (k : Fin 8960) :
    iblk m c 6 t (ix1 k : (win0_6.xblock (grid0.coords t)).Idx) = m ((c : Thread nD τ).loc main_arg7) (ix1 k) := by
  blk_ext [iblk, V, idx6]
theorem blk7 (c : Dev nD) (t : Fin cfg0.N) (i : Fin 8960) (k : Fin 1536) :
    iblk m c 7 t (ix2 i k : (win0_7.xblock (grid0.coords t)).Idx) = m ((c : Thread nD τ).loc main_arg8) (ix2 i k) := by
  blk_ext [iblk, V, idx7]
theorem blk8 (c : Dev nD) (t : Fin cfg0.N) (k : Fin 1536) :
    iblk m c 8 t (ix1 k : (win0_8.xblock (grid0.coords t)).Idx) = m ((c : Thread nD τ).loc main_arg9) (ix1 k) := by
  blk_ext [iblk, V, idx8]
theorem blk9 (c : Dev nD) (t : Fin cfg0.N) (k : Fin 1536) :
    iblk m c 9 t (ix1 k : (win0_9.xblock (grid0.coords t)).Idx) = m ((c : Thread nD τ).loc main_arg10) (ix1 k) := by
  blk_ext [iblk, V, idx9]

/-- The table of modulations. -/
abbrev table (c : Dev nD) : (⟨2, ![6, 1536]⟩ : Shape).Idx → EReal := m ((c : Thread nD τ).loc main_arg4)
/-- Each sample's own modulations. -/
abbrev own (c : Dev nD) : (⟨3, ![5, 6, 1536]⟩ : Shape).Idx → EReal := m ((c : Thread nD τ).loc main_arg3)

/-- The gate's operand is the sum of row five of the table and of the sample's modulation. -/
theorem blk3 (c : Dev nD) (t : Fin cfg0.N) (s : Fin 5) (k : Fin 1536) :
    iblk m c 3 t (ix3 s 0 k : (win0_3.xblock (grid0.coords t)).Idx) = table m c (ix2 5 k) + own m c (ix3 s 5 k) := by
  have e : (win0_3.blk t).view.emb (ix3 s 0 k) = ix3 s 0 k := by blk_ext [idx3]
  blk_simp [iblk]
  entry_read
  rw [e]
  pointwise

/-! ## What the body leaves -/

theorem out10_eq (x0 : Vec Ideal S5x384x1536 .fp8e4m3) (x1 : Vec Ideal S5x384 .f32) (x2 : Vec Ideal S5x384x1536 .f32) (x3 : Vec Ideal S5x1x1536 .f32)
    (x4 : Vec Ideal S1536x8960 .fp8e4m3) (x5 x6 : Vec Ideal S8960 .f32) (x7 : Vec Ideal S8960x1536 .fp8e4m3) (x8 x9 : Vec Ideal S1536 .f32) :
    out0_10 x0 x1 x2 x3 x4 x5 x6 x7 x8 x9 = k0_pay2 (k0_pay4 x0 x4 x1 x5 x6) (k0_pay5 x0 x4 x1 x5 x6) k0_pay6 x7 x8 x9 x2 x3 := by
  funext y
  unfold_out out0_10
  frame_out

theorem out11_eq (x0 : Vec Ideal S5x384x1536 .fp8e4m3) (x1 : Vec Ideal S5x384 .f32) (x2 : Vec Ideal S5x384x1536 .f32) (x3 : Vec Ideal S5x1x1536 .f32)
    (x4 : Vec Ideal S1536x8960 .fp8e4m3) (x5 x6 : Vec Ideal S8960 .f32) (x7 : Vec Ideal S8960x1536 .fp8e4m3) (x8 x9 : Vec Ideal S1536 .f32) :
    out0_11 x0 x1 x2 x3 x4 x5 x6 x7 x8 x9 = k0_pay1 (k0_pay5 x0 x4 x1 x5 x6) k0_pay6 := by
  funext y
  unfold_out out0_11
  frame_out

theorem out12_eq (x0 : Vec Ideal S5x384x1536 .fp8e4m3) (x1 : Vec Ideal S5x384 .f32) (x2 : Vec Ideal S5x384x1536 .f32) (x3 : Vec Ideal S5x1x1536 .f32)
    (x4 : Vec Ideal S1536x8960 .fp8e4m3) (x5 x6 : Vec Ideal S8960 .f32) (x7 : Vec Ideal S8960x1536 .fp8e4m3) (x8 x9 : Vec Ideal S1536 .f32) :
    out0_12 x0 x1 x2 x3 x4 x5 x6 x7 x8 x9 = k0_pay4 x0 x4 x1 x5 x6 := by
  funext y
  unfold_out out0_12
  frame_out

/-- The hidden row in terms of the arguments. -/
theorem hid_eq (c : Dev nD) (t : Fin cfg0.N) (s : Fin 5) (i : Fin 384) :
    hid (iblk m c 0 t) (iblk m c 4 t) (iblk m c 1 t) (iblk m c 5 t) (iblk m c 6 t) s i = hidA (m ((c : Thread nD τ).loc main_arg0)) (m ((c : Thread nD τ).loc main_arg1)) (m ((c : Thread nD τ).loc main_arg5)) (m ((c : Thread nD τ).loc main_arg6)) (m ((c : Thread nD τ).loc main_arg7)) s i := by
  unfold hid hidA
  simp only [blk0, blk1, blk4, blk5, blk6]

theorem emb10 (t : Fin cfg0.N) (s : Fin 5) (i : Fin 384) (j : Fin 1536) : (win0_10.blk t).view.emb (ix3 s i j) = ix3 s i j := by
  blk_ext [idx10]
theorem emb11 (t : Fin cfg0.N) (s : Fin 5) (i : Fin 384) (j : Fin 8960) : (win0_11.blk t).view.emb (ix3 s i j) = ix3 s i j := by
  blk_ext [idx11]
theorem emb12 (t : Fin cfg0.N) (s : Fin 5) (i : Fin 384) : (win0_12.blk t).view.emb (ix2 s i) = ix2 s i := by
  blk_ext [idx12]

/-- The block of the result. -/
theorem after10 (c : Dev nD) (t : Fin cfg0.N) (s : Fin 5) (i : Fin 384) (j : Fin 1536) :
    (dats m 0 c).after 10 t (ix3 s i j) = outA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ((win0_10.blk t).view.emb (ix3 s i j)) := by
  rw [emb10, after0_10, out10_eq]
  refine (out_apply _ _ _ _ _ _ _ _ _ _ s i j).trans ?_
  rw [hid_eq]
  simp only [blk2, blk3, blk7, blk8, blk9]
  rfl

/-- The block of the codes. -/
theorem after11 (c : Dev nD) (t : Fin cfg0.N) (s : Fin 5) (i : Fin 384) (j : Fin 8960) :
    (dats m 0 c).after 11 t (ix3 s i j) = codesA (m ((c : Thread nD τ).loc main_arg0)) (m ((c : Thread nD τ).loc main_arg1)) (m ((c : Thread nD τ).loc main_arg5)) (m ((c : Thread nD τ).loc main_arg6)) (m ((c : Thread nD τ).loc main_arg7)) ((win0_11.blk t).view.emb (ix3 s i j)) := by
  rw [emb11, after0_11, out11_eq]
  refine (code_apply _ _ _ _ _ s i j).trans ?_
  rw [hid_eq]
  rfl

/-- The block of the scales. -/
theorem after12 (c : Dev nD) (t : Fin cfg0.N) (s : Fin 5) (i : Fin 384) :
    (dats m 0 c).after 12 t (ix2 s i) = scaleA (m ((c : Thread nD τ).loc main_arg0)) (m ((c : Thread nD τ).loc main_arg1)) (m ((c : Thread nD τ).loc main_arg5)) (m ((c : Thread nD τ).loc main_arg6)) (m ((c : Thread nD τ).loc main_arg7)) ((win0_12.blk t).view.emb (ix2 s i)) := by
  rw [emb12, after0_12, out12_eq]
  refine (scale_apply _ _ _ _ _ s i).trans ?_
  rw [hid_eq]
  rfl

/-- An index is its coordinates. -/
theorem ix3_eta {a b d : ℕ} (y : (⟨3, ![a, b, d]⟩ : Shape).Idx) : y = ix3 (y 0) (y 1) (y 2) := by
  funext k; fin_cases k <;> rfl
theorem ix2_eta {a b : ℕ} (y : (⟨2, ![a, b]⟩ : Shape).Idx) : y = ix2 (y 0) (y 1) := by
  funext k; fin_cases k <;> rfl

/-- Every run ends with the three results at their values, and the arguments unchanged. -/
theorem run_values : θ_run defs (onTc (τ := τ) (main (F := Ideal))) ⟨m, fun _ => 0, ρ⟩ (fun r => ∀ c : Dev nD,
      r.2.mem ((c.tc : Thread nD τ).loc main_v6_0) = outA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v6_1) = codesA (m ((c : Thread nD τ).loc main_arg0)) (m ((c : Thread nD τ).loc main_arg1)) (m ((c : Thread nD τ).loc main_arg5)) (m ((c : Thread nD τ).loc main_arg6)) (m ((c : Thread nD τ).loc main_arg7))
      ∧ r.2.mem ((c.tc : Thread nD τ).loc main_v6_2) = scaleA (m ((c : Thread nD τ).loc main_arg0)) (m ((c : Thread nD τ).loc main_arg1)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r hr c => ?_) (Value.run_blocks m ρ)
  obtain ⟨h0, h1, h2, hu⟩ := hr c
  refine ⟨h0.trans ?_, h1.trans ?_, h2.trans ?_, hu⟩
  · refine Pipeline.Dat.arrAt_eq_of_covers _ 10 _ (by decide +kernel) fun t hf y => ?_
    rw [show y = ix3 (y 0) (y 1) (y 2) from ix3_eta y]
    exact after10 m c t (y 0) (y 1) (y 2)
  · refine Pipeline.Dat.arrAt_eq_of_covers _ 11 _ (by decide +kernel) fun t hf y => ?_
    rw [show y = ix3 (y 0) (y 1) (y 2) from ix3_eta y]
    exact after11 m c t (y 0) (y 1) (y 2)
  · refine Pipeline.Dat.arrAt_eq_of_covers _ 12 _ (by decide +kernel) fun t hf y => ?_
    rw [show y = ix2 (y 0) (y 1) from ix2_eta y]
    exact after12 m c t (y 0) (y 1)

end Cert.FfnRefIdeal.Hand
-- ==== Proof.QkvFrame.lean ====
/- The frame of the program `Qkv` at any float instance: the outputs' contents are not named. -/
module

public import proofs.«01_k».proof.Proof.Gen.Qkv.Frame
public import proofs.«01_k».proof.Proof.Gen.Qkv.Skeleton
public import Idealize.ShloMosaic.Lib.Pipeline.DatRel
public import Idealize.ShloMosaic.Lib.Claim

@[expose] public section

set_option maxRecDepth 16384

noncomputable section

namespace Cert.Qkv.Hand

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Qkv`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c)),
      (Pipeline.RDat.FramePost.arr_in h c 11 rfl).trans ((hA c 11).trans (V_main_arg11 m c)),
      (Pipeline.RDat.FramePost.arr_in h c 12 rfl).trans ((hA c 12).trans (V_main_arg12 m c)),
      (Pipeline.RDat.FramePost.arr_in h c 13 rfl).trans ((hA c 13).trans (V_main_arg13 m c)),
      (Pipeline.RDat.FramePost.arr_in h c 14 rfl).trans ((hA c 14).trans (V_main_arg14 m c)),
      (Pipeline.RDat.FramePost.arr_in h c 15 rfl).trans ((hA c 15).trans (V_main_arg15 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [cond0_0, e0]
    word_cmp
   : ∀ t : Fin grid0.N, cond0_0 (grid0.coords t) ↔ t.val % 5 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x384x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6x1536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S12x1536x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S12x1536x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S12x1536x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S12x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S12x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S12x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S12x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S12x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S12x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S12x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S12x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x12x384x128 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x12x384x128 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x12x384x128 .bf16 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x384x1536 .fp8e4m3 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S5x384 .f32 := win0_20.stage (cfg0.slots t 20)
abbrev hs0_20 (t : Fin cfg0.N) : (ms0_20 t).IsWhole := hstage0_20 ((cfg0.slots t 20).cast nbuf0_20)
/-- The scratch operands: whole scoped buffers of the kernel's own, passed beside the windows. -/
abbrev scM0_0 : Memref sig .tc .vmem S2x12x384x128 .f32 := Memref.whole cc0_scratch0
abbrev scM0_1 : Memref sig .tc .vmem S2x384x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: checking it walks past the default budget)
set_option maxHeartbeats 2444000 in set_option sl_exec.squeezeSlice true in
/-- The body's triple IN CASE A (`scf.if` 0 taken: points 0): on whole staging memrefs — the inputs' at their contents,
    the FORGOTTEN outputs' (16, 17, 18, 19, 20) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1x384x1536 .bf16) (harg1 : arg1.IsWhole) (arg2 : Memref sig .tc .vmem S1x6x1536 .f32) (harg2 : arg2.IsWhole) (arg3 : Memref sig .tc .vmem S6x1536 .f32) (harg3 : arg3.IsWhole) (arg4 : Memref sig .tc .vmem S64x384 .f32) (harg4 : arg4.IsWhole) (arg5 : Memref sig .tc .vmem S64x384 .f32) (harg5 : arg5.IsWhole) (arg6 : Memref sig .tc .vmem S12x1536x128 .fp8e4m3) (harg6 : arg6.IsWhole) (arg7 : Memref sig .tc .vmem S12x1536x128 .fp8e4m3) (harg7 : arg7.IsWhole) (arg8 : Memref sig .tc .vmem S12x1536x128 .fp8e4m3) (harg8 : arg8.IsWhole) (arg9 : Memref sig .tc .vmem S12x128 .f32) (harg9 : arg9.IsWhole) (arg10 : Memref sig .tc .vmem S12x128 .f32) (harg10 : arg10.IsWhole) (arg11 : Memref sig .tc .vmem S12x128 .f32) (harg11 : arg11.IsWhole) (arg12 : Memref sig .tc .vmem S12x128 .f32) (harg12 : arg12.IsWhole) (arg13 : Memref sig .tc .vmem S12x128 .f32) (harg13 : arg13.IsWhole) (arg14 : Memref sig .tc .vmem S12x128 .f32) (harg14 : arg14.IsWhole) (arg15 : Memref sig .tc .vmem S12x128 .f32) (harg15 : arg15.IsWhole) (arg16 : Memref sig .tc .vmem S12x128 .f32) (harg16 : arg16.IsWhole) (arg17 : Memref sig .tc .vmem S1x12x384x128 .bf16) (harg17 : arg17.IsWhole) (arg18 : Memref sig .tc .vmem S1x12x384x128 .bf16) (harg18 : arg18.IsWhole) (arg19 : Memref sig .tc .vmem S1x12x384x128 .bf16) (harg19 : arg19.IsWhole) (arg20 : Memref sig .tc .vmem S1x384x1536 .fp8e4m3) (harg20 : arg20.IsWhole) (arg21 : Memref sig .tc .vmem S5x384 .f32) (harg21 : arg21.IsWhole) (arg22 : Memref sig .tc .vmem S2x12x384x128 .f32) (harg22 : arg22.IsWhole) (arg23 : Memref sig .tc .vmem S2x384x128 .f32) (harg23 : arg23.IsWhole) (hc0 : cond0_0 i)
    (x0 : Vec F S1x384x1536 .bf16) (x1 : Vec F S1x6x1536 .f32) (x2 : Vec F S6x1536 .f32) (x3 : Vec F S64x384 .f32) (x4 : Vec F S64x384 .f32) (x5 : Vec F S12x1536x128 .fp8e4m3) (x6 : Vec F S12x1536x128 .fp8e4m3) (x7 : Vec F S12x1536x128 .fp8e4m3) (x8 : Vec F S12x128 .f32) (x9 : Vec F S12x128 .f32) (x10 : Vec F S12x128 .f32) (x11 : Vec F S12x128 .f32) (x12 : Vec F S12x128 .f32) (x13 : Vec F S12x128 .f32) (x14 : Vec F S12x128 .f32) (x15 : Vec F S12x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_qkv_eq_skeleton]; unfold cc0_qkv_skel
    simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [HS0]
    · iexists _, _; isplitr; swap; · iexact HS0
      ipureintro; rfl
    iexists _, _; isplitr; swap; · iexact HS1
    ipureintro; rfl

-- (the run's proof term is large: checking it walks past the default budget)
set_option maxHeartbeats 2396000 in set_option sl_exec.squeezeSlice true in
/-- The body's triple IN CASE B (`scf.if` 0 not taken: points 1, 2, 3, 4): on whole staging memrefs — the inputs' at their contents,
    the FORGOTTEN outputs' (16, 17, 18, 19, 20) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1x384x1536 .bf16) (harg1 : arg1.IsWhole) (arg2 : Memref sig .tc .vmem S1x6x1536 .f32) (harg2 : arg2.IsWhole) (arg3 : Memref sig .tc .vmem S6x1536 .f32) (harg3 : arg3.IsWhole) (arg4 : Memref sig .tc .vmem S64x384 .f32) (harg4 : arg4.IsWhole) (arg5 : Memref sig .tc .vmem S64x384 .f32) (harg5 : arg5.IsWhole) (arg6 : Memref sig .tc .vmem S12x1536x128 .fp8e4m3) (harg6 : arg6.IsWhole) (arg7 : Memref sig .tc .vmem S12x1536x128 .fp8e4m3) (harg7 : arg7.IsWhole) (arg8 : Memref sig .tc .vmem S12x1536x128 .fp8e4m3) (harg8 : arg8.IsWhole) (arg9 : Memref sig .tc .vmem S12x128 .f32) (harg9 : arg9.IsWhole) (arg10 : Memref sig .tc .vmem S12x128 .f32) (harg10 : arg10.IsWhole) (arg11 : Memref sig .tc .vmem S12x128 .f32) (harg11 : arg11.IsWhole) (arg12 : Memref sig .tc .vmem S12x128 .f32) (harg12 : arg12.IsWhole) (arg13 : Memref sig .tc .vmem S12x128 .f32) (harg13 : arg13.IsWhole) (arg14 : Memref sig .tc .vmem S12x128 .f32) (harg14 : arg14.IsWhole) (arg15 : Memref sig .tc .vmem S12x128 .f32) (harg15 : arg15.IsWhole) (arg16 : Memref sig .tc .vmem S12x128 .f32) (harg16 : arg16.IsWhole) (arg17 : Memref sig .tc .vmem S1x12x384x128 .bf16) (harg17 : arg17.IsWhole) (arg18 : Memref sig .tc .vmem S1x12x384x128 .bf16) (harg18 : arg18.IsWhole) (arg19 : Memref sig .tc .vmem S1x12x384x128 .bf16) (harg19 : arg19.IsWhole) (arg20 : Memref sig .tc .vmem S1x384x1536 .fp8e4m3) (harg20 : arg20.IsWhole) (arg21 : Memref sig .tc .vmem S5x384 .f32) (harg21 : arg21.IsWhole) (arg22 : Memref sig .tc .vmem S2x12x384x128 .f32) (harg22 : arg22.IsWhole) (arg23 : Memref sig .tc .vmem S2x384x128 .f32) (harg23 : arg23.IsWhole) (hc0 : ¬cond0_0 i)
    (x0 : Vec F S1x384x1536 .bf16) (x1 : Vec F S1x6x1536 .f32) (x2 : Vec F S6x1536 .f32) (x3 : Vec F S64x384 .f32) (x4 : Vec F S64x384 .f32) (x5 : Vec F S12x1536x128 .fp8e4m3) (x6 : Vec F S12x1536x128 .fp8e4m3) (x7 : Vec F S12x1536x128 .fp8e4m3) (x8 : Vec F S12x128 .f32) (x9 : Vec F S12x128 .f32) (x10 : Vec F S12x128 .f32) (x11 : Vec F S12x128 .f32) (x12 : Vec F S12x128 .f32) (x13 : Vec F S12x128 .f32) (x14 : Vec F S12x128 .f32) (x15 : Vec F S12x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_qkv_eq_skeleton]; unfold cc0_qkv_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [HS0]
    · iexists _, _; isplitr; swap; · iexact HS0
      ipureintro; rfl
    iexists _, _; isplitr; swap; · iexact HS1
    ipureintro; rfl

/-- The output windows this certificate FORGETS (16, 17, 18, 19, 20): nothing reads what the kernel leaves in them, so nothing
    of it is named (Lib/Pipeline/Dat.lean `Dat.toRForget`). -/
def forgets0 : Fin 21 → Bool := fun w => w.val == 16 || w.val == 17 || w.val == 18 || w.val == 19 || w.val == 20

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨_ + 21, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d))

set_option maxHeartbeats 4000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.castSucc = Pipeline.ΦA spec0 c from rfl, PhiA0_eq]
  have hN : t.val < 5 := lt_of_lt_of_eq t.isLt (show cfg0.N = 5 from N_0)
  by_cases h0 : t.val % 5 = 0
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply ((kernelRun0_A c (grid0.coords t) _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [HS0]; · iexact HS0
    isplitl [HS1]; · iexact HS1
    iintro ⟨H0, H1, H2, H3, H4, H5, H6, H7, H8, H9, H10, H11, H12, H13, H14, H15, H16, H17, H18, H19, H20, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply ((kernelRun0_B c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [HS0]; · iexact HS0
    isplitl [HS1]; · iexact HS1
    iintro ⟨H0, H1, H2, H3, H4, H5, H6, H7, H8, H9, H10, H11, H12, H13, H14, H15, H16, H17, H18, H19, H20, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 16, 17, 18, 19, 20) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (fun c => (dats m 0 c).toRForget forgets0) (A_eq m) (run_main m ρ)

/-- THE FRAME: `Cert.quiescent_Qkv`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.Qkv.Hand

end
-- ==== Proof.QkvCond.lean ====
/- When the body's condition holds: at the first sample only. -/
module

public import proofs.«01_k».proof.Proof.Gen.QkvIdeal.Frame
public import proofs.«01_k».proof.Proof.Gen.QkvIdeal.Skeleton
public import Idealize.ShloMosaic.Lib.Pipeline.ValueKit
public import Idealize.ShloMosaic.Lib.Pipeline.ReadBack

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [cond0_0, e0]
    word_cmp
   : ∀ t : Fin grid0.N, cond0_0 (grid0.coords t) ↔ t.val % 5 = 0)

end Cert.QkvIdeal.Hand

end
-- ==== Proof.QkvBodyA.lean ====
/- One run of the kernel's body, at the first sample: the pieces it writes into its output blocks. -/
module

public import proofs.«01_k».proof.Proof.Gen.QkvIdeal.Frame
public import proofs.«01_k».proof.Proof.QkvCond
public import Idealize.ShloMosaic.Lib.Pipeline.ValueKit
public import Idealize.ShloMosaic.Lib.Pipeline.ReadBack

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2432000 in set_option sl_exec.squeezeSlice true in
/-- The pieces the body writes into each output block and into the carried scratch, at the first sample, with the proof that the body runs and writes them. -/
noncomputable def kernelRun0_A (c : Dev nD) (i : grid0.Coords) (arg1 : Memref sig .tc .vmem S1x384x1536 .bf16) (harg1 : arg1.IsWhole) (arg2 : Memref sig .tc .vmem S1x6x1536 .f32) (harg2 : arg2.IsWhole) (arg3 : Memref sig .tc .vmem S6x1536 .f32) (harg3 : arg3.IsWhole) (arg4 : Memref sig .tc .vmem S64x384 .f32) (harg4 : arg4.IsWhole) (arg5 : Memref sig .tc .vmem S64x384 .f32) (harg5 : arg5.IsWhole) (arg6 : Memref sig .tc .vmem S12x1536x128 .fp8e4m3) (harg6 : arg6.IsWhole) (arg7 : Memref sig .tc .vmem S12x1536x128 .fp8e4m3) (harg7 : arg7.IsWhole) (arg8 : Memref sig .tc .vmem S12x1536x128 .fp8e4m3) (harg8 : arg8.IsWhole) (arg9 : Memref sig .tc .vmem S12x128 .f32) (harg9 : arg9.IsWhole) (arg10 : Memref sig .tc .vmem S12x128 .f32) (harg10 : arg10.IsWhole) (arg11 : Memref sig .tc .vmem S12x128 .f32) (harg11 : arg11.IsWhole) (arg12 : Memref sig .tc .vmem S12x128 .f32) (harg12 : arg12.IsWhole) (arg13 : Memref sig .tc .vmem S12x128 .f32) (harg13 : arg13.IsWhole) (arg14 : Memref sig .tc .vmem S12x128 .f32) (harg14 : arg14.IsWhole) (arg15 : Memref sig .tc .vmem S12x128 .f32) (harg15 : arg15.IsWhole) (arg16 : Memref sig .tc .vmem S12x128 .f32) (harg16 : arg16.IsWhole) (arg17 : Memref sig .tc .vmem S1x12x384x128 .bf16) (harg17 : arg17.IsWhole) (arg18 : Memref sig .tc .vmem S1x12x384x128 .bf16) (harg18 : arg18.IsWhole) (arg19 : Memref sig .tc .vmem S1x12x384x128 .bf16) (harg19 : arg19.IsWhole) (arg20 : Memref sig .tc .vmem S1x384x1536 .fp8e4m3) (harg20 : arg20.IsWhole) (arg21 : Memref sig .tc .vmem S5x384 .f32) (harg21 : arg21.IsWhole) (arg22 : Memref sig .tc .vmem S2x12x384x128 .f32) (harg22 : arg22.IsWhole) (arg23 : Memref sig .tc .vmem S2x384x128 .f32) (harg23 : arg23.IsWhole) (hc0 : cond0_0 i)
    (x0 : Vec F S1x384x1536 .bf16) (x1 : Vec F S1x6x1536 .f32) (x2 : Vec F S6x1536 .f32) (x3 : Vec F S64x384 .f32) (x4 : Vec F S64x384 .f32) (x5 : Vec F S12x1536x128 .fp8e4m3) (x6 : Vec F S12x1536x128 .fp8e4m3) (x7 : Vec F S12x1536x128 .fp8e4m3) (x8 : Vec F S12x128 .f32) (x9 : Vec F S12x128 .f32) (x10 : Vec F S12x128 .f32) (x11 : Vec F S12x128 .f32) (x12 : Vec F S12x128 .f32) (x13 : Vec F S12x128 .f32) (x14 : Vec F S12x128 .f32) (x15 : Vec F S12x128 .f32) :
    Σ' (L16 : List (View.Piece (Elt F) S1x12x384x128 .bf16)), Σ' (L17 : List (View.Piece (Elt F) S1x12x384x128 .bf16)), Σ' (L18 : List (View.Piece (Elt F) S1x12x384x128 .bf16)), Σ' (L19 : List (View.Piece (Elt F) S1x384x1536 .fp8e4m3)), Σ' (L20 : List (View.Piece (Elt F) S5x384 .f32)), { LS1 : List (View.Piece (Elt F) S2x384x128 .f32) //
      ∀ (y : Vec F S5x384 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare y ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (arg21.view.loc (c : Thread nD τ) ↦[arg21.view.set]{fullShare} arg21.view.writes (Elt F) (harg21.unread y) L20) ∗ (∃ d, owns (c : Thread nD τ) arg22 fullShare d) ∗ (∃ f, arg23.view.loc (c : Thread nD τ) ↦[arg23.view.set]{fullShare} arg23.view.writes (Elt F) f LS1)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, fun y E K => ?run⟩
  case run =>
    simp only [cc0_qkv_eq_skeleton]; unfold cc0_qkv_skel
    simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%f20, %hf20, H20⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg21.eq_unread hf20
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [H20]; · iexact H20
    isplitl [HS0]
    · iexists _, _; isplitr; swap; · iexact HS0
      ipureintro; rfl
    iexists _; iexact HS1

end Cert.QkvIdeal.Hand

end
-- ==== Proof.QkvSpec.lean ====
/- The projection step as functions of extended reals, row by row: the modulated layer norm, the codes of a row,
   the heads' projections, their joint root-mean-square norm, the rotation of the lanes in pairs. -/
module

public import proofs.«01_k».proof.Proof.FfnSpec

@[expose] public section

noncomputable section

namespace Cert.QkvSpec

open Idealize.ShloMosaic Cert.FfnSpec

/-- The width of a row, as both programs spell it. -/
def width : EReal := Ideal.ofBits .f32 0x44C00000#32

/-- The small constant under the roots, as both programs spell it. -/
def eps : EReal := Ideal.ofBits .f32 0x358637BD#32

/-- The width's value. -/
theorem width_eq : width = ((1536 : ℝ) : EReal) := by
  simp [width, Ideal.ofBits, Ideal.ieee, -EReal.coe_mul]; norm_num

/-- The small constant is positive. -/
theorem eps_pos : 0 < eps := by
  simp [eps, Ideal.ofBits, Ideal.ieee, -EReal.coe_mul]

/-- A row less its mean. -/
def centred (x : Fin 1536 → EReal) (k : Fin 1536) : EReal := x k - Ideal.div (∑ j, x j) width

/-- A row normalised, scaled by one plus `sc` and shifted by `sh`. -/
def xrow (x sc sh : Fin 1536 → EReal) (k : Fin 1536) : EReal :=
  Ideal.div (centred x k) (Ideal.sqrt (Ideal.div (∑ j, centred x j * centred x j) width + eps)) * (1 + sc k) + sh k

/-- One value of a head's projection, from the row's codes `codes` and its scale `xs`. -/
def head (codes : Fin 1536 → EReal) (xs : EReal) (w : Fin 1536 → Fin 12 → Fin 128 → EReal) (s b : Fin 12 → Fin 128 → EReal)
    (h : Fin 12) (l : Fin 128) : EReal :=
  (∑ k, codes k * w k h l) * xs * s h l + b h l

/-- The root of the mean square of all heads' values, with the small constant. -/
def root (p : Fin 12 → Fin 128 → EReal) : EReal :=
  Ideal.sqrt (Ideal.div (∑ h, ∑ l, p h l * p h l) width + eps)

/-- The heads' values over their root mean square, scaled by `g`. -/
def rms (p g : Fin 12 → Fin 128 → EReal) (h : Fin 12) (l : Fin 128) : EReal := Ideal.div (p h l) (root p) * g h l

/-- The lanes of a head rotated in pairs by the angles whose cosines and sines are `c` and `s`. -/
def rot (n : Fin 128 → EReal) (c s : Fin 64 → EReal) (l : Fin 128) : EReal :=
  if l.val % 2 = 0 then n l * c ⟨l / 2, by omega⟩ - n ⟨(l + 1) % 128, Nat.mod_lt _ (by omega)⟩ * s ⟨l / 2, by omega⟩
  else n ⟨(l + 127) % 128, Nat.mod_lt _ (by omega)⟩ * s ⟨l / 2, by omega⟩ + n l * c ⟨l / 2, by omega⟩

/-- A square is not negative. -/
theorem mul_self_nonneg (x : EReal) : 0 ≤ x * x := by
  rcases le_total 0 x with h | h
  · exact mul_nonneg h h
  · have := mul_nonneg (EReal.neg_nonneg.mpr h) (EReal.neg_nonneg.mpr h)
    rwa [neg_mul, mul_neg, neg_neg] at this

/-- The root of a positive number is positive. -/
theorem sqrt_pos {x : EReal} (h : 0 < x) : 0 < Ideal.sqrt x := by
  induction x with
  | bot => simp at h
  | top => exact EReal.zero_lt_top
  | coe r =>
    have hr : 0 < r := by exact_mod_cast h
    have : ¬ r < 0 := not_lt.mpr hr.le
    show 0 < if r < 0 then (⊥ : EReal) else (Real.sqrt r : EReal)
    rw [if_neg this]
    exact_mod_cast Real.sqrt_pos.mpr hr

/-- Dividing by the width is multiplying by its reciprocal. -/
theorem div_width (x : EReal) : Ideal.div x width = x * ((1536⁻¹ : ℝ) : EReal) := by
  have h : width ≠ 0 := by rw [width_eq]; norm_num
  rw [Ideal.div, if_neg h, width_eq, ← EReal.coe_inv]

/-- The root is positive. -/
theorem root_pos (p : Fin 12 → Fin 128 → EReal) : 0 < root p := by
  refine sqrt_pos (lt_of_lt_of_le eps_pos ?_)
  rw [div_width]
  refine le_add_of_nonneg_left (mul_nonneg (Finset.sum_nonneg fun h _ => Finset.sum_nonneg fun l _ => mul_self_nonneg _) ?_)
  exact_mod_cast (by norm_num : (0 : ℝ) ≤ 1536⁻¹)

/-- Multiplying by the reciprocal of the root is dividing by it. -/
theorem mul_recip (x r : EReal) (h : 0 < r) : x * Ideal.div 1 r = Ideal.div x r := by
  rw [Ideal.div, Ideal.div, if_neg h.ne', if_neg h.ne', one_mul]

end Cert.QkvSpec

end
-- ==== Proof.QkvCell.lean ====
/- The projection kernel's values at an index, on the extended reals. -/
module

public import proofs.«01_k».proof.Proof.Gen.QkvIdeal.Skeleton
public import proofs.«01_k».proof.Proof.QkvSpec
public import Idealize.ShloMosaic.Lib.Pointwise

@[expose] public section

set_option maxRecDepth 16384

noncomputable section

namespace Cert.QkvIdeal.Cell

open Cert.QkvIdeal Cert.QkvIdeal.Gen Cert.FfnSpec Cert.QkvSpec
open Idealize.ShloMosaic

/-- Four heads' projections side by side. -/
def grp (xs : FVec Ideal S384x1 .f32) (q : FVec Ideal S384x1536 .fp8e4m3) (w0 w1 w2 w3 : Vec Ideal S1x1536x128 .fp8e4m3)
    (s0 s1 s2 s3 b0 b1 b2 b3 : Vec Ideal S1x128 .f32) : FVec Ideal S384x512 .f32 :=
  k0_pay17 (k0_pay15 xs q w0 w1 w2 w3) (k0_pay16 s0 s1 s2 s3) b0 b1 b2 b3

/-- The first of the four. -/
def part0 (g : FVec Ideal S384x512 .f32) : FVec Ideal S384x128 .f32 := extractStridedSlice S384x128 ![0, 0] g slices_S384x512_o0_0_S384x128
/-- The second of the four. -/
def part1 (g : FVec Ideal S384x512 .f32) : FVec Ideal S384x128 .f32 := extractStridedSlice S384x128 ![0, 128] g slices_S384x512_o0_128_S384x128
/-- The third of the four. -/
def part2 (g : FVec Ideal S384x512 .f32) : FVec Ideal S384x128 .f32 := extractStridedSlice S384x128 ![0, 256] g slices_S384x512_o0_256_S384x128
/-- The last of the four. -/
def part3 (g : FVec Ideal S384x512 .f32) : FVec Ideal S384x128 .f32 := extractStridedSlice S384x128 ![0, 384] g slices_S384x512_o0_384_S384x128

/-- One value of a head, from the head's own weights, scales and offsets. -/
def one (xs : FVec Ideal S384x1 .f32) (q : FVec Ideal S384x1536 .fp8e4m3) (w : Vec Ideal S1x1536x128 .fp8e4m3) (s b : Vec Ideal S1x128 .f32)
    (i : Fin 384) (l : Fin 128) : EReal :=
  (∑ k : Fin 1536, q (ix2 i k) * w (ix3 0 k l)) * xs (ix2 i 0) * s (ix2 0 l) + b (ix2 0 l)

variable (xs : FVec Ideal S384x1 .f32) (q : FVec Ideal S384x1536 .fp8e4m3) (w0 w1 w2 w3 : Vec Ideal S1x1536x128 .fp8e4m3)
    (s0 s1 s2 s3 b0 b1 b2 b3 : Vec Ideal S1x128 .f32) (i : Fin 384) (l : Fin 128)

/-- The first head's value. -/
theorem part0_apply : part0 (grp xs q w0 w1 w2 w3 s0 s1 s2 s3 b0 b1 b2 b3) (ix2 i l) = one xs q w0 s0 b0 i l := by
  pointwise [part0, grp, k0_pay17, k0_pay15, k0_pay16]
  rfl

/-- The second head's value. -/
theorem part1_apply : part1 (grp xs q w0 w1 w2 w3 s0 s1 s2 s3 b0 b1 b2 b3) (ix2 i l) = one xs q w1 s1 b1 i l := by
  pointwise [part1, grp, k0_pay17, k0_pay15, k0_pay16]
  rfl

/-- The third head's value. -/
theorem part2_apply : part2 (grp xs q w0 w1 w2 w3 s0 s1 s2 s3 b0 b1 b2 b3) (ix2 i l) = one xs q w2 s2 b2 i l := by
  pointwise [part2, grp, k0_pay17, k0_pay15, k0_pay16]
  simp only [dif_neg (show ¬ (256 + l.val < 128) by omega), dif_neg (show ¬ (256 + l.val - 128 < 128) by omega), dif_pos (show 256 + l.val - 128 - 128 < 128 by omega)]
  simp only [show 256 + l.val - 128 - 128 = l.val by omega]
  rfl

/-- The last head's value. -/
theorem part3_apply : part3 (grp xs q w0 w1 w2 w3 s0 s1 s2 s3 b0 b1 b2 b3) (ix2 i l) = one xs q w3 s3 b3 i l := by
  pointwise [part3, grp, k0_pay17, k0_pay15, k0_pay16]
  simp only [dif_neg (show ¬ (384 + l.val < 128) by omega), dif_neg (show ¬ (384 + l.val - 128 < 128) by omega), dif_neg (show ¬ (384 + l.val - 128 - 128 < 128) by omega)]
  simp only [show 384 + l.val - 128 - 128 - 128 = l.val by omega]
  rfl

/-- The even lanes. -/
def mask : IVec S1x128 1 := k0_pay14 (iota .tc S1x128 32 [1] iota_S1x128_d1_w32) 2#32 0#1

/-- A lane is marked when it is even. -/
theorem mask_apply : mask (ix2 0 l) = if l.val % 2 = 0 then 1#1 else 0#1 := by
  revert l; decide +kernel

/-- A head's rows normalised, scaled, rotated. -/
def turned (t : Fin 128 → EReal) (c0 c1 : Fin 128 → EReal) (l : Fin 128) : EReal :=
  t l * c0 l + (if l.val % 2 = 0 then t ⟨(l + 1) % 128, Nat.mod_lt _ (by omega)⟩ else t ⟨(l + 127) % 128, Nat.mod_lt _ (by omega)⟩) * c1 l

/-- The rotated head's entry. -/
theorem emit_apply (inv : FVec Ideal S384x1 .f32) (y : Vec Ideal S1x384x128 .f32) (g : Vec Ideal S1x128 .f32) (c0 c1 : Vec Ideal S1x384x128 .f32) :
    k0_pay75 mask inv y g c0 c1 (ix4 0 0 i l)
      = turned (fun l => y (ix3 0 i l) * inv (ix2 i 0) * g (ix2 0 l)) (fun l => c0 (ix3 0 i l)) (fun l => c1 (ix3 0 i l)) l := by
  pointwise [k0_pay75]
  rw [mask_apply, turned]
  have e : (⟨(l.val + 128 - 127) % 128, Nat.mod_lt _ (by omega)⟩ : Fin 128) = ⟨(l.val + 1) % 128, Nat.mod_lt _ (by omega)⟩ :=
    Fin.ext (by show (l.val + 128 - 127) % 128 = (l.val + 1) % 128; omega)
  have e' : (⟨(l.val + 128 - 1) % 128, Nat.mod_lt _ (by omega)⟩ : Fin 128) = ⟨(l.val + 127) % 128, Nat.mod_lt _ (by omega)⟩ :=
    Fin.ext (by show (l.val + 128 - 1) % 128 = (l.val + 127) % 128; omega)
  rw [e, e']
  by_cases h : l.val % 2 = 0
  · rw [if_pos h, if_pos h]; rfl
  · rw [if_neg h, if_neg h]; rfl

/-- The named constant `inv_d` is 1/1536. -/
theorem inv_d_eq : (Named.named (F := Ideal) κ "inv_d" (φ := .f32) 0x3A2AAAAB#32 : EReal) = ((1536⁻¹ : ℝ) : EReal) :=
  IdealRules.named_const.ideal_named_scalar _ _ _ _ rfl

/-- The reciprocal of the root of the mean square, from the squares of ten heads and two heads. -/
theorem inv_apply (g : FVec Ideal S384x512 .f32) (a p : FVec Ideal S384x128 .f32) :
    k0_pay51 g a p (ix2 i 0)
      = Ideal.div 1 (Ideal.sqrt (Ideal.div (∑ l : Fin 128, (a (ix2 i l) + p (ix2 i l) * p (ix2 i l) + part3 g (ix2 i l) * part3 g (ix2 i l))) width + eps)) := by
  pointwise [k0_pay51, k0_pay49, part3]
  rw [inv_d_eq, ← div_width]
  rfl

/-- The pair of a lane, as the kernel computes it. -/
theorem pair_bit (x : Fin 64) : (IntOp.cmpi CmpIPredicate.eq
          (Scalar.select
            (IntOp.andi
              (IntOp.cmpi CmpIPredicate.ne
                (IntOp.subi (BitVec.setWidth 32 (IntOp.cmpi CmpIPredicate.sgt (BitVec.ofNat 32 l.val) 0#32))
                  (BitVec.setWidth 32 (IntOp.cmpi CmpIPredicate.slt (BitVec.ofNat 32 l.val) 0#32)))
                (Scalar.subi (Scalar.extui (Scalar.cmpi CmpIPredicate.sgt 2#32 0#32))
                  (Scalar.extui (Scalar.cmpi CmpIPredicate.slt 2#32 0#32))))
              (IntOp.cmpi CmpIPredicate.ne (IntOp.remsi ArithUnit.vector (BitVec.ofNat 32 l.val) 2#32) 0#32))
            (IntOp.subi (IntOp.divsi ArithUnit.vector (BitVec.ofNat 32 l.val) 2#32) 1#32)
            (IntOp.divsi ArithUnit.vector (BitVec.ofNat 32 l.val) 2#32))
          (BitVec.ofNat 32 x.val)) = if l.val / 2 = x.val then 1#1 else 0#1 := by
  revert l x; decide +kernel

/-- The table of lanes: entry `(x, l)` is marked when `l` belongs to pair `x`. -/
theorem pair_apply (x : Fin 64) : k0_pay3 (F := Ideal) (ix2 x l) = if l.val / 2 = x.val then 1 else 0 := by
  pointwise [k0_pay3]
  rw [pair_bit]
  by_cases h : l.val / 2 = x.val
  · rw [if_pos h, if_pos h]
    show ((((1#1).setWidth 32).toInt : ℝ) : EReal) = 1
    norm_num
  · rw [if_neg h, if_neg h]
    show ((((0#1).setWidth 32).toInt : ℝ) : EReal) = 0
    norm_num

/-- A sum against a row of the table picks one entry. -/
theorem pick (f : Fin 64 → EReal) : ∑ x, f x * k0_pay3 (F := Ideal) (ix2 x l) = f ⟨l / 2, by omega⟩ := by
  rw [Finset.sum_eq_single (⟨l / 2, by omega⟩ : Fin 64)]
  · rw [pair_apply, if_pos rfl, mul_one]
  · intro x _ hx
    rw [pair_apply, if_neg (fun h => hx (Fin.ext h.symm)), mul_zero]
  · intro h; exact absurd (Finset.mem_univ _) h

/-- The cosines spread over the lanes. -/
theorem cos_apply (c : Vec Ideal S64x384 .f32) : k0_pay4 c (ix3 0 i l) = c (ix2 ⟨l / 2, by omega⟩ i) := by
  pointwise [k0_pay4]
  exact pick l fun x => c (ix2 x i)

/-- The even lanes, as the sines' table reads them. -/
theorem even_apply : IntOp.cmpi CmpIPredicate.eq
        (Scalar.select
          (IntOp.andi
            (IntOp.xori (IntOp.cmpi CmpIPredicate.slt (IntOp.remsi ArithUnit.vector (BitVec.ofNat 32 l.val) 2#32) 0#32)
              (Scalar.cmpi CmpIPredicate.slt 2#32 0#32))
            (IntOp.cmpi CmpIPredicate.ne (IntOp.remsi ArithUnit.vector (BitVec.ofNat 32 l.val) 2#32) 0#32))
          (IntOp.addi (IntOp.remsi ArithUnit.vector (BitVec.ofNat 32 l.val) 2#32) 2#32)
          (IntOp.remsi ArithUnit.vector (BitVec.ofNat 32 l.val) 2#32))
        0#32 = if l.val % 2 = 0 then 1#1 else 0#1 := by
  revert l; decide +kernel

/-- The sines spread over the lanes, negated on the even ones. -/
theorem sin_apply (c : Vec Ideal S64x384 .f32) :
    k0_pay6 (k0_pay5 c) 2#32 (ix3 0 i l) = if l.val % 2 = 0 then 0 - c (ix2 ⟨l / 2, by omega⟩ i) else c (ix2 ⟨l / 2, by omega⟩ i) := by
  pointwise [k0_pay6, k0_pay5]
  rw [even_apply, pick l fun x => c (ix2 x i)]
  by_cases h : l.val % 2 = 0
  · rw [if_pos h, if_pos h]; rfl
  · rw [if_neg h, if_neg h]; rfl

/-- Turning by the spread cosines and sines is the rotation in pairs. -/
theorem turned_eq (t : Fin 128 → EReal) (c s : Fin 64 → EReal) (c0 c1 : Fin 128 → EReal) (h0 : ∀ l, c0 l = c ⟨l / 2, by omega⟩)
    (h1 : ∀ l, c1 l = if l.val % 2 = 0 then 0 - s ⟨l / 2, by omega⟩ else s ⟨l / 2, by omega⟩) : turned t c0 c1 l = rot t c s l := by
  unfold turned rot
  rw [h0, h1]
  by_cases h : l.val % 2 = 0
  · rw [if_pos h, if_pos h, if_pos h, zero_sub, mul_neg, ← sub_eq_add_neg]
  · rw [if_neg h, if_neg h, if_neg h, add_comm]

/-- The modulated rows. -/
def row (x2 : Vec Ideal S6x1536 .f32) (x1 : Vec Ideal S1x6x1536 .f32) (x0 : Vec Ideal S1x384x1536 .bf16) (i : Fin 384) : Fin 1536 → EReal :=
  xrow (fun k => x0 (ix3 0 i k)) (fun k => x2 (ix2 1 k) + x1 (ix3 0 1 k)) (fun k => x2 (ix2 0 k) + x1 (ix3 0 0 k))

/-- A modulated row's entry. -/
theorem row_apply (x2 : Vec Ideal S6x1536 .f32) (x1 : Vec Ideal S1x6x1536 .f32) (x0 : Vec Ideal S1x384x1536 .bf16) (k : Fin 1536) :
    k0_pay7 x2 x1 x0 (ix2 i k) = row x2 x1 x0 i k := by
  pointwise [k0_pay7]
  rfl

/-- The largest absolute value of each row of any array. -/
def amaxVec (g : FVec Ideal S384x1536 .f32) : FVec Ideal S384 .f32 :=
  multiReduction .maximumf [1] S384 (absf g) 0xFF800000#32 reduces_S384x1536_S384 (.inl rfl) rfl

/-- Its entry is the fold of the absolute values along the row. -/
theorem amaxVec_apply (g : FVec Ideal S384x1536 .f32) : amaxVec g (ix1 i) = amax (fun n => g (ix2 i n)) := by
  obtain ⟨r, hr⟩ : ∃ r, r = amax (fun n => g (ix2 i n)) := ⟨_, rfl⟩
  rw [← hr]
  pointwise [amaxVec]
  rw [hr]
  unfold amax
  exact congrArg (fun f => Finset.fold max (Ideal.ofBits .f32 0xFF800000#32) f Finset.univ) (funext fun n => rfl)

/-- The scales from the largest absolute values. -/
theorem pick_scale (a : FVec Ideal S384 .f32) :
    k0_pay10 (shapeCast S384x1 a shapeCasts_S384_S384x1) (cmpf .ogt (shapeCast S384x1 a shapeCasts_S384_S384x1) (broadcast S384x1 (Scalar.ofBits .f32 0x00000000#32))) (ix2 i 0)
      = scaleOf (a (ix1 i)) := by
  pointwise [k0_pay10]
  rfl

/-- The scale of a row. -/
theorem scale_apply (x2 : Vec Ideal S6x1536 .f32) (x1 : Vec Ideal S1x6x1536 .f32) (x0 : Vec Ideal S1x384x1536 .bf16) :
    k0_pay10 (k0_pay8 x2 x1 x0) (k0_pay9 x2 x1 x0) (ix2 i 0) = rowScale (row x2 x1 x0 i) := by
  have e : (fun n => k0_pay7 x2 x1 x0 (ix2 i n)) = row x2 x1 x0 i := funext fun n => row_apply i x2 x1 x0 n
  rw [show k0_pay10 (k0_pay8 x2 x1 x0) (k0_pay9 x2 x1 x0) = k0_pay10 (shapeCast S384x1 (amaxVec (k0_pay7 x2 x1 x0)) shapeCasts_S384_S384x1) (cmpf .ogt (shapeCast S384x1 (amaxVec (k0_pay7 x2 x1 x0)) shapeCasts_S384_S384x1) (broadcast S384x1 (Scalar.ofBits .f32 0x00000000#32))) from rfl, pick_scale, amaxVec_apply, e, rowScale]

/-- The codes of any rows, from their scales' parts. -/
theorem code_any (g : FVec Ideal S384x1536 .f32) (m : FVec Ideal S384x1 .f32) (p : IVec S384x1 1) (k : Fin 1536) :
    k0_pay11 g m p (ix2 i k) = codeOf (g (ix2 i k)) (k0_pay10 m p (ix2 i 0)) := by
  pointwise [k0_pay11]
  rfl

/-- The codes stored. -/
theorem code_stored (g : FVec Ideal S384x1536 .f32) (m : FVec Ideal S384x1 .f32) (p : IVec S384x1 1) (k : Fin 1536) :
    k0_pay12 g m p (ix3 0 i k) = k0_pay11 g m p (ix2 i k) := by
  pointwise [k0_pay12]

/-- The column of scales as a row. -/
theorem scale_row (m : FVec Ideal S384x1 .f32) (p : IVec S384x1 1) : k0_pay13 m p (ix2 0 i) = k0_pay10 m p (ix2 i 0) := by
  pointwise [k0_pay13]
  split_ifs with h h'
  · exact diag_col (fun x => k0_pay10 m p (ix2 ⟨x, by omega⟩ 0)) i h
  · refine (diag_col (fun x => k0_pay10 m p (ix2 ⟨128 + x, by omega⟩ 0)) (i - 128) h').trans ?_
    exact congrArg (fun k => k0_pay10 m p (ix2 k 0)) (Fin.ext (by show 128 + ((i : ℕ) - 128) = i; omega))
  · refine (diag_col (fun x => k0_pay10 m p (ix2 ⟨256 + x, by omega⟩ 0)) (i - 128 - 128) (by omega)).trans ?_
    exact congrArg (fun k => k0_pay10 m p (ix2 k 0)) (Fin.ext (by show 256 + ((i : ℕ) - 128 - 128) = i; omega))

end Cert.QkvIdeal.Cell

end
-- ==== Proof.QkvPiece.lean ====
/- What the projection kernel stores and reads back, head by head. -/
module

public import proofs.«01_k».proof.Proof.QkvCell
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.QkvIdeal.Cell

open Cert.QkvIdeal Cert.QkvIdeal.Gen Cert.FfnSpec Cert.QkvSpec
open Idealize.ShloMosaic

/-- The heads' projections of a row, from its codes and scale. -/
def raw (x2 : Vec Ideal S6x1536 .f32) (x1 : Vec Ideal S1x6x1536 .f32) (x0 : Vec Ideal S1x384x1536 .bf16)
    (W : Vec Ideal S12x1536x128 .fp8e4m3) (S B : Vec Ideal S12x128 .f32) (i : Fin 384) : Fin 12 → Fin 128 → EReal :=
  head (fun k => codeOf (row x2 x1 x0 i k) (rowScale (row x2 x1 x0 i))) (rowScale (row x2 x1 x0 i))
    (fun k h l => W (ix3 h k l)) (fun h l => S (ix2 h l)) (fun h l => B (ix2 h l))

/-- What the scratch holds: the query heads, then the key heads. -/
def scr (x2 : Vec Ideal S6x1536 .f32) (x1 : Vec Ideal S1x6x1536 .f32) (x0 : Vec Ideal S1x384x1536 .bf16) (x5 x6 : Vec Ideal S12x1536x128 .fp8e4m3)
    (x8 x9 x11 x12 : Vec Ideal S12x128 .f32) (z : S2x12x384x128.Idx) : EReal :=
  if (z 0).val = 0 then raw x2 x1 x0 x5 x8 x11 (z 2) (z 1) (z 3) else raw x2 x1 x0 x6 x9 x12 (z 2) (z 1) (z 3)

section Loads

variable {sp : Space}

/-- A load of one head's weights. -/
theorem load_w {a : Memref sig .tc sp S12x1536x128 .fp8e4m3} (ha : a.IsWhole) (W : Vec Ideal S12x1536x128 .fp8e4m3) (h : ℕ) (hh : h < 12)
    (hb : ∀ d, (![h, 0, 0] : Fin 3 → ℕ) d + S1x1536x128.size d ≤ S12x1536x128.size d) (k : Fin 1536) (l : Fin 128) :
    (View.readAt (Elt Ideal) a.view (Rect.unit (s := S12x1536x128) ![h, 0, 0] S1x1536x128.size hb).toLoadRect (ha.unread W) : Vec Ideal S1x1536x128 .fp8e4m3) (ix3 0 k l)
      = W (ix3 ⟨h, hh⟩ k l) := by
  rw [View.readAt_eq_ld, ha.read_unread]
  exact congrArg W (funext fun d => Fin.ext (by fin_cases d <;> simp [ix3]))

/-- A load of one head's row of a table. -/
theorem load_r {a : Memref sig .tc sp S12x128 .f32} (ha : a.IsWhole) (W : Vec Ideal S12x128 .f32) (h : ℕ) (hh : h < 12)
    (hb : ∀ d, (![h, 0] : Fin 2 → ℕ) d + S1x128.size d ≤ S12x128.size d) (l : Fin 128) :
    (View.readAt (Elt Ideal) a.view (Rect.unit (s := S12x128) ![h, 0] S1x128.size hb).toLoadRect (ha.unread W) : Vec Ideal S1x128 .f32) (ix2 0 l)
      = W (ix2 ⟨h, hh⟩ l) := by
  rw [View.readAt_eq_ld, ha.read_unread]
  exact congrArg W (funext fun d => Fin.ext (by fin_cases d <;> simp [ix2]))

/-- A load of a whole array. -/
theorem load_all {s : Shape} {e : EltTy} {a : Memref sig .tc sp s e} (ha : a.IsWhole) (x : Vec Ideal s e) (off : Fin s.rank → ℕ) (h0 : ∀ d, off d = 0)
    (hb : ∀ d, off d + s.size d ≤ s.size d) :
    (View.readAt (Elt Ideal) a.view (Rect.unit (s := s) off s.size hb).toLoadRect (ha.unread x) : Vec Ideal s e) = x := by
  rw [View.readAt_eq_ld, ha.read_unread]
  refine funext fun j => congrArg x (funext fun d => Fin.ext ?_)
  show off d + 1 * (j d).val = (j d).val
  rw [h0 d]; omega

end Loads

section Cells

variable {xs : FVec Ideal S384x1 .f32} {q : FVec Ideal S384x1536 .fp8e4m3} {w0 w1 w2 w3 : Vec Ideal S1x1536x128 .fp8e4m3}
    {s0 s1 s2 s3 b0 b1 b2 b3 : Vec Ideal S1x128 .f32}
    {x2 : Vec Ideal S6x1536 .f32} {x1 : Vec Ideal S1x6x1536 .f32} {x0 : Vec Ideal S1x384x1536 .bf16}
    {W : Vec Ideal S12x1536x128 .fp8e4m3} {S B : Vec Ideal S12x128 .f32}

/-- One head's value is that of the row's projection. -/
theorem one_raw {w : Vec Ideal S1x1536x128 .fp8e4m3} {s b : Vec Ideal S1x128 .f32} (h : Fin 12)
    (hxs : ∀ i, xs (ix2 i 0) = rowScale (row x2 x1 x0 i)) (hq : ∀ i k, q (ix2 i k) = codeOf (row x2 x1 x0 i k) (rowScale (row x2 x1 x0 i)))
    (hw : ∀ k l, w (ix3 0 k l) = W (ix3 h k l)) (hs : ∀ l, s (ix2 0 l) = S (ix2 h l)) (hb : ∀ l, b (ix2 0 l) = B (ix2 h l)) (i : Fin 384) (l : Fin 128) :
    one xs q w s b i l = raw x2 x1 x0 W S B i h l := by
  unfold one raw head
  simp only [hxs, hq, hw, hs, hb]

/-- The first head of a group. -/
theorem cell0 (h : Fin 12)
    (hxs : ∀ i, xs (ix2 i 0) = rowScale (row x2 x1 x0 i)) (hq : ∀ i k, q (ix2 i k) = codeOf (row x2 x1 x0 i k) (rowScale (row x2 x1 x0 i)))
    (hw : ∀ k l, w0 (ix3 0 k l) = W (ix3 h k l)) (hs : ∀ l, s0 (ix2 0 l) = S (ix2 h l)) (hb : ∀ l, b0 (ix2 0 l) = B (ix2 h l)) (i : Fin 384) (l : Fin 128) :
    part0 (grp xs q w0 w1 w2 w3 s0 s1 s2 s3 b0 b1 b2 b3) (ix2 i l) = raw x2 x1 x0 W S B i h l :=
  (part0_apply xs q w0 w1 w2 w3 s0 s1 s2 s3 b0 b1 b2 b3 i l).trans (one_raw h hxs hq hw hs hb i l)

/-- The second head of a group. -/
theorem cell1 (h : Fin 12)
    (hxs : ∀ i, xs (ix2 i 0) = rowScale (row x2 x1 x0 i)) (hq : ∀ i k, q (ix2 i k) = codeOf (row x2 x1 x0 i k) (rowScale (row x2 x1 x0 i)))
    (hw : ∀ k l, w1 (ix3 0 k l) = W (ix3 h k l)) (hs : ∀ l, s1 (ix2 0 l) = S (ix2 h l)) (hb : ∀ l, b1 (ix2 0 l) = B (ix2 h l)) (i : Fin 384) (l : Fin 128) :
    part1 (grp xs q w0 w1 w2 w3 s0 s1 s2 s3 b0 b1 b2 b3) (ix2 i l) = raw x2 x1 x0 W S B i h l :=
  (part1_apply xs q w0 w1 w2 w3 s0 s1 s2 s3 b0 b1 b2 b3 i l).trans (one_raw h hxs hq hw hs hb i l)

/-- The third head of a group. -/
theorem cell2 (h : Fin 12)
    (hxs : ∀ i, xs (ix2 i 0) = rowScale (row x2 x1 x0 i)) (hq : ∀ i k, q (ix2 i k) = codeOf (row x2 x1 x0 i k) (rowScale (row x2 x1 x0 i)))
    (hw : ∀ k l, w2 (ix3 0 k l) = W (ix3 h k l)) (hs : ∀ l, s2 (ix2 0 l) = S (ix2 h l)) (hb : ∀ l, b2 (ix2 0 l) = B (ix2 h l)) (i : Fin 384) (l : Fin 128) :
    part2 (grp xs q w0 w1 w2 w3 s0 s1 s2 s3 b0 b1 b2 b3) (ix2 i l) = raw x2 x1 x0 W S B i h l :=
  (part2_apply xs q w0 w1 w2 w3 s0 s1 s2 s3 b0 b1 b2 b3 i l).trans (one_raw h hxs hq hw hs hb i l)

/-- The last head of a group. -/
theorem cell3 (h : Fin 12)
    (hxs : ∀ i, xs (ix2 i 0) = rowScale (row x2 x1 x0 i)) (hq : ∀ i k, q (ix2 i k) = codeOf (row x2 x1 x0 i k) (rowScale (row x2 x1 x0 i)))
    (hw : ∀ k l, w3 (ix3 0 k l) = W (ix3 h k l)) (hs : ∀ l, s3 (ix2 0 l) = S (ix2 h l)) (hb : ∀ l, b3 (ix2 0 l) = B (ix2 h l)) (i : Fin 384) (l : Fin 128) :
    part3 (grp xs q w0 w1 w2 w3 s0 s1 s2 s3 b0 b1 b2 b3) (ix2 i l) = raw x2 x1 x0 W S B i h l :=
  (part3_apply xs q w0 w1 w2 w3 s0 s1 s2 s3 b0 b1 b2 b3 i l).trans (one_raw h hxs hq hw hs hb i l)

end Cells

/-- A head with a leading unit axis, as stored in the scratch. -/
def lifted (p : FVec Ideal S384x128 .f32) : FVec Ideal S1x384x128 .f32 := shapeCast S1x384x128 p shapeCasts_S384x128_S1x384x128

/-- Its entries. -/
theorem lifted_apply (p : FVec Ideal S384x128 .f32) (i : Fin 384) (l : Fin 128) : lifted p (ix3 0 i l) = p (ix2 i l) := by
  pointwise [lifted]

/-- A head as stored in the result. -/
def stored (p : FVec Ideal S384x128 .f32) : FVec Ideal S1x1x384x128 .bf16 :=
  shapeCast S1x1x384x128 (truncf .bf16 p bitsLt_bf16_f32) shapeCasts_S384x128_S1x1x384x128

/-- Its entries. -/
theorem stored_apply (p : FVec Ideal S384x128 .f32) (i : Fin 384) (l : Fin 128) : stored p (ix4 0 0 i l) = p (ix2 i l) := by
  pointwise [stored]

/-- Where the scratch keeps head `h` of the queries (`a = 0`) or the keys (`a = 1`). -/
abbrev slotR (a h : ℕ) (ha : ∀ d, (![a, 0, 0, 0] : Fin 4 → ℕ) d + S1x12x384x128.size d ≤ S2x12x384x128.size d)
    (hb : ∀ d, (![h, 0, 0] : Fin 3 → ℕ) d + S1x384x128.size d ≤ S12x384x128.size d)
    (p0 : (![1, 12, 384, 128] : Fin 4 → ℕ) 0 = 1) (p1 : ∀ i : Fin 3, (![1, 12, 384, 128] : Fin 4 → ℕ) i.succ = S12x384x128.size i)
    (h0 : ∀ d, (Rect.unit (s := S2x12x384x128) ![a, 0, 0, 0] S1x12x384x128.size ha).stride d = 1) : Rect S2x12x384x128 :=
  (Rect.unit (s := S2x12x384x128) ![a, 0, 0, 0] S1x12x384x128.size ha).within
    ((Rect.unit (s := S12x384x128) ![h, 0, 0] S1x384x128.size hb).consLift ![1, 12, 384, 128] p0 p1) h0

section Slots

variable (a h : ℕ) (ha' : a < 2) (hh : h < 12) {ha : ∀ d, (![a, 0, 0, 0] : Fin 4 → ℕ) d + S1x12x384x128.size d ≤ S2x12x384x128.size d}
    {hb : ∀ d, (![h, 0, 0] : Fin 3 → ℕ) d + S1x384x128.size d ≤ S12x384x128.size d}
    {p0 : (![1, 12, 384, 128] : Fin 4 → ℕ) 0 = 1} {p1 : ∀ i : Fin 3, (![1, 12, 384, 128] : Fin 4 → ℕ) i.succ = S12x384x128.size i}
    {h0 : ∀ d, (Rect.unit (s := S2x12x384x128) ![a, 0, 0, 0] S1x12x384x128.size ha).stride d = 1}

/-- The entry of the scratch at which a slot keeps a head's entry. -/
theorem slot_emb (x : (slotR a h ha hb p0 p1 h0).shape.Idx) :
    (slotR a h ha hb p0 p1 h0).emb x = ix4 ⟨a, ha'⟩ ⟨h, hh⟩ (⟨(x 2).val, (x 2).isLt⟩ : Fin 384) (⟨(x 3).val, (x 3).isLt⟩ : Fin 128) := by
  have h1 : (x 0).val < 1 := (x 0).isLt
  have h2 : (x 1).val < 1 := (x 1).isLt
  funext d
  apply Fin.ext
  rw [Rect.emb_apply]
  fin_cases d
  · show a + 0 + 1 * (x 0).val = a; omega
  · show 0 + h + 1 * (x 1).val = h; omega
  · show 0 + 0 + 1 * (x 2).val = (x 2).val; omega
  · show 0 + 0 + 1 * (x 3).val = (x 3).val; omega

/-- Each entry of the head lies in the slot. -/
theorem slot_mem (i : Fin 384) (l : Fin 128) : ix4 ⟨a, ha'⟩ ⟨h, hh⟩ i l ∈ (slotR a h ha hb p0 p1 h0).set := by
  have e := slot_emb a h ha' hh (ha := ha) (hb := hb) (p0 := p0) (p1 := p1) (h0 := h0) (ix4 (0 : Fin 1) (0 : Fin 1) i l)
  rw [← Rect.map_emb_univ]
  exact Finset.mem_map.mpr ⟨ix4 (0 : Fin 1) (0 : Fin 1) i l, Finset.mem_univ _, e⟩

/-- What is stored in a slot, entry by entry. -/
theorem put (G : S2x12x384x128.Idx → EReal) (w : FVec Ideal S1x384x128 .f32) (hw : ∀ i l, w (ix3 0 i l) = G (ix4 ⟨a, ha'⟩ ⟨h, hh⟩ i l))
    (hR : (slotR a h ha hb p0 p1 h0).shape.numel = (Rect.unit (s := S12x384x128) ![h, 0, 0] S1x384x128.size hb).shape.numel)
    (x : (slotR a h ha hb p0 p1 h0).shape.Idx) :
    (Rect.payAlong (r := Rect.unit (s := S12x384x128) ![h, 0, 0] S1x384x128.size hb) (R := slotR a h ha hb p0 p1 h0) hR w) x = G ((slotR a h ha hb p0 p1 h0).emb x) := by
  rw [slot_emb a h ha' hh x, ← hw]
  have h2 : (x 1).val < 1 := (x 1).isLt
  refine Rect.payAlong_consLift _ _ p0 p1 w hR x (ix3 (0 : Fin 1) (⟨(x 2).val, (x 2).isLt⟩ : Fin 384) (⟨(x 3).val, (x 3).isLt⟩ : Fin 128)) fun d => ?_
  fin_cases d
  · show 0 = (x 1).val; omega
  · rfl
  · rfl

/-- One more slot stored. -/
theorem put_cons (G : S2x12x384x128.Idx → EReal) (L : List (View.Piece (Elt Ideal) S2x12x384x128 .f32)) (w : FVec Ideal S1x384x128 .f32)
    (hR : (slotR a h ha hb p0 p1 h0).shape.numel = (Rect.unit (s := S12x384x128) ![h, 0, 0] S1x384x128.size hb).shape.numel)
    (hw : ∀ i l, w (ix3 0 i l) = G (ix4 ⟨a, ha'⟩ ⟨h, hh⟩ i l)) (hL : View.PiecesOf (Val := Elt Ideal) (e := .f32) G L) :
    View.PiecesOf (Val := Elt Ideal) (e := .f32) G (⟨slotR a h ha hb p0 p1 h0, Rect.payAlong hR w⟩ :: L) :=
  ⟨put a h ha' hh G w hw hR, hL⟩

/-- What is read back from a slot, entry by entry. -/
theorem back {sig : RefSig} {κ : Kind} {sp : Space} (v : View sig κ sp S2x12x384x128 .f32) (G : S2x12x384x128.Idx → EReal)
    (L : List (View.Piece (Elt Ideal) S2x12x384x128 .f32)) (hL : View.PiecesOf (Val := Elt Ideal) (e := .f32) G L)
    (hc : ∃ w, (⟨slotR a h ha hb p0 p1 h0, w⟩ : View.Piece (Elt Ideal) S2x12x384x128 .f32) ∈ L)
    (hR : (Rect.unit (s := S12x384x128) ![h, 0, 0] S1x384x128.size hb).toLoadRect.shape.numel
      = ((Rect.unit (s := S2x12x384x128) ![a, 0, 0, 0] S1x12x384x128.size ha).withinL
          ((Rect.unit (s := S12x384x128) ![h, 0, 0] S1x384x128.size hb).toLoadRect.consLift ![1, 12, 384, 128] p0 p1) h0).shape.numel)
    (i : Fin 384) (l : Fin 128) :
    (LoadRect.valAlong hR (v.readCov L ((Rect.unit (s := S2x12x384x128) ![a, 0, 0, 0] S1x12x384x128.size ha).withinL
        ((Rect.unit (s := S12x384x128) ![h, 0, 0] S1x384x128.size hb).toLoadRect.consLift ![1, 12, 384, 128] p0 p1) h0)) : Vec Ideal S1x384x128 .f32) (ix3 0 i l)
      = G (ix4 ⟨a, ha'⟩ ⟨h, hh⟩ i l) := by
  rw [View.readCov_eq_canon']
  have e : ((Rect.unit (s := S2x12x384x128) ![a, 0, 0, 0] S1x12x384x128.size ha).withinL
        ((Rect.unit (s := S12x384x128) ![h, 0, 0] S1x384x128.size hb).toLoadRect.consLift ![1, 12, 384, 128] p0 p1) h0).idx (Shape.reshapeEquiv hR (ix3 (0 : Fin 1) i l))
      = ix4 ⟨a, ha'⟩ ⟨h, hh⟩ i l := by
    have hz : Shape.reshapeEquiv hR (ix3 (0 : Fin 1) i l) = ix4 (0 : Fin 1) (0 : Fin 1) i l := by
      refine (Shape.reshapeEquiv_cons_one (d := S1x384x128.size) _ _).trans (funext fun d => ?_)
      fin_cases d <;> rfl
    rw [hz]
    funext d
    apply Fin.ext
    fin_cases d
    · show a + 0 + 1 * 0 = a; omega
    · show 0 + h + 1 * 0 = h; omega
    · show 0 + 0 + 1 * i.val = i.val; omega
    · show 0 + 0 + 1 * l.val = l.val; omega
  show View.canon L _ = _
  rw [e]
  obtain ⟨w, hw⟩ := hc
  exact View.canon_apply_of_pieces G L hL.mem _ ⟨_, hw, slot_mem a h ha' hh (h0 := h0) i l⟩

end Slots

section Tables

/-- The two tables: cosines, and sines with the sign of the lane. -/
def tables (x3 x4 : Vec Ideal S64x384 .f32) (z : S2x384x128.Idx) : EReal :=
  if (z 0).val = 0 then x3 (ix2 ⟨(z 2).val / 2, by have := (z 2).isLt; show _ < 64; change (z 2).val < 128 at this; omega⟩ (z 1))
  else if (z 2).val % 2 = 0 then 0 - x4 (ix2 ⟨(z 2).val / 2, by have := (z 2).isLt; show _ < 64; change (z 2).val < 128 at this; omega⟩ (z 1))
  else x4 (ix2 ⟨(z 2).val / 2, by have := (z 2).isLt; show _ < 64; change (z 2).val < 128 at this; omega⟩ (z 1))

variable (a : ℕ) (ha : a < 2) {hb : ∀ d, (![a, 0, 0] : Fin 3 → ℕ) d + S1x384x128.size d ≤ S2x384x128.size d}

/-- The entry a table's block keeps. -/
theorem table_emb (i : Fin 384) (l : Fin 128) :
    (Rect.unit (s := S2x384x128) ![a, 0, 0] S1x384x128.size hb).emb (ix3 (0 : Fin 1) i l) = ix3 ⟨a, ha⟩ i l := by
  funext d
  apply Fin.ext
  rw [Rect.emb_apply]
  fin_cases d
  · show a + 1 * 0 = a; omega
  · show 0 + 1 * i.val = i.val; omega
  · show 0 + 1 * l.val = l.val; omega

/-- Each entry of a table lies in its block. -/
theorem table_mem (i : Fin 384) (l : Fin 128) : ix3 ⟨a, ha⟩ i l ∈ (Rect.unit (s := S2x384x128) ![a, 0, 0] S1x384x128.size hb).set := by
  rw [← Rect.map_emb_univ]
  exact Finset.mem_map.mpr ⟨ix3 (0 : Fin 1) i l, Finset.mem_univ _, table_emb a ha i l⟩

/-- What is stored in a table's block. -/
theorem table_put {G : S2x384x128.Idx → EReal} {w : FVec Ideal S1x384x128 .f32} (hw : ∀ i l, w (ix3 0 i l) = G (ix3 ⟨a, ha⟩ i l))
    (x : (Rect.unit (s := S2x384x128) ![a, 0, 0] S1x384x128.size hb).shape.Idx) :
    w x = G ((Rect.unit (s := S2x384x128) ![a, 0, 0] S1x384x128.size hb).emb x) := by
  obtain ⟨i, l, rfl⟩ : ∃ (i : Fin 384) (l : Fin 128), x = ix3 (0 : Fin 1) i l := by
    refine ⟨x 1, x 2, funext fun d => Fin.ext ?_⟩
    have h1 : (x 0).val < 1 := (x 0).isLt
    fin_cases d
    · show (x 0).val = 0; omega
    · rfl
    · rfl
  rw [table_emb a ha]
  exact hw i l

/-- What is read back from a table's block. -/
theorem table_back {sig : RefSig} {κ : Kind} {sp : Space} (v : View sig κ sp S2x384x128 .f32) {G : S2x384x128.Idx → EReal}
    (L : List (View.Piece (Elt Ideal) S2x384x128 .f32)) (hL : View.PiecesOf (Val := Elt Ideal) (e := .f32) G L)
    (hc : ∃ w, (⟨Rect.unit (s := S2x384x128) ![a, 0, 0] S1x384x128.size hb, w⟩ : View.Piece (Elt Ideal) S2x384x128 .f32) ∈ L) (i : Fin 384) (l : Fin 128) :
    (v.readCov L (Rect.unit (s := S2x384x128) ![a, 0, 0] S1x384x128.size hb).toLoadRect : Vec Ideal S1x384x128 .f32) (ix3 0 i l) = G (ix3 ⟨a, ha⟩ i l) := by
  rw [View.readCov_eq_canon']
  have e : (Rect.unit (s := S2x384x128) ![a, 0, 0] S1x384x128.size hb).toLoadRect.idx (ix3 (0 : Fin 1) i l) = ix3 ⟨a, ha⟩ i l := by
    funext d
    apply Fin.ext
    fin_cases d
    · show a + 1 * 0 = a; omega
    · show 0 + 1 * i.val = i.val; omega
    · show 0 + 1 * l.val = l.val; omega
  show View.canon L _ = _
  rw [e]
  obtain ⟨w, hw⟩ := hc
  exact View.canon_apply_of_pieces G L hL.mem _ ⟨_, hw, table_mem a ha (hb := hb) i l⟩

/-- A load of one table. -/
theorem load_h {m : Memref sig .tc .vmem S2x384x128 .f32} (hm : m.IsWhole) (x : Vec Ideal S2x384x128 .f32) (i : Fin 384) (l : Fin 128) :
    (View.readAt (Elt Ideal) m.view (Rect.unit (s := S2x384x128) ![a, 0, 0] S1x384x128.size hb).toLoadRect (hm.unread x) : Vec Ideal S1x384x128 .f32) (ix3 0 i l)
      = x (ix3 ⟨a, ha⟩ i l) := by
  rw [View.readAt_eq_ld, hm.read_unread]
  refine congrArg x (funext fun d => Fin.ext ?_)
  fin_cases d
  · show a + 1 * 0 = a; omega
  · show 0 + 1 * i.val = i.val; omega
  · show 0 + 1 * l.val = l.val; omega

end Tables

section Results

variable (x2 : Vec Ideal S6x1536 .f32) (x1 : Vec Ideal S1x6x1536 .f32) (x0 : Vec Ideal S1x384x1536 .bf16)
    (W : Vec Ideal S12x1536x128 .fp8e4m3) (S B Gt : Vec Ideal S12x128 .f32) (cosT sinT : Vec Ideal S64x384 .f32)

/-- The rotated heads of one sample. -/
def qk (z : S1x12x384x128.Idx) : EReal :=
  rot (rms (raw x2 x1 x0 W S B (z 2)) (fun h l => Gt (ix2 h l)) (z 1)) (fun j => cosT (ix2 j (z 2))) (fun j => sinT (ix2 j (z 2))) (z 3)

/-- The plain heads of one sample. -/
def vals (z : S1x12x384x128.Idx) : EReal := raw x2 x1 x0 W S B (z 2) (z 1) (z 3)

variable {x2 x1 x0 W S B Gt cosT sinT}

/-- The entry a head's block keeps. -/
theorem head_emb (h : ℕ) (hh : h < 12) (hb : ∀ d, (![0, h, 0, 0] : Fin 4 → ℕ) d + (![1, 1, 384, 128] : Fin 4 → ℕ) d ≤ S1x12x384x128.size d)
    (i : Fin 384) (l : Fin 128) :
    (Rect.unit (s := S1x12x384x128) ![0, h, 0, 0] ![1, 1, 384, 128] hb).emb (ix4 (0 : Fin 1) (0 : Fin 1) i l) = ix4 0 ⟨h, hh⟩ i l := by
  funext d
  apply Fin.ext
  rw [Rect.emb_apply]
  fin_cases d
  · rfl
  · show h + 1 * 0 = h; omega
  · show 0 + 1 * i.val = i.val; omega
  · show 0 + 1 * l.val = l.val; omega

/-- A rotated head as stored. -/
theorem emit (h : ℕ) (hh : h < 12) {hb : ∀ d, (![0, h, 0, 0] : Fin 4 → ℕ) d + (![1, 1, 384, 128] : Fin 4 → ℕ) d ≤ S1x12x384x128.size d}
    {inv : FVec Ideal S384x1 .f32} {y : Vec Ideal S1x384x128 .f32} {g : Vec Ideal S1x128 .f32} {c0 c1 : Vec Ideal S1x384x128 .f32}
    (hinv : ∀ i, inv (ix2 i 0) = Ideal.div 1 (root (raw x2 x1 x0 W S B i)))
    (hc0 : ∀ i l, c0 (ix3 0 i l) = cosT (ix2 ⟨l / 2, by omega⟩ i))
    (hc1 : ∀ i (l : Fin 128), c1 (ix3 0 i l) = if l.val % 2 = 0 then 0 - sinT (ix2 ⟨l / 2, by omega⟩ i) else sinT (ix2 ⟨l / 2, by omega⟩ i))
    (hy : ∀ i l, y (ix3 0 i l) = raw x2 x1 x0 W S B i ⟨h, hh⟩ l)
    (hg : ∀ l, g (ix2 0 l) = Gt (ix2 ⟨h, hh⟩ l))
    (x : (Rect.unit (s := S1x12x384x128) ![0, h, 0, 0] ![1, 1, 384, 128] hb).shape.Idx) :
    k0_pay75 mask inv y g c0 c1 x = qk x2 x1 x0 W S B Gt cosT sinT ((Rect.unit (s := S1x12x384x128) ![0, h, 0, 0] ![1, 1, 384, 128] hb).emb x) := by
  obtain ⟨i, l, rfl⟩ : ∃ (i : Fin 384) (l : Fin 128), x = ix4 (0 : Fin 1) (0 : Fin 1) i l := by
    refine ⟨x 2, x 3, funext fun d => Fin.ext ?_⟩
    have h1 : (x 0).val < 1 := (x 0).isLt
    have h2 : (x 1).val < 1 := (x 1).isLt
    fin_cases d
    · show (x 0).val = 0; omega
    · show (x 1).val = 0; omega
    · rfl
    · rfl
  rw [head_emb h hh hb]
  refine (emit_apply i l inv y g c0 c1).trans ?_
  refine (turned_eq l _ (fun j => cosT (ix2 j i)) (fun j => sinT (ix2 j i)) _ _ (fun l => hc0 i l) (fun l => hc1 i l)).trans ?_
  have e : (fun l => y (ix3 0 i l) * inv (ix2 i 0) * g (ix2 0 l)) = rms (raw x2 x1 x0 W S B i) (fun h l => Gt (ix2 h l)) ⟨h, hh⟩ := by
    funext l
    rw [hy, hinv, hg, mul_recip _ _ (root_pos _)]
    rfl
  rw [e]
  rfl

/-- One more rotated head stored. -/
theorem emit_cons (h : ℕ) (hh : h < 12) {hb : ∀ d, (![0, h, 0, 0] : Fin 4 → ℕ) d + (![1, 1, 384, 128] : Fin 4 → ℕ) d ≤ S1x12x384x128.size d}
    (L : List (View.Piece (Elt Ideal) S1x12x384x128 .f32)) (inv : FVec Ideal S384x1 .f32) (y : Vec Ideal S1x384x128 .f32) (g : Vec Ideal S1x128 .f32)
    (c0 c1 : Vec Ideal S1x384x128 .f32) (w : FVec Ideal S1x1x384x128 .f32) (hw : w = k0_pay75 mask inv y g c0 c1)
    (hinv : ∀ i, inv (ix2 i 0) = Ideal.div 1 (root (raw x2 x1 x0 W S B i)))
    (hc0 : ∀ i l, c0 (ix3 0 i l) = cosT (ix2 ⟨l / 2, by omega⟩ i))
    (hc1 : ∀ i (l : Fin 128), c1 (ix3 0 i l) = if l.val % 2 = 0 then 0 - sinT (ix2 ⟨l / 2, by omega⟩ i) else sinT (ix2 ⟨l / 2, by omega⟩ i))
    (hy : ∀ i l, y (ix3 0 i l) = raw x2 x1 x0 W S B i ⟨h, hh⟩ l)
    (hg : ∀ l, g (ix2 0 l) = Gt (ix2 ⟨h, hh⟩ l))
    (hL : View.PiecesOf (Val := Elt Ideal) (e := .f32) (qk x2 x1 x0 W S B Gt cosT sinT) L) :
    View.PiecesOf (Val := Elt Ideal) (e := .f32) (qk x2 x1 x0 W S B Gt cosT sinT)
      (⟨Rect.unit (s := S1x12x384x128) ![0, h, 0, 0] ![1, 1, 384, 128] hb, w⟩ :: L) :=
  ⟨fun x => (congrFun hw x).trans (emit h hh (hb := hb) hinv hc0 hc1 hy hg x), hL⟩

/-- One more plain head stored. -/
theorem keep_cons (h : ℕ) (hh : h < 12) {hb : ∀ d, (![0, h, 0, 0] : Fin 4 → ℕ) d + (![1, 1, 384, 128] : Fin 4 → ℕ) d ≤ S1x12x384x128.size d}
    (L : List (View.Piece (Elt Ideal) S1x12x384x128 .f32)) (w : FVec Ideal S1x1x384x128 .f32)
    (hp : ∀ i l, w (ix4 0 0 i l) = raw x2 x1 x0 W S B i ⟨h, hh⟩ l)
    (hL : View.PiecesOf (Val := Elt Ideal) (e := .f32) (vals x2 x1 x0 W S B) L) :
    View.PiecesOf (Val := Elt Ideal) (e := .f32) (vals x2 x1 x0 W S B)
      (⟨Rect.unit (s := S1x12x384x128) ![0, h, 0, 0] ![1, 1, 384, 128] hb, w⟩ :: L) :=
  ⟨fun x => by
    obtain ⟨i, l, rfl⟩ : ∃ (i : Fin 384) (l : Fin 128), x = ix4 (0 : Fin 1) (0 : Fin 1) i l := by
      refine ⟨x 2, x 3, funext fun d => Fin.ext ?_⟩
      have h1 : (x 0).val < 1 := (x 0).isLt
      have h2 : (x 1).val < 1 := (x 1).isLt
      fin_cases d
      · show (x 0).val = 0; omega
      · show (x 1).val = 0; omega
      · rfl
      · rfl
    rw [head_emb h hh hb]
    exact hp i l, hL⟩

/-- The codes of one sample. -/
def codes (x2 : Vec Ideal S6x1536 .f32) (x1 : Vec Ideal S1x6x1536 .f32) (x0 : Vec Ideal S1x384x1536 .bf16) (z : S1x384x1536.Idx) : EReal :=
  codeOf (row x2 x1 x0 (z 1) (z 2)) (rowScale (row x2 x1 x0 (z 1)))

/-- The codes stored as one block. -/
theorem codes_cons {hb : ∀ d, (![0, 0, 0] : Fin 3 → ℕ) d + (![1, 384, 1536] : Fin 3 → ℕ) d ≤ S1x384x1536.size d} (w : FVec Ideal S1x384x1536 .fp8e4m3)
    (hw : ∀ i k, w (ix3 0 i k) = codeOf (row x2 x1 x0 i k) (rowScale (row x2 x1 x0 i))) :
    View.PiecesOf (Val := Elt Ideal) (e := .fp8e4m3) (codes x2 x1 x0)
      [⟨Rect.unit (s := S1x384x1536) ![0, 0, 0] ![1, 384, 1536] hb, w⟩] :=
  ⟨fun x => by
    obtain ⟨i, k, rfl⟩ : ∃ (i : Fin 384) (k : Fin 1536), x = ix3 (0 : Fin 1) i k := by
      refine ⟨x 1, x 2, funext fun d => Fin.ext ?_⟩
      have h1 : (x 0).val < 1 := (x 0).isLt
      fin_cases d
      · show (x 0).val = 0; omega
      · rfl
      · rfl
    have e : (Rect.unit (s := S1x384x1536) ![0, 0, 0] ![1, 384, 1536] hb).emb (ix3 (0 : Fin 1) i k) = ix3 0 i k := by
      funext d
      apply Fin.ext
      rw [Rect.emb_apply]
      fin_cases d
      · rfl
      · show 0 + 1 * i.val = i.val; omega
      · show 0 + 1 * k.val = k.val; omega
    show w _ = codes x2 x1 x0 ((Rect.unit (s := S1x384x1536) ![0, 0, 0] ![1, 384, 1536] hb).emb _)
    rw [e]
    exact hw i k, trivial⟩

/-- A row of scales is one store: the row that was written. -/
theorem row_read (v : View sig .tc .vmem S5x384 .f32) (f : v.ty.Contents (Elt Ideal)) (off : Fin 2 → ℕ) (inb : ∀ a, off a + (![1, 384] : Fin 2 → ℕ) a ≤ S5x384.size a)
    (w : FVec Ideal S1x384 .f32) (s : Fin 5) (hoff : off = ![(s : ℕ), 0]) (i : Fin 384) :
    View.read (Elt Ideal) v (v.writes (Elt Ideal) f [⟨Rect.unit off ![1, 384] inb, w⟩]) (ix2 s i) = w (ix2 0 i) :=
  View.read_writes_cons_unit_of_mem v f inb w [] (ix2 s i) (ix2 0 i) hoff (by intro a; fin_cases a <;> simp [ix2])

/-- The rows that were not written stay. -/
theorem row_read_other (v : View sig .tc .vmem S5x384 .f32) (f : v.ty.Contents (Elt Ideal)) (off : Fin 2 → ℕ) (inb : ∀ a, off a + (![1, 384] : Fin 2 → ℕ) a ≤ S5x384.size a)
    (w : FVec Ideal S1x384 .f32) (s t : Fin 5) (hoff : off = ![(t : ℕ), 0]) (h : s < t) (i : Fin 384) :
    View.read (Elt Ideal) v (v.writes (Elt Ideal) f [⟨Rect.unit off ![1, 384] inb, w⟩]) (ix2 s i) = View.read (Elt Ideal) v f (ix2 s i) :=
  View.read_writes_cons_unit_of_not_mem v f inb w [] (ix2 s i) hoff 0 (Or.inl h)

/-- The sum of the squares of twelve heads, taken head after head along the lanes, is the sum over all of them. -/
theorem squares (p : Fin 12 → Fin 128 → EReal) :
    ∑ l : Fin 128, (p 0 l * p 0 l + p 1 l * p 1 l + p 2 l * p 2 l + p 3 l * p 3 l + p 4 l * p 4 l + p 5 l * p 5 l + p 6 l * p 6 l
      + p 7 l * p 7 l + p 8 l * p 8 l + p 9 l * p 9 l + p 10 l * p 10 l + p 11 l * p 11 l) = ∑ h, ∑ l, p h l * p h l := by
  rw [Finset.sum_comm]
  refine Finset.sum_congr rfl fun l _ => ?_
  rw [Fin.sum_univ_castSucc, Fin.sum_univ_castSucc, Fin.sum_univ_castSucc, Fin.sum_univ_castSucc, Fin.sum_univ_eight]
  rfl

/-- The reciprocal of the root of the mean square of the heads. -/
theorem recip {g : FVec Ideal S384x512 .f32} {p0 p1 p2 p3 p4 p5 p6 p7 p8 p9 p10 : FVec Ideal S384x128 .f32}
    (h0 : ∀ i l, p0 (ix2 i l) = raw x2 x1 x0 W S B i 0 l) (h1 : ∀ i l, p1 (ix2 i l) = raw x2 x1 x0 W S B i 1 l)
    (h2 : ∀ i l, p2 (ix2 i l) = raw x2 x1 x0 W S B i 2 l) (h3 : ∀ i l, p3 (ix2 i l) = raw x2 x1 x0 W S B i 3 l)
    (h4 : ∀ i l, p4 (ix2 i l) = raw x2 x1 x0 W S B i 4 l) (h5 : ∀ i l, p5 (ix2 i l) = raw x2 x1 x0 W S B i 5 l)
    (h6 : ∀ i l, p6 (ix2 i l) = raw x2 x1 x0 W S B i 6 l) (h7 : ∀ i l, p7 (ix2 i l) = raw x2 x1 x0 W S B i 7 l)
    (h8 : ∀ i l, p8 (ix2 i l) = raw x2 x1 x0 W S B i 8 l) (h9 : ∀ i l, p9 (ix2 i l) = raw x2 x1 x0 W S B i 9 l)
    (h10 : ∀ i l, p10 (ix2 i l) = raw x2 x1 x0 W S B i 10 l) (h11 : ∀ i l, part3 g (ix2 i l) = raw x2 x1 x0 W S B i 11 l) (i : Fin 384) :
    k0_pay51 g (addf (addf (addf (addf (addf (addf (addf (addf (addf (mulf p0 p0) (mulf p1 p1)) (mulf p2 p2)) (mulf p3 p3)) (mulf p4 p4))
      (mulf p5 p5)) (mulf p6 p6)) (mulf p7 p7)) (mulf p8 p8)) (mulf p9 p9)) p10 (ix2 i 0) = Ideal.div 1 (root (raw x2 x1 x0 W S B i)) := by
  rw [inv_apply, root, ← squares]
  refine congrArg (fun t => Ideal.div 1 (Ideal.sqrt (Ideal.div t width + eps))) (Finset.sum_congr rfl fun l _ => ?_)
  rw [← h0, ← h1, ← h2, ← h3, ← h4, ← h5, ← h6, ← h7, ← h8, ← h9, ← h10, ← h11]
  rfl

end Results

end Cert.QkvIdeal.Cell

end
-- ==== Proof.QkvOutA.lean ====
/- What the body writes at the first sample, entry by entry. -/
module

public import proofs.«01_k».proof.Proof.QkvBodyA
public import proofs.«01_k».proof.Proof.QkvPiece

@[expose] public section

set_option maxRecDepth 16384

noncomputable section

namespace Cert.QkvIdeal.Hand.OutA

open Cert.QkvIdeal Cert.QkvIdeal.Gen Cert.QkvIdeal.Hand Cert.QkvIdeal.Cell Cert.FfnSpec Cert.QkvSpec
open Idealize.ShloMosaic Idealize.ShloMosaic.TcCoe

variable (c : Dev nD) (i : grid0.Coords) (arg1 : Memref sig .tc .vmem S1x384x1536 .bf16) (harg1 : arg1.IsWhole) (arg2 : Memref sig .tc .vmem S1x6x1536 .f32) (harg2 : arg2.IsWhole) (arg3 : Memref sig .tc .vmem S6x1536 .f32) (harg3 : arg3.IsWhole) (arg4 : Memref sig .tc .vmem S64x384 .f32) (harg4 : arg4.IsWhole) (arg5 : Memref sig .tc .vmem S64x384 .f32) (harg5 : arg5.IsWhole) (arg6 : Memref sig .tc .vmem S12x1536x128 .fp8e4m3) (harg6 : arg6.IsWhole) (arg7 : Memref sig .tc .vmem S12x1536x128 .fp8e4m3) (harg7 : arg7.IsWhole) (arg8 : Memref sig .tc .vmem S12x1536x128 .fp8e4m3) (harg8 : arg8.IsWhole) (arg9 : Memref sig .tc .vmem S12x128 .f32) (harg9 : arg9.IsWhole) (arg10 : Memref sig .tc .vmem S12x128 .f32) (harg10 : arg10.IsWhole) (arg11 : Memref sig .tc .vmem S12x128 .f32) (harg11 : arg11.IsWhole) (arg12 : Memref sig .tc .vmem S12x128 .f32) (harg12 : arg12.IsWhole) (arg13 : Memref sig .tc .vmem S12x128 .f32) (harg13 : arg13.IsWhole) (arg14 : Memref sig .tc .vmem S12x128 .f32) (harg14 : arg14.IsWhole) (arg15 : Memref sig .tc .vmem S12x128 .f32) (harg15 : arg15.IsWhole) (arg16 : Memref sig .tc .vmem S12x128 .f32) (harg16 : arg16.IsWhole) (arg17 : Memref sig .tc .vmem S1x12x384x128 .bf16) (harg17 : arg17.IsWhole) (arg18 : Memref sig .tc .vmem S1x12x384x128 .bf16) (harg18 : arg18.IsWhole) (arg19 : Memref sig .tc .vmem S1x12x384x128 .bf16) (harg19 : arg19.IsWhole) (arg20 : Memref sig .tc .vmem S1x384x1536 .fp8e4m3) (harg20 : arg20.IsWhole) (arg21 : Memref sig .tc .vmem S5x384 .f32) (harg21 : arg21.IsWhole) (arg22 : Memref sig .tc .vmem S2x12x384x128 .f32) (harg22 : arg22.IsWhole) (arg23 : Memref sig .tc .vmem S2x384x128 .f32) (harg23 : arg23.IsWhole) (hc0 : cond0_0 i)
    (x0 : Vec Ideal S1x384x1536 .bf16) (x1 : Vec Ideal S1x6x1536 .f32) (x2 : Vec Ideal S6x1536 .f32) (x3 : Vec Ideal S64x384 .f32) (x4 : Vec Ideal S64x384 .f32) (x5 : Vec Ideal S12x1536x128 .fp8e4m3) (x6 : Vec Ideal S12x1536x128 .fp8e4m3) (x7 : Vec Ideal S12x1536x128 .fp8e4m3) (x8 : Vec Ideal S12x128 .f32) (x9 : Vec Ideal S12x128 .f32) (x10 : Vec Ideal S12x128 .f32) (x11 : Vec Ideal S12x128 .f32) (x12 : Vec Ideal S12x128 .f32) (x13 : Vec Ideal S12x128 .f32) (x14 : Vec Ideal S12x128 .f32) (x15 : Vec Ideal S12x128 .f32)

/-- The scale of each row. -/
theorem xs_fact (i : Fin 384) : (kernelRun0_A.sl.r_3 (F := Ideal) c arg1 harg1 arg2 harg2 arg3 harg3 x0 x1 x2) (ix2 i 0) = rowScale (row x2 x1 x0 i) := by
  show k0_pay10 (k0_pay8 _ _ _) (k0_pay9 _ _ _) (ix2 i 0) = _
  rw [scale_apply]
  rw [load_all harg3 x2 _ (by decide), load_all harg2 x1 _ (by decide), load_all harg1 x0 _ (by decide)]

/-- The codes of each row. -/
theorem q_fact (i : Fin 384) (k : Fin 1536) : (kernelRun0_A.sl.r_4 (F := Ideal) c arg1 harg1 arg2 harg2 arg3 harg3 x0 x1 x2) (ix2 i k) = codeOf (row x2 x1 x0 i k) (rowScale (row x2 x1 x0 i)) := by
  show k0_pay11 (k0_pay7 _ _ _) (k0_pay8 _ _ _) (k0_pay9 _ _ _) (ix2 i k) = _
  rw [code_any, scale_apply, row_apply]
  rw [load_all harg3 x2 _ (by decide), load_all harg2 x1 _ (by decide), load_all harg1 x0 _ (by decide)]

/-- The query heads stored in the scratch. -/
theorem scr_q : View.PiecesOf (Val := Elt Ideal) (e := .f32) (scr x2 x1 x0 x5 x6 x8 x9 x11 x12) (kernelRun0_A.sl.HS0_12 (F := Ideal) c arg1 harg1 arg2 harg2 arg3 harg3 arg6 harg6 arg9 harg9 arg12 harg12 x0 x1 x2 x5 x8 x11) := by
  dsimp only [kernelRun0_A.sl.HS0_12, kernelRun0_A.sl.cst_1020, kernelRun0_A.sl.cst_978, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_7, kernelRun0_A.sl.r_8, kernelRun0_A.sl.r_9]
  refine put_cons 0 11 (by omega) (by omega) _ _ _ _ (fun i l => ?_) ?_
  · refine (lifted_apply _ i l).trans ?_
    exact (cell3 11 (xs_fact c arg1 harg1 arg2 harg2 arg3 harg3 x0 x1 x2) (q_fact c arg1 harg1 arg2 harg2 arg3 harg3 x0 x1 x2) (fun k l => load_w harg6 x5 11 (by omega) _ k l) (fun l => load_r harg9 x8 11 (by omega) _ l) (fun l => load_r harg12 x11 11 (by omega) _ l)) i l
  refine put_cons 0 10 (by omega) (by omega) _ _ _ _ (fun i l => ?_) ?_
  · refine (lifted_apply _ i l).trans ?_
    exact (cell2 10 (xs_fact c arg1 harg1 arg2 harg2 arg3 harg3 x0 x1 x2) (q_fact c arg1 harg1 arg2 harg2 arg3 harg3 x0 x1 x2) (fun k l => load_w harg6 x5 10 (by omega) _ k l) (fun l => load_r harg9 x8 10 (by omega) _ l) (fun l => load_r harg12 x11 10 (by omega) _ l)) i l
  refine put_cons 0 9 (by omega) (by omega) _ _ _ _ (fun i l => ?_) ?_
  · refine (lifted_apply _ i l).trans ?_
    exact (cell1 9 (xs_fact c arg1 harg1 arg2 harg2 arg3 harg3 x0 x1 x2) (q_fact c arg1 harg1 arg2 harg2 arg3 harg3 x0 x1 x2) (fun k l => load_w harg6 x5 9 (by omega) _ k l) (fun l => load_r harg9 x8 9 (by omega) _ l) (fun l => load_r harg12 x11 9 (by omega) _ l)) i l
  refine put_cons 0 8 (by omega) (by omega) _ _ _ _ (fun i l => ?_) ?_
  · refine (lifted_apply _ i l).trans ?_
    exact (cell0 8 (xs_fact c arg1 harg1 arg2 harg2 arg3 harg3 x0 x1 x2) (q_fact c arg1 harg1 arg2 harg2 arg3 harg3 x0 x1 x2) (fun k l => load_w harg6 x5 8 (by omega) _ k l) (fun l => load_r harg9 x8 8 (by omega) _ l) (fun l => load_r harg12 x11 8 (by omega) _ l)) i l
  refine put_cons 0 7 (by omega) (by omega) _ _ _ _ (fun i l => ?_) ?_
  · refine (lifted_apply _ i l).trans ?_
    exact (cell3 7 (xs_fact c arg1 harg1 arg2 harg2 arg3 harg3 x0 x1 x2) (q_fact c arg1 harg1 arg2 harg2 arg3 harg3 x0 x1 x2) (fun k l => load_w harg6 x5 7 (by omega) _ k l) (fun l => load_r harg9 x8 7 (by omega) _ l) (fun l => load_r harg12 x11 7 (by omega) _ l)) i l
  refine put_cons 0 6 (by omega) (by omega) _ _ _ _ (fun i l => ?_) ?_
  · refine (lifted_apply _ i l).trans ?_
    exact (cell2 6 (xs_fact c arg1 harg1 arg2 harg2 arg3 harg3 x0 x1 x2) (q_fact c arg1 harg1 arg2 harg2 arg3 harg3 x0 x1 x2) (fun k l => load_w harg6 x5 6 (by omega) _ k l) (fun l => load_r harg9 x8 6 (by omega) _ l) (fun l => load_r harg12 x11 6 (by omega) _ l)) i l
  refine put_cons 0 5 (by omega) (by omega) _ _ _ _ (fun i l => ?_) ?_
  · refine (lifted_apply _ i l).trans ?_
    exact (cell1 5 (xs_fact c arg1 harg1 arg2 harg2 arg3 harg3 x0 x1 x2) (q_fact c arg1 harg1 arg2 harg2 arg3 harg3 x0 x1 x2) (fun k l => load_w harg6 x5 5 (by omega) _ k l) (fun l => load_r harg9 x8 5 (by omega) _ l) (fun l => load_r harg12 x11 5 (by omega) _ l)) i l
  refine put_cons 0 4 (by omega) (by omega) _ _ _ _ (fun i l => ?_) ?_
  · refine (lifted_apply _ i l).trans ?_
    exact (cell0 4 (xs_fact c arg1 harg1 arg2 harg2 arg3 harg3 x0 x1 x2) (q_fact c arg1 harg1 arg2 harg2 arg3 harg3 x0 x1 x2) (fun k l => load_w harg6 x5 4 (by omega) _ k l) (fun l => load_r harg9 x8 4 (by omega) _ l) (fun l => load_r harg12 x11 4 (by omega) _ l)) i l
  refine put_cons 0 3 (by omega) (by omega) _ _ _ _ (fun i l => ?_) ?_
  · refine (lifted_apply _ i l).trans ?_
    exact (cell3 3 (xs_fact c arg1 harg1 arg2 harg2 arg3 harg3 x0 x1 x2) (q_fact c arg1 harg1 arg2 harg2 arg3 harg3 x0 x1 x2) (fun k l => load_w harg6 x5 3 (by omega) _ k l) (fun l => load_r harg9 x8 3 (by omega) _ l) (fun l => load_r harg12 x11 3 (by omega) _ l)) i l
  refine put_cons 0 2 (by omega) (by omega) _ _ _ _ (fun i l => ?_) ?_
  · refine (lifted_apply _ i l).trans ?_
    exact (cell2 2 (xs_fact c arg1 harg1 arg2 harg2 arg3 harg3 x0 x1 x2) (q_fact c arg1 harg1 arg2 harg2 arg3 harg3 x0 x1 x2) (fun k l => load_w harg6 x5 2 (by omega) _ k l) (fun l => load_r harg9 x8 2 (by omega) _ l) (fun l => load_r harg12 x11 2 (by omega) _ l)) i l
  refine put_cons 0 1 (by omega) (by omega) _ _ _ _ (fun i l => ?_) ?_
  · refine (lifted_apply _ i l).trans ?_
    exact (cell1 1 (xs_fact c arg1 harg1 arg2 harg2 arg3 harg3 x0 x1 x2) (q_fact c arg1 harg1 arg2 harg2 arg3 harg3 x0 x1 x2) (fun k l => load_w harg6 x5 1 (by omega) _ k l) (fun l => load_r harg9 x8 1 (by omega) _ l) (fun l => load_r harg12 x11 1 (by omega) _ l)) i l
  refine put_cons 0 0 (by omega) (by omega) _ _ _ _ (fun i l => ?_) ?_
  · refine (lifted_apply _ i l).trans ?_
    exact (cell0 0 (xs_fact c arg1 harg1 arg2 harg2 arg3 harg3 x0 x1 x2) (q_fact c arg1 harg1 arg2 harg2 arg3 harg3 x0 x1 x2) (fun k l => load_w harg6 x5 0 (by omega) _ k l) (fun l => load_r harg9 x8 0 (by omega) _ l) (fun l => load_r harg12 x11 0 (by omega) _ l)) i l
  exact trivial

/-- The key heads stored after them. -/
theorem scr_k : View.PiecesOf (Val := Elt Ideal) (e := .f32) (scr x2 x1 x0 x5 x6 x8 x9 x11 x12) (kernelRun0_A.sl.HS0_24 (F := Ideal) c arg1 harg1 arg2 harg2 arg3 harg3 arg6 harg6 arg7 harg7 arg9 harg9 arg10 harg10 arg12 harg12 arg13 harg13 x0 x1 x2 x5 x6 x8 x9 x11 x12) := by
  dsimp only [kernelRun0_A.sl.HS0_24, kernelRun0_A.sl.cst_1020, kernelRun0_A.sl.cst_978, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_7, kernelRun0_A.sl.r_8, kernelRun0_A.sl.r_9]
  refine put_cons 1 11 (by omega) (by omega) _ _ _ _ (fun i l => ?_) ?_
  · refine (lifted_apply _ i l).trans ?_
    exact (cell3 11 (xs_fact c arg1 harg1 arg2 harg2 arg3 harg3 x0 x1 x2) (q_fact c arg1 harg1 arg2 harg2 arg3 harg3 x0 x1 x2) (fun k l => load_w harg7 x6 11 (by omega) _ k l) (fun l => load_r harg10 x9 11 (by omega) _ l) (fun l => load_r harg13 x12 11 (by omega) _ l)) i l
  refine put_cons 1 10 (by omega) (by omega) _ _ _ _ (fun i l => ?_) ?_
  · refine (lifted_apply _ i l).trans ?_
    exact (cell2 10 (xs_fact c arg1 harg1 arg2 harg2 arg3 harg3 x0 x1 x2) (q_fact c arg1 harg1 arg2 harg2 arg3 harg3 x0 x1 x2) (fun k l => load_w harg7 x6 10 (by omega) _ k l) (fun l => load_r harg10 x9 10 (by omega) _ l) (fun l => load_r harg13 x12 10 (by omega) _ l)) i l
  refine put_cons 1 9 (by omega) (by omega) _ _ _ _ (fun i l => ?_) ?_
  · refine (lifted_apply _ i l).trans ?_
    exact (cell1 9 (xs_fact c arg1 harg1 arg2 harg2 arg3 harg3 x0 x1 x2) (q_fact c arg1 harg1 arg2 harg2 arg3 harg3 x0 x1 x2) (fun k l => load_w harg7 x6 9 (by omega) _ k l) (fun l => load_r harg10 x9 9 (by omega) _ l) (fun l => load_r harg13 x12 9 (by omega) _ l)) i l
  refine put_cons 1 8 (by omega) (by omega) _ _ _ _ (fun i l => ?_) ?_
  · refine (lifted_apply _ i l).trans ?_
    exact (cell0 8 (xs_fact c arg1 harg1 arg2 harg2 arg3 harg3 x0 x1 x2) (q_fact c arg1 harg1 arg2 harg2 arg3 harg3 x0 x1 x2) (fun k l => load_w harg7 x6 8 (by omega) _ k l) (fun l => load_r harg10 x9 8 (by omega) _ l) (fun l => load_r harg13 x12 8 (by omega) _ l)) i l
  refine put_cons 1 7 (by omega) (by omega) _ _ _ _ (fun i l => ?_) ?_
  · refine (lifted_apply _ i l).trans ?_
    exact (cell3 7 (xs_fact c arg1 harg1 arg2 harg2 arg3 harg3 x0 x1 x2) (q_fact c arg1 harg1 arg2 harg2 arg3 harg3 x0 x1 x2) (fun k l => load_w harg7 x6 7 (by omega) _ k l) (fun l => load_r harg10 x9 7 (by omega) _ l) (fun l => load_r harg13 x12 7 (by omega) _ l)) i l
  refine put_cons 1 6 (by omega) (by omega) _ _ _ _ (fun i l => ?_) ?_
  · refine (lifted_apply _ i l).trans ?_
    exact (cell2 6 (xs_fact c arg1 harg1 arg2 harg2 arg3 harg3 x0 x1 x2) (q_fact c arg1 harg1 arg2 harg2 arg3 harg3 x0 x1 x2) (fun k l => load_w harg7 x6 6 (by omega) _ k l) (fun l => load_r harg10 x9 6 (by omega) _ l) (fun l => load_r harg13 x12 6 (by omega) _ l)) i l
  refine put_cons 1 5 (by omega) (by omega) _ _ _ _ (fun i l => ?_) ?_
  · refine (lifted_apply _ i l).trans ?_
    exact (cell1 5 (xs_fact c arg1 harg1 arg2 harg2 arg3 harg3 x0 x1 x2) (q_fact c arg1 harg1 arg2 harg2 arg3 harg3 x0 x1 x2) (fun k l => load_w harg7 x6 5 (by omega) _ k l) (fun l => load_r harg10 x9 5 (by omega) _ l) (fun l => load_r harg13 x12 5 (by omega) _ l)) i l
  refine put_cons 1 4 (by omega) (by omega) _ _ _ _ (fun i l => ?_) ?_
  · refine (lifted_apply _ i l).trans ?_
    exact (cell0 4 (xs_fact c arg1 harg1 arg2 harg2 arg3 harg3 x0 x1 x2) (q_fact c arg1 harg1 arg2 harg2 arg3 harg3 x0 x1 x2) (fun k l => load_w harg7 x6 4 (by omega) _ k l) (fun l => load_r harg10 x9 4 (by omega) _ l) (fun l => load_r harg13 x12 4 (by omega) _ l)) i l
  refine put_cons 1 3 (by omega) (by omega) _ _ _ _ (fun i l => ?_) ?_
  · refine (lifted_apply _ i l).trans ?_
    exact (cell3 3 (xs_fact c arg1 harg1 arg2 harg2 arg3 harg3 x0 x1 x2) (q_fact c arg1 harg1 arg2 harg2 arg3 harg3 x0 x1 x2) (fun k l => load_w harg7 x6 3 (by omega) _ k l) (fun l => load_r harg10 x9 3 (by omega) _ l) (fun l => load_r harg13 x12 3 (by omega) _ l)) i l
  refine put_cons 1 2 (by omega) (by omega) _ _ _ _ (fun i l => ?_) ?_
  · refine (lifted_apply _ i l).trans ?_
    exact (cell2 2 (xs_fact c arg1 harg1 arg2 harg2 arg3 harg3 x0 x1 x2) (q_fact c arg1 harg1 arg2 harg2 arg3 harg3 x0 x1 x2) (fun k l => load_w harg7 x6 2 (by omega) _ k l) (fun l => load_r harg10 x9 2 (by omega) _ l) (fun l => load_r harg13 x12 2 (by omega) _ l)) i l
  refine put_cons 1 1 (by omega) (by omega) _ _ _ _ (fun i l => ?_) ?_
  · refine (lifted_apply _ i l).trans ?_
    exact (cell1 1 (xs_fact c arg1 harg1 arg2 harg2 arg3 harg3 x0 x1 x2) (q_fact c arg1 harg1 arg2 harg2 arg3 harg3 x0 x1 x2) (fun k l => load_w harg7 x6 1 (by omega) _ k l) (fun l => load_r harg10 x9 1 (by omega) _ l) (fun l => load_r harg13 x12 1 (by omega) _ l)) i l
  refine put_cons 1 0 (by omega) (by omega) _ _ _ _ (fun i l => ?_) ?_
  · refine (lifted_apply _ i l).trans ?_
    exact (cell0 0 (xs_fact c arg1 harg1 arg2 harg2 arg3 harg3 x0 x1 x2) (q_fact c arg1 harg1 arg2 harg2 arg3 harg3 x0 x1 x2) (fun k l => load_w harg7 x6 0 (by omega) _ k l) (fun l => load_r harg10 x9 0 (by omega) _ l) (fun l => load_r harg13 x12 0 (by omega) _ l)) i l
  exact scr_q c arg1 harg1 arg2 harg2 arg3 harg3 arg6 harg6 arg9 harg9 arg12 harg12 x0 x1 x2 x5 x6 x8 x9 x11 x12

/-- The reciprocal root of the queries of one position. -/
theorem inv_q (i : Fin 384) : (kernelRun0_A.sl.r_22 (F := Ideal) c arg1 harg1 arg2 harg2 arg3 harg3 arg6 harg6 arg9 harg9 arg12 harg12 x0 x1 x2 x5 x8 x11) (ix2 i 0) = Ideal.div 1 (root (raw x2 x1 x0 x5 x8 x11 i)) := by
  dsimp only [kernelRun0_A.sl.cst_1020, kernelRun0_A.sl.cst_978, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_7, kernelRun0_A.sl.r_8, kernelRun0_A.sl.r_9]
  exact recip
    (cell0 0 (xs_fact c arg1 harg1 arg2 harg2 arg3 harg3 x0 x1 x2) (q_fact c arg1 harg1 arg2 harg2 arg3 harg3 x0 x1 x2) (fun k l => load_w harg6 x5 0 (by omega) _ k l) (fun l => load_r harg9 x8 0 (by omega) _ l) (fun l => load_r harg12 x11 0 (by omega) _ l))
    (cell1 1 (xs_fact c arg1 harg1 arg2 harg2 arg3 harg3 x0 x1 x2) (q_fact c arg1 harg1 arg2 harg2 arg3 harg3 x0 x1 x2) (fun k l => load_w harg6 x5 1 (by omega) _ k l) (fun l => load_r harg9 x8 1 (by omega) _ l) (fun l => load_r harg12 x11 1 (by omega) _ l))
    (cell2 2 (xs_fact c arg1 harg1 arg2 harg2 arg3 harg3 x0 x1 x2) (q_fact c arg1 harg1 arg2 harg2 arg3 harg3 x0 x1 x2) (fun k l => load_w harg6 x5 2 (by omega) _ k l) (fun l => load_r harg9 x8 2 (by omega) _ l) (fun l => load_r harg12 x11 2 (by omega) _ l))
    (cell3 3 (xs_fact c arg1 harg1 arg2 harg2 arg3 harg3 x0 x1 x2) (q_fact c arg1 harg1 arg2 harg2 arg3 harg3 x0 x1 x2) (fun k l => load_w harg6 x5 3 (by omega) _ k l) (fun l => load_r harg9 x8 3 (by omega) _ l) (fun l => load_r harg12 x11 3 (by omega) _ l))
    (cell0 4 (xs_fact c arg1 harg1 arg2 harg2 arg3 harg3 x0 x1 x2) (q_fact c arg1 harg1 arg2 harg2 arg3 harg3 x0 x1 x2) (fun k l => load_w harg6 x5 4 (by omega) _ k l) (fun l => load_r harg9 x8 4 (by omega) _ l) (fun l => load_r harg12 x11 4 (by omega) _ l))
    (cell1 5 (xs_fact c arg1 harg1 arg2 harg2 arg3 harg3 x0 x1 x2) (q_fact c arg1 harg1 arg2 harg2 arg3 harg3 x0 x1 x2) (fun k l => load_w harg6 x5 5 (by omega) _ k l) (fun l => load_r harg9 x8 5 (by omega) _ l) (fun l => load_r harg12 x11 5 (by omega) _ l))
    (cell2 6 (xs_fact c arg1 harg1 arg2 harg2 arg3 harg3 x0 x1 x2) (q_fact c arg1 harg1 arg2 harg2 arg3 harg3 x0 x1 x2) (fun k l => load_w harg6 x5 6 (by omega) _ k l) (fun l => load_r harg9 x8 6 (by omega) _ l) (fun l => load_r harg12 x11 6 (by omega) _ l))
    (cell3 7 (xs_fact c arg1 harg1 arg2 harg2 arg3 harg3 x0 x1 x2) (q_fact c arg1 harg1 arg2 harg2 arg3 harg3 x0 x1 x2) (fun k l => load_w harg6 x5 7 (by omega) _ k l) (fun l => load_r harg9 x8 7 (by omega) _ l) (fun l => load_r harg12 x11 7 (by omega) _ l))
    (cell0 8 (xs_fact c arg1 harg1 arg2 harg2 arg3 harg3 x0 x1 x2) (q_fact c arg1 harg1 arg2 harg2 arg3 harg3 x0 x1 x2) (fun k l => load_w harg6 x5 8 (by omega) _ k l) (fun l => load_r harg9 x8 8 (by omega) _ l) (fun l => load_r harg12 x11 8 (by omega) _ l))
    (cell1 9 (xs_fact c arg1 harg1 arg2 harg2 arg3 harg3 x0 x1 x2) (q_fact c arg1 harg1 arg2 harg2 arg3 harg3 x0 x1 x2) (fun k l => load_w harg6 x5 9 (by omega) _ k l) (fun l => load_r harg9 x8 9 (by omega) _ l) (fun l => load_r harg12 x11 9 (by omega) _ l))
    (cell2 10 (xs_fact c arg1 harg1 arg2 harg2 arg3 harg3 x0 x1 x2) (q_fact c arg1 harg1 arg2 harg2 arg3 harg3 x0 x1 x2) (fun k l => load_w harg6 x5 10 (by omega) _ k l) (fun l => load_r harg9 x8 10 (by omega) _ l) (fun l => load_r harg12 x11 10 (by omega) _ l))
    (cell3 11 (xs_fact c arg1 harg1 arg2 harg2 arg3 harg3 x0 x1 x2) (q_fact c arg1 harg1 arg2 harg2 arg3 harg3 x0 x1 x2) (fun k l => load_w harg6 x5 11 (by omega) _ k l) (fun l => load_r harg9 x8 11 (by omega) _ l) (fun l => load_r harg12 x11 11 (by omega) _ l)) i

/-- The reciprocal root of the keys of one position. -/
theorem inv_k (i : Fin 384) : (kernelRun0_A.sl.r_47 (F := Ideal) c arg1 harg1 arg2 harg2 arg3 harg3 arg7 harg7 arg10 harg10 arg13 harg13 x0 x1 x2 x6 x9 x12) (ix2 i 0) = Ideal.div 1 (root (raw x2 x1 x0 x6 x9 x12 i)) := by
  dsimp only [kernelRun0_A.sl.cst_1020, kernelRun0_A.sl.cst_978, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_7, kernelRun0_A.sl.r_8, kernelRun0_A.sl.r_9]
  exact recip
    (cell0 0 (xs_fact c arg1 harg1 arg2 harg2 arg3 harg3 x0 x1 x2) (q_fact c arg1 harg1 arg2 harg2 arg3 harg3 x0 x1 x2) (fun k l => load_w harg7 x6 0 (by omega) _ k l) (fun l => load_r harg10 x9 0 (by omega) _ l) (fun l => load_r harg13 x12 0 (by omega) _ l))
    (cell1 1 (xs_fact c arg1 harg1 arg2 harg2 arg3 harg3 x0 x1 x2) (q_fact c arg1 harg1 arg2 harg2 arg3 harg3 x0 x1 x2) (fun k l => load_w harg7 x6 1 (by omega) _ k l) (fun l => load_r harg10 x9 1 (by omega) _ l) (fun l => load_r harg13 x12 1 (by omega) _ l))
    (cell2 2 (xs_fact c arg1 harg1 arg2 harg2 arg3 harg3 x0 x1 x2) (q_fact c arg1 harg1 arg2 harg2 arg3 harg3 x0 x1 x2) (fun k l => load_w harg7 x6 2 (by omega) _ k l) (fun l => load_r harg10 x9 2 (by omega) _ l) (fun l => load_r harg13 x12 2 (by omega) _ l))
    (cell3 3 (xs_fact c arg1 harg1 arg2 harg2 arg3 harg3 x0 x1 x2) (q_fact c arg1 harg1 arg2 harg2 arg3 harg3 x0 x1 x2) (fun k l => load_w harg7 x6 3 (by omega) _ k l) (fun l => load_r harg10 x9 3 (by omega) _ l) (fun l => load_r harg13 x12 3 (by omega) _ l))
    (cell0 4 (xs_fact c arg1 harg1 arg2 harg2 arg3 harg3 x0 x1 x2) (q_fact c arg1 harg1 arg2 harg2 arg3 harg3 x0 x1 x2) (fun k l => load_w harg7 x6 4 (by omega) _ k l) (fun l => load_r harg10 x9 4 (by omega) _ l) (fun l => load_r harg13 x12 4 (by omega) _ l))
    (cell1 5 (xs_fact c arg1 harg1 arg2 harg2 arg3 harg3 x0 x1 x2) (q_fact c arg1 harg1 arg2 harg2 arg3 harg3 x0 x1 x2) (fun k l => load_w harg7 x6 5 (by omega) _ k l) (fun l => load_r harg10 x9 5 (by omega) _ l) (fun l => load_r harg13 x12 5 (by omega) _ l))
    (cell2 6 (xs_fact c arg1 harg1 arg2 harg2 arg3 harg3 x0 x1 x2) (q_fact c arg1 harg1 arg2 harg2 arg3 harg3 x0 x1 x2) (fun k l => load_w harg7 x6 6 (by omega) _ k l) (fun l => load_r harg10 x9 6 (by omega) _ l) (fun l => load_r harg13 x12 6 (by omega) _ l))
    (cell3 7 (xs_fact c arg1 harg1 arg2 harg2 arg3 harg3 x0 x1 x2) (q_fact c arg1 harg1 arg2 harg2 arg3 harg3 x0 x1 x2) (fun k l => load_w harg7 x6 7 (by omega) _ k l) (fun l => load_r harg10 x9 7 (by omega) _ l) (fun l => load_r harg13 x12 7 (by omega) _ l))
    (cell0 8 (xs_fact c arg1 harg1 arg2 harg2 arg3 harg3 x0 x1 x2) (q_fact c arg1 harg1 arg2 harg2 arg3 harg3 x0 x1 x2) (fun k l => load_w harg7 x6 8 (by omega) _ k l) (fun l => load_r harg10 x9 8 (by omega) _ l) (fun l => load_r harg13 x12 8 (by omega) _ l))
    (cell1 9 (xs_fact c arg1 harg1 arg2 harg2 arg3 harg3 x0 x1 x2) (q_fact c arg1 harg1 arg2 harg2 arg3 harg3 x0 x1 x2) (fun k l => load_w harg7 x6 9 (by omega) _ k l) (fun l => load_r harg10 x9 9 (by omega) _ l) (fun l => load_r harg13 x12 9 (by omega) _ l))
    (cell2 10 (xs_fact c arg1 harg1 arg2 harg2 arg3 harg3 x0 x1 x2) (q_fact c arg1 harg1 arg2 harg2 arg3 harg3 x0 x1 x2) (fun k l => load_w harg7 x6 10 (by omega) _ k l) (fun l => load_r harg10 x9 10 (by omega) _ l) (fun l => load_r harg13 x12 10 (by omega) _ l))
    (cell3 11 (xs_fact c arg1 harg1 arg2 harg2 arg3 harg3 x0 x1 x2) (q_fact c arg1 harg1 arg2 harg2 arg3 harg3 x0 x1 x2) (fun k l => load_w harg7 x6 11 (by omega) _ k l) (fun l => load_r harg10 x9 11 (by omega) _ l) (fun l => load_r harg13 x12 11 (by omega) _ l)) i

/-- The tables stored in the second scratch. -/
theorem tab : View.PiecesOf (Val := Elt Ideal) (e := .f32) (tables x3 x4) (kernelRun0_A.sl.HS1_2 (F := Ideal) c arg4 harg4 arg5 harg5 x3 x4) := by
  refine ⟨fun x => ?_, fun x => ?_, trivial⟩
  · refine table_put 1 (by omega) (hb := inb_S2x384x128_S1x384x128_1_0_0) (fun i l => ?_) x
    refine (sin_apply i l _).trans ?_
    rw [load_all harg5 x4 _ (by decide)]; rfl
  · refine table_put 0 (by omega) (hb := inb_S2x384x128_S1x384x128_0_0_0) (fun i l => ?_) x
    refine (cos_apply i l _).trans ?_
    rw [load_all harg4 x3 _ (by decide)]; rfl

/-- The cosines read back. -/
theorem tab_cos (i : Fin 384) (l : Fin 128) : (kernelRun0_A.sl.v295 (F := Ideal) c arg4 harg4 arg5 harg5 arg23 x3 x4) (ix3 0 i l) = x3 (ix2 ⟨l / 2, by omega⟩ i) :=
  table_back 0 (by omega) arg23.view _ (tab c arg4 harg4 arg5 harg5 x3 x4) ⟨_, List.Mem.tail _ (List.Mem.head _)⟩ i l

/-- The sines read back. -/
theorem tab_sin (i : Fin 384) (l : Fin 128) :
    (kernelRun0_A.sl.v298 (F := Ideal) c arg4 harg4 arg5 harg5 arg23 x3 x4) (ix3 0 i l) = if l.val % 2 = 0 then 0 - x4 (ix2 ⟨l / 2, by omega⟩ i) else x4 (ix2 ⟨l / 2, by omega⟩ i) :=
  table_back 1 (by omega) arg23.view _ (tab c arg4 harg4 arg5 harg5 x3 x4) ⟨_, List.Mem.head _⟩ i l

/-- The queries the body stores. -/
theorem out_q  :
    View.PiecesOf (Val := Elt Ideal) (e := .f32) (qk x2 x1 x0 x5 x8 x11 x14 x3 x4) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).1 := by
  have ht0 : ∀ (i : Fin 384) (l : Fin 128), ((kernelRun0_A.sl.v295 (F := Ideal) c arg4 harg4 arg5 harg5 arg23 x3 x4) : Vec Ideal S1x384x128 .f32) (ix3 0 i l) = x3 (ix2 ⟨l / 2, by omega⟩ i) := (tab_cos c arg4 harg4 arg5 harg5 arg23 x3 x4)
  have ht1 : ∀ (i : Fin 384) (l : Fin 128), ((kernelRun0_A.sl.v298 (F := Ideal) c arg4 harg4 arg5 harg5 arg23 x3 x4) : Vec Ideal S1x384x128 .f32) (ix3 0 i l) = if l.val % 2 = 0 then 0 - x4 (ix2 ⟨l / 2, by omega⟩ i) else x4 (ix2 ⟨l / 2, by omega⟩ i) := (tab_sin c arg4 harg4 arg5 harg5 arg23 x3 x4)
  refine emit_cons 11 (by omega) _ (kernelRun0_A.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![11, 0, 0] S1x384x128.size inb_S12x384x128_S1x384x128_11_0_0).toLoadRect ![1, 12, 384, 128] (of_decide_eq_true (id (Eq.refl true))) (of_decide_eq_true (id (Eq.refl true)))) (kernelRun0_A.sl.v558 (F := Ideal) c arg1 harg1 arg2 harg2 arg3 harg3 arg6 harg6 arg9 harg9 arg12 harg12 arg22 x0 x1 x2 x5 x8 x11))
    (View.readAt (Elt Ideal) arg15.view (Rect.unit (s := S12x128) ![11, 0] S1x128.size inb_S12x128_S1x128_11_0).toLoadRect (harg15.unread x14))
    (kernelRun0_A.sl.v295 (F := Ideal) c arg4 harg4 arg5 harg5 arg23 x3 x4)
    (kernelRun0_A.sl.v298 (F := Ideal) c arg4 harg4 arg5 harg5 arg23 x3 x4)
    _ ?_ (inv_q c arg1 harg1 arg2 harg2 arg3 harg3 arg6 harg6 arg9 harg9 arg12 harg12 x0 x1 x2 x5 x8 x11) ht0 ht1
    (fun i l => (back 0 11 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.head _⟩ _ i l).trans (if_pos rfl))
    (fun l => load_r harg15 x14 11 (by omega) _ l) ?_
  · rfl
  refine emit_cons 10 (by omega) _ (kernelRun0_A.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![10, 0, 0] S1x384x128.size inb_S12x384x128_S1x384x128_10_0_0).toLoadRect ![1, 12, 384, 128] (of_decide_eq_true (id (Eq.refl true))) (of_decide_eq_true (id (Eq.refl true)))) (kernelRun0_A.sl.v533 (F := Ideal) c arg1 harg1 arg2 harg2 arg3 harg3 arg6 harg6 arg9 harg9 arg12 harg12 arg22 x0 x1 x2 x5 x8 x11))
    (View.readAt (Elt Ideal) arg15.view (Rect.unit (s := S12x128) ![10, 0] S1x128.size inb_S12x128_S1x128_10_0).toLoadRect (harg15.unread x14))
    (kernelRun0_A.sl.v295 (F := Ideal) c arg4 harg4 arg5 harg5 arg23 x3 x4)
    (kernelRun0_A.sl.v298 (F := Ideal) c arg4 harg4 arg5 harg5 arg23 x3 x4)
    _ ?_ (inv_q c arg1 harg1 arg2 harg2 arg3 harg3 arg6 harg6 arg9 harg9 arg12 harg12 x0 x1 x2 x5 x8 x11) ht0 ht1
    (fun i l => (back 0 10 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.tail _ (List.Mem.head _)⟩ _ i l).trans (if_pos rfl))
    (fun l => load_r harg15 x14 10 (by omega) _ l) ?_
  · rfl
  refine emit_cons 9 (by omega) _ (kernelRun0_A.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![9, 0, 0] S1x384x128.size inb_S12x384x128_S1x384x128_9_0_0).toLoadRect ![1, 12, 384, 128] (of_decide_eq_true (id (Eq.refl true))) (of_decide_eq_true (id (Eq.refl true)))) (kernelRun0_A.sl.v508 (F := Ideal) c arg1 harg1 arg2 harg2 arg3 harg3 arg6 harg6 arg9 harg9 arg12 harg12 arg22 x0 x1 x2 x5 x8 x11))
    (View.readAt (Elt Ideal) arg15.view (Rect.unit (s := S12x128) ![9, 0] S1x128.size inb_S12x128_S1x128_9_0).toLoadRect (harg15.unread x14))
    (kernelRun0_A.sl.v295 (F := Ideal) c arg4 harg4 arg5 harg5 arg23 x3 x4)
    (kernelRun0_A.sl.v298 (F := Ideal) c arg4 harg4 arg5 harg5 arg23 x3 x4)
    _ ?_ (inv_q c arg1 harg1 arg2 harg2 arg3 harg3 arg6 harg6 arg9 harg9 arg12 harg12 x0 x1 x2 x5 x8 x11) ht0 ht1
    (fun i l => (back 0 9 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.tail _ (List.Mem.tail _ (List.Mem.head _))⟩ _ i l).trans (if_pos rfl))
    (fun l => load_r harg15 x14 9 (by omega) _ l) ?_
  · rfl
  refine emit_cons 8 (by omega) _ (kernelRun0_A.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![8, 0, 0] S1x384x128.size inb_S12x384x128_S1x384x128_8_0_0).toLoadRect ![1, 12, 384, 128] (of_decide_eq_true (id (Eq.refl true))) (of_decide_eq_true (id (Eq.refl true)))) (kernelRun0_A.sl.v483 (F := Ideal) c arg1 harg1 arg2 harg2 arg3 harg3 arg6 harg6 arg9 harg9 arg12 harg12 arg22 x0 x1 x2 x5 x8 x11))
    (View.readAt (Elt Ideal) arg15.view (Rect.unit (s := S12x128) ![8, 0] S1x128.size inb_S12x128_S1x128_8_0).toLoadRect (harg15.unread x14))
    (kernelRun0_A.sl.v295 (F := Ideal) c arg4 harg4 arg5 harg5 arg23 x3 x4)
    (kernelRun0_A.sl.v298 (F := Ideal) c arg4 harg4 arg5 harg5 arg23 x3 x4)
    _ ?_ (inv_q c arg1 harg1 arg2 harg2 arg3 harg3 arg6 harg6 arg9 harg9 arg12 harg12 x0 x1 x2 x5 x8 x11) ht0 ht1
    (fun i l => (back 0 8 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.tail _ (List.Mem.tail _ (List.Mem.tail _ (List.Mem.head _)))⟩ _ i l).trans (if_pos rfl))
    (fun l => load_r harg15 x14 8 (by omega) _ l) ?_
  · rfl
  refine emit_cons 7 (by omega) _ (kernelRun0_A.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![7, 0, 0] S1x384x128.size inb_S12x384x128_S1x384x128_7_0_0).toLoadRect ![1, 12, 384, 128] (of_decide_eq_true (id (Eq.refl true))) (of_decide_eq_true (id (Eq.refl true)))) (kernelRun0_A.sl.v458 (F := Ideal) c arg1 harg1 arg2 harg2 arg3 harg3 arg6 harg6 arg9 harg9 arg12 harg12 arg22 x0 x1 x2 x5 x8 x11))
    (View.readAt (Elt Ideal) arg15.view (Rect.unit (s := S12x128) ![7, 0] S1x128.size inb_S12x128_S1x128_7_0).toLoadRect (harg15.unread x14))
    (kernelRun0_A.sl.v295 (F := Ideal) c arg4 harg4 arg5 harg5 arg23 x3 x4)
    (kernelRun0_A.sl.v298 (F := Ideal) c arg4 harg4 arg5 harg5 arg23 x3 x4)
    _ ?_ (inv_q c arg1 harg1 arg2 harg2 arg3 harg3 arg6 harg6 arg9 harg9 arg12 harg12 x0 x1 x2 x5 x8 x11) ht0 ht1
    (fun i l => (back 0 7 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.tail _ (List.Mem.tail _ (List.Mem.tail _ (List.Mem.tail _ (List.Mem.head _))))⟩ _ i l).trans (if_pos rfl))
    (fun l => load_r harg15 x14 7 (by omega) _ l) ?_
  · rfl
  refine emit_cons 6 (by omega) _ (kernelRun0_A.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![6, 0, 0] S1x384x128.size inb_S12x384x128_S1x384x128_6_0_0).toLoadRect ![1, 12, 384, 128] (of_decide_eq_true (id (Eq.refl true))) (of_decide_eq_true (id (Eq.refl true)))) (kernelRun0_A.sl.v433 (F := Ideal) c arg1 harg1 arg2 harg2 arg3 harg3 arg6 harg6 arg9 harg9 arg12 harg12 arg22 x0 x1 x2 x5 x8 x11))
    (View.readAt (Elt Ideal) arg15.view (Rect.unit (s := S12x128) ![6, 0] S1x128.size inb_S12x128_S1x128_6_0).toLoadRect (harg15.unread x14))
    (kernelRun0_A.sl.v295 (F := Ideal) c arg4 harg4 arg5 harg5 arg23 x3 x4)
    (kernelRun0_A.sl.v298 (F := Ideal) c arg4 harg4 arg5 harg5 arg23 x3 x4)
    _ ?_ (inv_q c arg1 harg1 arg2 harg2 arg3 harg3 arg6 harg6 arg9 harg9 arg12 harg12 x0 x1 x2 x5 x8 x11) ht0 ht1
    (fun i l => (back 0 6 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.tail _ (List.Mem.tail _ (List.Mem.tail _ (List.Mem.tail _ (List.Mem.tail _ (List.Mem.head _)))))⟩ _ i l).trans (if_pos rfl))
    (fun l => load_r harg15 x14 6 (by omega) _ l) ?_
  · rfl
  refine emit_cons 5 (by omega) _ (kernelRun0_A.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![5, 0, 0] S1x384x128.size inb_S12x384x128_S1x384x128_5_0_0).toLoadRect ![1, 12, 384, 128] (of_decide_eq_true (id (Eq.refl true))) (of_decide_eq_true (id (Eq.refl true)))) (kernelRun0_A.sl.v408 (F := Ideal) c arg1 harg1 arg2 harg2 arg3 harg3 arg6 harg6 arg9 harg9 arg12 harg12 arg22 x0 x1 x2 x5 x8 x11))
    (View.readAt (Elt Ideal) arg15.view (Rect.unit (s := S12x128) ![5, 0] S1x128.size inb_S12x128_S1x128_5_0).toLoadRect (harg15.unread x14))
    (kernelRun0_A.sl.v295 (F := Ideal) c arg4 harg4 arg5 harg5 arg23 x3 x4)
    (kernelRun0_A.sl.v298 (F := Ideal) c arg4 harg4 arg5 harg5 arg23 x3 x4)
    _ ?_ (inv_q c arg1 harg1 arg2 harg2 arg3 harg3 arg6 harg6 arg9 harg9 arg12 harg12 x0 x1 x2 x5 x8 x11) ht0 ht1
    (fun i l => (back 0 5 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.tail _ (List.Mem.tail _ (List.Mem.tail _ (List.Mem.tail _ (List.Mem.tail _ (List.Mem.tail _ (List.Mem.head _))))))⟩ _ i l).trans (if_pos rfl))
    (fun l => load_r harg15 x14 5 (by omega) _ l) ?_
  · rfl
  refine emit_cons 4 (by omega) _ (kernelRun0_A.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![4, 0, 0] S1x384x128.size inb_S12x384x128_S1x384x128_4_0_0).toLoadRect ![1, 12, 384, 128] (of_decide_eq_true (id (Eq.refl true))) (of_decide_eq_true (id (Eq.refl true)))) (kernelRun0_A.sl.v383 (F := Ideal) c arg1 harg1 arg2 harg2 arg3 harg3 arg6 harg6 arg9 harg9 arg12 harg12 arg22 x0 x1 x2 x5 x8 x11))
    (View.readAt (Elt Ideal) arg15.view (Rect.unit (s := S12x128) ![4, 0] S1x128.size inb_S12x128_S1x128_4_0).toLoadRect (harg15.unread x14))
    (kernelRun0_A.sl.v295 (F := Ideal) c arg4 harg4 arg5 harg5 arg23 x3 x4)
    (kernelRun0_A.sl.v298 (F := Ideal) c arg4 harg4 arg5 harg5 arg23 x3 x4)
    _ ?_ (inv_q c arg1 harg1 arg2 harg2 arg3 harg3 arg6 harg6 arg9 harg9 arg12 harg12 x0 x1 x2 x5 x8 x11) ht0 ht1
    (fun i l => (back 0 4 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.tail _ (List.Mem.tail _ (List.Mem.tail _ (List.Mem.tail _ (List.Mem.tail _ (List.Mem.tail _ (List.Mem.tail _ (List.Mem.head _)))))))⟩ _ i l).trans (if_pos rfl))
    (fun l => load_r harg15 x14 4 (by omega) _ l) ?_
  · rfl
  refine emit_cons 3 (by omega) _ (kernelRun0_A.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![3, 0, 0] S1x384x128.size inb_S12x384x128_S1x384x128_3_0_0).toLoadRect ![1, 12, 384, 128] (of_decide_eq_true (id (Eq.refl true))) (of_decide_eq_true (id (Eq.refl true)))) (kernelRun0_A.sl.v358 (F := Ideal) c arg1 harg1 arg2 harg2 arg3 harg3 arg6 harg6 arg9 harg9 arg12 harg12 arg22 x0 x1 x2 x5 x8 x11))
    (View.readAt (Elt Ideal) arg15.view (Rect.unit (s := S12x128) ![3, 0] S1x128.size inb_S12x128_S1x128_3_0).toLoadRect (harg15.unread x14))
    (kernelRun0_A.sl.v295 (F := Ideal) c arg4 harg4 arg5 harg5 arg23 x3 x4)
    (kernelRun0_A.sl.v298 (F := Ideal) c arg4 harg4 arg5 harg5 arg23 x3 x4)
    _ ?_ (inv_q c arg1 harg1 arg2 harg2 arg3 harg3 arg6 harg6 arg9 harg9 arg12 harg12 x0 x1 x2 x5 x8 x11) ht0 ht1
    (fun i l => (back 0 3 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.tail _ (List.Mem.tail _ (List.Mem.tail _ (List.Mem.tail _ (List.Mem.tail _ (List.Mem.tail _ (List.Mem.tail _ (List.Mem.tail _ (List.Mem.head _))))))))⟩ _ i l).trans (if_pos rfl))
    (fun l => load_r harg15 x14 3 (by omega) _ l) ?_
  · rfl
  refine emit_cons 2 (by omega) _ (kernelRun0_A.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![2, 0, 0] S1x384x128.size inb_S12x384x128_S1x384x128_2_0_0).toLoadRect ![1, 12, 384, 128] (of_decide_eq_true (id (Eq.refl true))) (of_decide_eq_true (id (Eq.refl true)))) (kernelRun0_A.sl.v333 (F := Ideal) c arg1 harg1 arg2 harg2 arg3 harg3 arg6 harg6 arg9 harg9 arg12 harg12 arg22 x0 x1 x2 x5 x8 x11))
    (View.readAt (Elt Ideal) arg15.view (Rect.unit (s := S12x128) ![2, 0] S1x128.size inb_S12x128_S1x128_2_0).toLoadRect (harg15.unread x14))
    (kernelRun0_A.sl.v295 (F := Ideal) c arg4 harg4 arg5 harg5 arg23 x3 x4)
    (kernelRun0_A.sl.v298 (F := Ideal) c arg4 harg4 arg5 harg5 arg23 x3 x4)
    _ ?_ (inv_q c arg1 harg1 arg2 harg2 arg3 harg3 arg6 harg6 arg9 harg9 arg12 harg12 x0 x1 x2 x5 x8 x11) ht0 ht1
    (fun i l => (back 0 2 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.tail _ (List.Mem.tail _ (List.Mem.tail _ (List.Mem.tail _ (List.Mem.tail _ (List.Mem.tail _ (List.Mem.tail _ (List.Mem.tail _ (List.Mem.tail _ (List.Mem.head _)))))))))⟩ _ i l).trans (if_pos rfl))
    (fun l => load_r harg15 x14 2 (by omega) _ l) ?_
  · rfl
  refine emit_cons 1 (by omega) _ (kernelRun0_A.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![1, 0, 0] S1x384x128.size inb_S12x384x128_S1x384x128_1_0_0).toLoadRect ![1, 12, 384, 128] (of_decide_eq_true (id (Eq.refl true))) (of_decide_eq_true (id (Eq.refl true)))) (kernelRun0_A.sl.v308 (F := Ideal) c arg1 harg1 arg2 harg2 arg3 harg3 arg6 harg6 arg9 harg9 arg12 harg12 arg22 x0 x1 x2 x5 x8 x11))
    (View.readAt (Elt Ideal) arg15.view (Rect.unit (s := S12x128) ![1, 0] S1x128.size inb_S12x128_S1x128_1_0).toLoadRect (harg15.unread x14))
    (kernelRun0_A.sl.v295 (F := Ideal) c arg4 harg4 arg5 harg5 arg23 x3 x4)
    (kernelRun0_A.sl.v298 (F := Ideal) c arg4 harg4 arg5 harg5 arg23 x3 x4)
    _ ?_ (inv_q c arg1 harg1 arg2 harg2 arg3 harg3 arg6 harg6 arg9 harg9 arg12 harg12 x0 x1 x2 x5 x8 x11) ht0 ht1
    (fun i l => (back 0 1 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.tail _ (List.Mem.tail _ (List.Mem.tail _ (List.Mem.tail _ (List.Mem.tail _ (List.Mem.tail _ (List.Mem.tail _ (List.Mem.tail _ (List.Mem.tail _ (List.Mem.tail _ (List.Mem.head _))))))))))⟩ _ i l).trans (if_pos rfl))
    (fun l => load_r harg15 x14 1 (by omega) _ l) ?_
  · rfl
  refine emit_cons 0 (by omega) _ (kernelRun0_A.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![0, 0, 0] S1x384x128.size inb_S12x384x128_S1x384x128_0_0_0).toLoadRect ![1, 12, 384, 128] (of_decide_eq_true (id (Eq.refl true))) (of_decide_eq_true (id (Eq.refl true)))) (kernelRun0_A.sl.v283 (F := Ideal) c arg1 harg1 arg2 harg2 arg3 harg3 arg6 harg6 arg9 harg9 arg12 harg12 arg22 x0 x1 x2 x5 x8 x11))
    (View.readAt (Elt Ideal) arg15.view (Rect.unit (s := S12x128) ![0, 0] S1x128.size inb_S12x128_S1x128_0_0).toLoadRect (harg15.unread x14))
    (kernelRun0_A.sl.v295 (F := Ideal) c arg4 harg4 arg5 harg5 arg23 x3 x4)
    (kernelRun0_A.sl.v298 (F := Ideal) c arg4 harg4 arg5 harg5 arg23 x3 x4)
    _ ?_ (inv_q c arg1 harg1 arg2 harg2 arg3 harg3 arg6 harg6 arg9 harg9 arg12 harg12 x0 x1 x2 x5 x8 x11) ht0 ht1
    (fun i l => (back 0 0 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))⟩ _ i l).trans (if_pos rfl))
    (fun l => load_r harg15 x14 0 (by omega) _ l) ?_
  · rfl
  exact trivial

/-- The keys the body stores. -/
theorem out_k  :
    View.PiecesOf (Val := Elt Ideal) (e := .f32) (qk x2 x1 x0 x6 x9 x12 x15 x3 x4) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).2.1 := by
  have ht0 : ∀ (i : Fin 384) (l : Fin 128), ((kernelRun0_A.sl.v295 (F := Ideal) c arg4 harg4 arg5 harg5 arg23 x3 x4) : Vec Ideal S1x384x128 .f32) (ix3 0 i l) = x3 (ix2 ⟨l / 2, by omega⟩ i) := (tab_cos c arg4 harg4 arg5 harg5 arg23 x3 x4)
  have ht1 : ∀ (i : Fin 384) (l : Fin 128), ((kernelRun0_A.sl.v298 (F := Ideal) c arg4 harg4 arg5 harg5 arg23 x3 x4) : Vec Ideal S1x384x128 .f32) (ix3 0 i l) = if l.val % 2 = 0 then 0 - x4 (ix2 ⟨l / 2, by omega⟩ i) else x4 (ix2 ⟨l / 2, by omega⟩ i) := (tab_sin c arg4 harg4 arg5 harg5 arg23 x3 x4)
  refine emit_cons 11 (by omega) _ (kernelRun0_A.sl.r_47 (F := Ideal) c arg1 harg1 arg2 harg2 arg3 harg3 arg7 harg7 arg10 harg10 arg13 harg13 x0 x1 x2 x6 x9 x12)
    (LoadRect.valAlong (LoadRect.numel_consLift (Rect.unit (s := S12x384x128) ![11, 0, 0] S1x384x128.size inb_S12x384x128_S1x384x128_11_0_0).toLoadRect ![1, 12, 384, 128] (of_decide_eq_true (id (Eq.refl true))) (of_decide_eq_true (id (Eq.refl true)))) (kernelRun0_A.sl.v1040 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![11, 0] S1x128.size inb_S12x128_S1x128_11_0).toLoadRect (harg16.unread x15))
    (kernelRun0_A.sl.v295 (F := Ideal) c arg4 harg4 arg5 harg5 arg23 x3 x4)
    (kernelRun0_A.sl.v298 (F := Ideal) c arg4 harg4 arg5 harg5 arg23 x3 x4)
    _ ?_ (inv_k c arg1 harg1 arg2 harg2 arg3 harg3 arg7 harg7 arg10 harg10 arg13 harg13 x0 x1 x2 x6 x9 x12) ht0 ht1
    (fun i l => (back 1 11 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.head _⟩ _ i l).trans (if_neg Nat.one_ne_zero))
    (fun l => load_r harg16 x15 11 (by omega) _ l) ?_
  · rfl
  refine emit_cons 10 (by omega) _ (kernelRun0_A.sl.r_47 (F := Ideal) c arg1 harg1 arg2 harg2 arg3 harg3 arg7 harg7 arg10 harg10 arg13 harg13 x0 x1 x2 x6 x9 x12)
    (LoadRect.valAlong (LoadRect.numel_consLift (Rect.unit (s := S12x384x128) ![10, 0, 0] S1x384x128.size inb_S12x384x128_S1x384x128_10_0_0).toLoadRect ![1, 12, 384, 128] (of_decide_eq_true (id (Eq.refl true))) (of_decide_eq_true (id (Eq.refl true)))) (kernelRun0_A.sl.v1015 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![10, 0] S1x128.size inb_S12x128_S1x128_10_0).toLoadRect (harg16.unread x15))
    (kernelRun0_A.sl.v295 (F := Ideal) c arg4 harg4 arg5 harg5 arg23 x3 x4)
    (kernelRun0_A.sl.v298 (F := Ideal) c arg4 harg4 arg5 harg5 arg23 x3 x4)
    _ ?_ (inv_k c arg1 harg1 arg2 harg2 arg3 harg3 arg7 harg7 arg10 harg10 arg13 harg13 x0 x1 x2 x6 x9 x12) ht0 ht1
    (fun i l => (back 1 10 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.tail _ (List.Mem.head _)⟩ _ i l).trans (if_neg Nat.one_ne_zero))
    (fun l => load_r harg16 x15 10 (by omega) _ l) ?_
  · rfl
  refine emit_cons 9 (by omega) _ (kernelRun0_A.sl.r_47 (F := Ideal) c arg1 harg1 arg2 harg2 arg3 harg3 arg7 harg7 arg10 harg10 arg13 harg13 x0 x1 x2 x6 x9 x12)
    (LoadRect.valAlong (LoadRect.numel_consLift (Rect.unit (s := S12x384x128) ![9, 0, 0] S1x384x128.size inb_S12x384x128_S1x384x128_9_0_0).toLoadRect ![1, 12, 384, 128] (of_decide_eq_true (id (Eq.refl true))) (of_decide_eq_true (id (Eq.refl true)))) (kernelRun0_A.sl.v990 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![9, 0] S1x128.size inb_S12x128_S1x128_9_0).toLoadRect (harg16.unread x15))
    (kernelRun0_A.sl.v295 (F := Ideal) c arg4 harg4 arg5 harg5 arg23 x3 x4)
    (kernelRun0_A.sl.v298 (F := Ideal) c arg4 harg4 arg5 harg5 arg23 x3 x4)
    _ ?_ (inv_k c arg1 harg1 arg2 harg2 arg3 harg3 arg7 harg7 arg10 harg10 arg13 harg13 x0 x1 x2 x6 x9 x12) ht0 ht1
    (fun i l => (back 1 9 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.tail _ (List.Mem.tail _ (List.Mem.head _))⟩ _ i l).trans (if_neg Nat.one_ne_zero))
    (fun l => load_r harg16 x15 9 (by omega) _ l) ?_
  · rfl
  refine emit_cons 8 (by omega) _ (kernelRun0_A.sl.r_47 (F := Ideal) c arg1 harg1 arg2 harg2 arg3 harg3 arg7 harg7 arg10 harg10 arg13 harg13 x0 x1 x2 x6 x9 x12)
    (LoadRect.valAlong (LoadRect.numel_consLift (Rect.unit (s := S12x384x128) ![8, 0, 0] S1x384x128.size inb_S12x384x128_S1x384x128_8_0_0).toLoadRect ![1, 12, 384, 128] (of_decide_eq_true (id (Eq.refl true))) (of_decide_eq_true (id (Eq.refl true)))) (kernelRun0_A.sl.v965 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![8, 0] S1x128.size inb_S12x128_S1x128_8_0).toLoadRect (harg16.unread x15))
    (kernelRun0_A.sl.v295 (F := Ideal) c arg4 harg4 arg5 harg5 arg23 x3 x4)
    (kernelRun0_A.sl.v298 (F := Ideal) c arg4 harg4 arg5 harg5 arg23 x3 x4)
    _ ?_ (inv_k c arg1 harg1 arg2 harg2 arg3 harg3 arg7 harg7 arg10 harg10 arg13 harg13 x0 x1 x2 x6 x9 x12) ht0 ht1
    (fun i l => (back 1 8 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.tail _ (List.Mem.tail _ (List.Mem.tail _ (List.Mem.head _)))⟩ _ i l).trans (if_neg Nat.one_ne_zero))
    (fun l => load_r harg16 x15 8 (by omega) _ l) ?_
  · rfl
  refine emit_cons 7 (by omega) _ (kernelRun0_A.sl.r_47 (F := Ideal) c arg1 harg1 arg2 harg2 arg3 harg3 arg7 harg7 arg10 harg10 arg13 harg13 x0 x1 x2 x6 x9 x12)
    (LoadRect.valAlong (LoadRect.numel_consLift (Rect.unit (s := S12x384x128) ![7, 0, 0] S1x384x128.size inb_S12x384x128_S1x384x128_7_0_0).toLoadRect ![1, 12, 384, 128] (of_decide_eq_true (id (Eq.refl true))) (of_decide_eq_true (id (Eq.refl true)))) (kernelRun0_A.sl.v940 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![7, 0] S1x128.size inb_S12x128_S1x128_7_0).toLoadRect (harg16.unread x15))
    (kernelRun0_A.sl.v295 (F := Ideal) c arg4 harg4 arg5 harg5 arg23 x3 x4)
    (kernelRun0_A.sl.v298 (F := Ideal) c arg4 harg4 arg5 harg5 arg23 x3 x4)
    _ ?_ (inv_k c arg1 harg1 arg2 harg2 arg3 harg3 arg7 harg7 arg10 harg10 arg13 harg13 x0 x1 x2 x6 x9 x12) ht0 ht1
    (fun i l => (back 1 7 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.tail _ (List.Mem.tail _ (List.Mem.tail _ (List.Mem.tail _ (List.Mem.head _))))⟩ _ i l).trans (if_neg Nat.one_ne_zero))
    (fun l => load_r harg16 x15 7 (by omega) _ l) ?_
  · rfl
  refine emit_cons 6 (by omega) _ (kernelRun0_A.sl.r_47 (F := Ideal) c arg1 harg1 arg2 harg2 arg3 harg3 arg7 harg7 arg10 harg10 arg13 harg13 x0 x1 x2 x6 x9 x12)
    (LoadRect.valAlong (LoadRect.numel_consLift (Rect.unit (s := S12x384x128) ![6, 0, 0] S1x384x128.size inb_S12x384x128_S1x384x128_6_0_0).toLoadRect ![1, 12, 384, 128] (of_decide_eq_true (id (Eq.refl true))) (of_decide_eq_true (id (Eq.refl true)))) (kernelRun0_A.sl.v915 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![6, 0] S1x128.size inb_S12x128_S1x128_6_0).toLoadRect (harg16.unread x15))
    (kernelRun0_A.sl.v295 (F := Ideal) c arg4 harg4 arg5 harg5 arg23 x3 x4)
    (kernelRun0_A.sl.v298 (F := Ideal) c arg4 harg4 arg5 harg5 arg23 x3 x4)
    _ ?_ (inv_k c arg1 harg1 arg2 harg2 arg3 harg3 arg7 harg7 arg10 harg10 arg13 harg13 x0 x1 x2 x6 x9 x12) ht0 ht1
    (fun i l => (back 1 6 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.tail _ (List.Mem.tail _ (List.Mem.tail _ (List.Mem.tail _ (List.Mem.tail _ (List.Mem.head _)))))⟩ _ i l).trans (if_neg Nat.one_ne_zero))
    (fun l => load_r harg16 x15 6 (by omega) _ l) ?_
  · rfl
  refine emit_cons 5 (by omega) _ (kernelRun0_A.sl.r_47 (F := Ideal) c arg1 harg1 arg2 harg2 arg3 harg3 arg7 harg7 arg10 harg10 arg13 harg13 x0 x1 x2 x6 x9 x12)
    (LoadRect.valAlong (LoadRect.numel_consLift (Rect.unit (s := S12x384x128) ![5, 0, 0] S1x384x128.size inb_S12x384x128_S1x384x128_5_0_0).toLoadRect ![1, 12, 384, 128] (of_decide_eq_true (id (Eq.refl true))) (of_decide_eq_true (id (Eq.refl true)))) (kernelRun0_A.sl.v890 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![5, 0] S1x128.size inb_S12x128_S1x128_5_0).toLoadRect (harg16.unread x15))
    (kernelRun0_A.sl.v295 (F := Ideal) c arg4 harg4 arg5 harg5 arg23 x3 x4)
    (kernelRun0_A.sl.v298 (F := Ideal) c arg4 harg4 arg5 harg5 arg23 x3 x4)
    _ ?_ (inv_k c arg1 harg1 arg2 harg2 arg3 harg3 arg7 harg7 arg10 harg10 arg13 harg13 x0 x1 x2 x6 x9 x12) ht0 ht1
    (fun i l => (back 1 5 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.tail _ (List.Mem.tail _ (List.Mem.tail _ (List.Mem.tail _ (List.Mem.tail _ (List.Mem.tail _ (List.Mem.head _))))))⟩ _ i l).trans (if_neg Nat.one_ne_zero))
    (fun l => load_r harg16 x15 5 (by omega) _ l) ?_
  · rfl
  refine emit_cons 4 (by omega) _ (kernelRun0_A.sl.r_47 (F := Ideal) c arg1 harg1 arg2 harg2 arg3 harg3 arg7 harg7 arg10 harg10 arg13 harg13 x0 x1 x2 x6 x9 x12)
    (LoadRect.valAlong (LoadRect.numel_consLift (Rect.unit (s := S12x384x128) ![4, 0, 0] S1x384x128.size inb_S12x384x128_S1x384x128_4_0_0).toLoadRect ![1, 12, 384, 128] (of_decide_eq_true (id (Eq.refl true))) (of_decide_eq_true (id (Eq.refl true)))) (kernelRun0_A.sl.v865 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![4, 0] S1x128.size inb_S12x128_S1x128_4_0).toLoadRect (harg16.unread x15))
    (kernelRun0_A.sl.v295 (F := Ideal) c arg4 harg4 arg5 harg5 arg23 x3 x4)
    (kernelRun0_A.sl.v298 (F := Ideal) c arg4 harg4 arg5 harg5 arg23 x3 x4)
    _ ?_ (inv_k c arg1 harg1 arg2 harg2 arg3 harg3 arg7 harg7 arg10 harg10 arg13 harg13 x0 x1 x2 x6 x9 x12) ht0 ht1
    (fun i l => (back 1 4 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.tail _ (List.Mem.tail _ (List.Mem.tail _ (List.Mem.tail _ (List.Mem.tail _ (List.Mem.tail _ (List.Mem.tail _ (List.Mem.head _)))))))⟩ _ i l).trans (if_neg Nat.one_ne_zero))
    (fun l => load_r harg16 x15 4 (by omega) _ l) ?_
  · rfl
  refine emit_cons 3 (by omega) _ (kernelRun0_A.sl.r_47 (F := Ideal) c arg1 harg1 arg2 harg2 arg3 harg3 arg7 harg7 arg10 harg10 arg13 harg13 x0 x1 x2 x6 x9 x12)
    (LoadRect.valAlong (LoadRect.numel_consLift (Rect.unit (s := S12x384x128) ![3, 0, 0] S1x384x128.size inb_S12x384x128_S1x384x128_3_0_0).toLoadRect ![1, 12, 384, 128] (of_decide_eq_true (id (Eq.refl true))) (of_decide_eq_true (id (Eq.refl true)))) (kernelRun0_A.sl.v840 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![3, 0] S1x128.size inb_S12x128_S1x128_3_0).toLoadRect (harg16.unread x15))
    (kernelRun0_A.sl.v295 (F := Ideal) c arg4 harg4 arg5 harg5 arg23 x3 x4)
    (kernelRun0_A.sl.v298 (F := Ideal) c arg4 harg4 arg5 harg5 arg23 x3 x4)
    _ ?_ (inv_k c arg1 harg1 arg2 harg2 arg3 harg3 arg7 harg7 arg10 harg10 arg13 harg13 x0 x1 x2 x6 x9 x12) ht0 ht1
    (fun i l => (back 1 3 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.tail _ (List.Mem.tail _ (List.Mem.tail _ (List.Mem.tail _ (List.Mem.tail _ (List.Mem.tail _ (List.Mem.tail _ (List.Mem.tail _ (List.Mem.head _))))))))⟩ _ i l).trans (if_neg Nat.one_ne_zero))
    (fun l => load_r harg16 x15 3 (by omega) _ l) ?_
  · rfl
  refine emit_cons 2 (by omega) _ (kernelRun0_A.sl.r_47 (F := Ideal) c arg1 harg1 arg2 harg2 arg3 harg3 arg7 harg7 arg10 harg10 arg13 harg13 x0 x1 x2 x6 x9 x12)
    (LoadRect.valAlong (LoadRect.numel_consLift (Rect.unit (s := S12x384x128) ![2, 0, 0] S1x384x128.size inb_S12x384x128_S1x384x128_2_0_0).toLoadRect ![1, 12, 384, 128] (of_decide_eq_true (id (Eq.refl true))) (of_decide_eq_true (id (Eq.refl true)))) (kernelRun0_A.sl.v815 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![2, 0] S1x128.size inb_S12x128_S1x128_2_0).toLoadRect (harg16.unread x15))
    (kernelRun0_A.sl.v295 (F := Ideal) c arg4 harg4 arg5 harg5 arg23 x3 x4)
    (kernelRun0_A.sl.v298 (F := Ideal) c arg4 harg4 arg5 harg5 arg23 x3 x4)
    _ ?_ (inv_k c arg1 harg1 arg2 harg2 arg3 harg3 arg7 harg7 arg10 harg10 arg13 harg13 x0 x1 x2 x6 x9 x12) ht0 ht1
    (fun i l => (back 1 2 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.tail _ (List.Mem.tail _ (List.Mem.tail _ (List.Mem.tail _ (List.Mem.tail _ (List.Mem.tail _ (List.Mem.tail _ (List.Mem.tail _ (List.Mem.tail _ (List.Mem.head _)))))))))⟩ _ i l).trans (if_neg Nat.one_ne_zero))
    (fun l => load_r harg16 x15 2 (by omega) _ l) ?_
  · rfl
  refine emit_cons 1 (by omega) _ (kernelRun0_A.sl.r_47 (F := Ideal) c arg1 harg1 arg2 harg2 arg3 harg3 arg7 harg7 arg10 harg10 arg13 harg13 x0 x1 x2 x6 x9 x12)
    (LoadRect.valAlong (LoadRect.numel_consLift (Rect.unit (s := S12x384x128) ![1, 0, 0] S1x384x128.size inb_S12x384x128_S1x384x128_1_0_0).toLoadRect ![1, 12, 384, 128] (of_decide_eq_true (id (Eq.refl true))) (of_decide_eq_true (id (Eq.refl true)))) (kernelRun0_A.sl.v790 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![1, 0] S1x128.size inb_S12x128_S1x128_1_0).toLoadRect (harg16.unread x15))
    (kernelRun0_A.sl.v295 (F := Ideal) c arg4 harg4 arg5 harg5 arg23 x3 x4)
    (kernelRun0_A.sl.v298 (F := Ideal) c arg4 harg4 arg5 harg5 arg23 x3 x4)
    _ ?_ (inv_k c arg1 harg1 arg2 harg2 arg3 harg3 arg7 harg7 arg10 harg10 arg13 harg13 x0 x1 x2 x6 x9 x12) ht0 ht1
    (fun i l => (back 1 1 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.tail _ (List.Mem.tail _ (List.Mem.tail _ (List.Mem.tail _ (List.Mem.tail _ (List.Mem.tail _ (List.Mem.tail _ (List.Mem.tail _ (List.Mem.tail _ (List.Mem.tail _ (List.Mem.head _))))))))))⟩ _ i l).trans (if_neg Nat.one_ne_zero))
    (fun l => load_r harg16 x15 1 (by omega) _ l) ?_
  · rfl
  refine emit_cons 0 (by omega) _ (kernelRun0_A.sl.r_47 (F := Ideal) c arg1 harg1 arg2 harg2 arg3 harg3 arg7 harg7 arg10 harg10 arg13 harg13 x0 x1 x2 x6 x9 x12)
    (LoadRect.valAlong (LoadRect.numel_consLift (Rect.unit (s := S12x384x128) ![0, 0, 0] S1x384x128.size inb_S12x384x128_S1x384x128_0_0_0).toLoadRect ![1, 12, 384, 128] (of_decide_eq_true (id (Eq.refl true))) (of_decide_eq_true (id (Eq.refl true)))) (kernelRun0_A.sl.v765 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![0, 0] S1x128.size inb_S12x128_S1x128_0_0).toLoadRect (harg16.unread x15))
    (kernelRun0_A.sl.v295 (F := Ideal) c arg4 harg4 arg5 harg5 arg23 x3 x4)
    (kernelRun0_A.sl.v298 (F := Ideal) c arg4 harg4 arg5 harg5 arg23 x3 x4)
    _ ?_ (inv_k c arg1 harg1 arg2 harg2 arg3 harg3 arg7 harg7 arg10 harg10 arg13 harg13 x0 x1 x2 x6 x9 x12) ht0 ht1
    (fun i l => (back 1 0 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))⟩ _ i l).trans (if_neg Nat.one_ne_zero))
    (fun l => load_r harg16 x15 0 (by omega) _ l) ?_
  · rfl
  exact trivial

/-- The values the body stores. -/
theorem out_v : View.PiecesOf (Val := Elt Ideal) (e := .f32) (vals x2 x1 x0 x7 x10 x13) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).2.2.1 := by
  refine keep_cons 11 (by omega) _ _ (fun i l => ?_) ?_
  · dsimp only [kernelRun0_A.sl.cst_1020, kernelRun0_A.sl.cst_978, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_7, kernelRun0_A.sl.r_8, kernelRun0_A.sl.r_9]
    refine (stored_apply _ i l).trans ?_
    exact (cell3 11 (xs_fact c arg1 harg1 arg2 harg2 arg3 harg3 x0 x1 x2) (q_fact c arg1 harg1 arg2 harg2 arg3 harg3 x0 x1 x2) (fun k l => load_w harg8 x7 11 (by omega) _ k l) (fun l => load_r harg11 x10 11 (by omega) _ l) (fun l => load_r harg14 x13 11 (by omega) _ l)) i l
  refine keep_cons 10 (by omega) _ _ (fun i l => ?_) ?_
  · dsimp only [kernelRun0_A.sl.cst_1020, kernelRun0_A.sl.cst_978, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_7, kernelRun0_A.sl.r_8, kernelRun0_A.sl.r_9]
    refine (stored_apply _ i l).trans ?_
    exact (cell2 10 (xs_fact c arg1 harg1 arg2 harg2 arg3 harg3 x0 x1 x2) (q_fact c arg1 harg1 arg2 harg2 arg3 harg3 x0 x1 x2) (fun k l => load_w harg8 x7 10 (by omega) _ k l) (fun l => load_r harg11 x10 10 (by omega) _ l) (fun l => load_r harg14 x13 10 (by omega) _ l)) i l
  refine keep_cons 9 (by omega) _ _ (fun i l => ?_) ?_
  · dsimp only [kernelRun0_A.sl.cst_1020, kernelRun0_A.sl.cst_978, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_7, kernelRun0_A.sl.r_8, kernelRun0_A.sl.r_9]
    refine (stored_apply _ i l).trans ?_
    exact (cell1 9 (xs_fact c arg1 harg1 arg2 harg2 arg3 harg3 x0 x1 x2) (q_fact c arg1 harg1 arg2 harg2 arg3 harg3 x0 x1 x2) (fun k l => load_w harg8 x7 9 (by omega) _ k l) (fun l => load_r harg11 x10 9 (by omega) _ l) (fun l => load_r harg14 x13 9 (by omega) _ l)) i l
  refine keep_cons 8 (by omega) _ _ (fun i l => ?_) ?_
  · dsimp only [kernelRun0_A.sl.cst_1020, kernelRun0_A.sl.cst_978, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_7, kernelRun0_A.sl.r_8, kernelRun0_A.sl.r_9]
    refine (stored_apply _ i l).trans ?_
    exact (cell0 8 (xs_fact c arg1 harg1 arg2 harg2 arg3 harg3 x0 x1 x2) (q_fact c arg1 harg1 arg2 harg2 arg3 harg3 x0 x1 x2) (fun k l => load_w harg8 x7 8 (by omega) _ k l) (fun l => load_r harg11 x10 8 (by omega) _ l) (fun l => load_r harg14 x13 8 (by omega) _ l)) i l
  refine keep_cons 7 (by omega) _ _ (fun i l => ?_) ?_
  · dsimp only [kernelRun0_A.sl.cst_1020, kernelRun0_A.sl.cst_978, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_7, kernelRun0_A.sl.r_8, kernelRun0_A.sl.r_9]
    refine (stored_apply _ i l).trans ?_
    exact (cell3 7 (xs_fact c arg1 harg1 arg2 harg2 arg3 harg3 x0 x1 x2) (q_fact c arg1 harg1 arg2 harg2 arg3 harg3 x0 x1 x2) (fun k l => load_w harg8 x7 7 (by omega) _ k l) (fun l => load_r harg11 x10 7 (by omega) _ l) (fun l => load_r harg14 x13 7 (by omega) _ l)) i l
  refine keep_cons 6 (by omega) _ _ (fun i l => ?_) ?_
  · dsimp only [kernelRun0_A.sl.cst_1020, kernelRun0_A.sl.cst_978, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_7, kernelRun0_A.sl.r_8, kernelRun0_A.sl.r_9]
    refine (stored_apply _ i l).trans ?_
    exact (cell2 6 (xs_fact c arg1 harg1 arg2 harg2 arg3 harg3 x0 x1 x2) (q_fact c arg1 harg1 arg2 harg2 arg3 harg3 x0 x1 x2) (fun k l => load_w harg8 x7 6 (by omega) _ k l) (fun l => load_r harg11 x10 6 (by omega) _ l) (fun l => load_r harg14 x13 6 (by omega) _ l)) i l
  refine keep_cons 5 (by omega) _ _ (fun i l => ?_) ?_
  · dsimp only [kernelRun0_A.sl.cst_1020, kernelRun0_A.sl.cst_978, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_7, kernelRun0_A.sl.r_8, kernelRun0_A.sl.r_9]
    refine (stored_apply _ i l).trans ?_
    exact (cell1 5 (xs_fact c arg1 harg1 arg2 harg2 arg3 harg3 x0 x1 x2) (q_fact c arg1 harg1 arg2 harg2 arg3 harg3 x0 x1 x2) (fun k l => load_w harg8 x7 5 (by omega) _ k l) (fun l => load_r harg11 x10 5 (by omega) _ l) (fun l => load_r harg14 x13 5 (by omega) _ l)) i l
  refine keep_cons 4 (by omega) _ _ (fun i l => ?_) ?_
  · dsimp only [kernelRun0_A.sl.cst_1020, kernelRun0_A.sl.cst_978, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_7, kernelRun0_A.sl.r_8, kernelRun0_A.sl.r_9]
    refine (stored_apply _ i l).trans ?_
    exact (cell0 4 (xs_fact c arg1 harg1 arg2 harg2 arg3 harg3 x0 x1 x2) (q_fact c arg1 harg1 arg2 harg2 arg3 harg3 x0 x1 x2) (fun k l => load_w harg8 x7 4 (by omega) _ k l) (fun l => load_r harg11 x10 4 (by omega) _ l) (fun l => load_r harg14 x13 4 (by omega) _ l)) i l
  refine keep_cons 3 (by omega) _ _ (fun i l => ?_) ?_
  · dsimp only [kernelRun0_A.sl.cst_1020, kernelRun0_A.sl.cst_978, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_7, kernelRun0_A.sl.r_8, kernelRun0_A.sl.r_9]
    refine (stored_apply _ i l).trans ?_
    exact (cell3 3 (xs_fact c arg1 harg1 arg2 harg2 arg3 harg3 x0 x1 x2) (q_fact c arg1 harg1 arg2 harg2 arg3 harg3 x0 x1 x2) (fun k l => load_w harg8 x7 3 (by omega) _ k l) (fun l => load_r harg11 x10 3 (by omega) _ l) (fun l => load_r harg14 x13 3 (by omega) _ l)) i l
  refine keep_cons 2 (by omega) _ _ (fun i l => ?_) ?_
  · dsimp only [kernelRun0_A.sl.cst_1020, kernelRun0_A.sl.cst_978, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_7, kernelRun0_A.sl.r_8, kernelRun0_A.sl.r_9]
    refine (stored_apply _ i l).trans ?_
    exact (cell2 2 (xs_fact c arg1 harg1 arg2 harg2 arg3 harg3 x0 x1 x2) (q_fact c arg1 harg1 arg2 harg2 arg3 harg3 x0 x1 x2) (fun k l => load_w harg8 x7 2 (by omega) _ k l) (fun l => load_r harg11 x10 2 (by omega) _ l) (fun l => load_r harg14 x13 2 (by omega) _ l)) i l
  refine keep_cons 1 (by omega) _ _ (fun i l => ?_) ?_
  · dsimp only [kernelRun0_A.sl.cst_1020, kernelRun0_A.sl.cst_978, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_7, kernelRun0_A.sl.r_8, kernelRun0_A.sl.r_9]
    refine (stored_apply _ i l).trans ?_
    exact (cell1 1 (xs_fact c arg1 harg1 arg2 harg2 arg3 harg3 x0 x1 x2) (q_fact c arg1 harg1 arg2 harg2 arg3 harg3 x0 x1 x2) (fun k l => load_w harg8 x7 1 (by omega) _ k l) (fun l => load_r harg11 x10 1 (by omega) _ l) (fun l => load_r harg14 x13 1 (by omega) _ l)) i l
  refine keep_cons 0 (by omega) _ _ (fun i l => ?_) ?_
  · dsimp only [kernelRun0_A.sl.cst_1020, kernelRun0_A.sl.cst_978, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_7, kernelRun0_A.sl.r_8, kernelRun0_A.sl.r_9]
    refine (stored_apply _ i l).trans ?_
    exact (cell0 0 (xs_fact c arg1 harg1 arg2 harg2 arg3 harg3 x0 x1 x2) (q_fact c arg1 harg1 arg2 harg2 arg3 harg3 x0 x1 x2) (fun k l => load_w harg8 x7 0 (by omega) _ k l) (fun l => load_r harg11 x10 0 (by omega) _ l) (fun l => load_r harg14 x13 0 (by omega) _ l)) i l
  exact trivial

/-- The codes the body stores. -/
theorem out_c : View.PiecesOf (Val := Elt Ideal) (e := .fp8e4m3) (codes x2 x1 x0) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).2.2.2.1 := by
  refine codes_cons _ (fun i k => ?_)
  refine (code_stored i _ _ _ k).trans ?_
  exact q_fact c arg1 harg1 arg2 harg2 arg3 harg3 x0 x1 x2 i k

/-- The row of scales the body stores. -/
theorem out_s : ∃ w : FVec Ideal S1x384 .f32, (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).2.2.2.2.1 = [⟨Rect.unit (s := S5x384) (k0_off1 i) ![1, 384] (k0_off1_inb i), w⟩]
    ∧ ∀ j, w (ix2 0 j) = rowScale (row x2 x1 x0 j) :=
  ⟨k0_pay13 (kernelRun0_A.sl.r_1 (F := Ideal) c arg1 harg1 arg2 harg2 arg3 harg3 x0 x1 x2) (kernelRun0_A.sl.r_2 (F := Ideal) c arg1 harg1 arg2 harg2 arg3 harg3 x0 x1 x2), rfl, fun j => (scale_row j _ _).trans (xs_fact c arg1 harg1 arg2 harg2 arg3 harg3 x0 x1 x2 j)⟩

/-- The queries fill their block. -/
theorem cov_q (y : S1x12x384x128.Idx) : ∃ pc ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).1, y ∈ pc.1.set :=
  View.cover_of_tiledL (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).1 S1x1x384x128.size (by sl_kernel_rfl) y

/-- The block of queries after the body. -/
theorem read_q  (f : arg17.view.ty.Contents (Elt Ideal)) :
    View.read (Elt Ideal) arg17.view (arg17.view.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).1) = (qk x2 x1 x0 x5 x8 x11 x14 x3 x4) :=
  funext fun y => View.read_writes_apply_of_pieces _ _ (qk x2 x1 x0 x5 x8 x11 x14 x3 x4) _ (View.PiecesOf.mem (out_q c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15)) y (cov_q c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 y)

/-- The keys fill their block. -/
theorem cov_k (y : S1x12x384x128.Idx) : ∃ pc ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).2.1, y ∈ pc.1.set :=
  View.cover_of_tiledL (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).2.1 S1x1x384x128.size (by sl_kernel_rfl) y

/-- The block of keys after the body. -/
theorem read_k  (f : arg18.view.ty.Contents (Elt Ideal)) :
    View.read (Elt Ideal) arg18.view (arg18.view.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).2.1) = (qk x2 x1 x0 x6 x9 x12 x15 x3 x4) :=
  funext fun y => View.read_writes_apply_of_pieces _ _ (qk x2 x1 x0 x6 x9 x12 x15 x3 x4) _ (View.PiecesOf.mem (out_k c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15)) y (cov_k c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 y)

/-- The values fill their block. -/
theorem cov_v (y : S1x12x384x128.Idx) : ∃ pc ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).2.2.1, y ∈ pc.1.set :=
  View.cover_of_tiledL (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).2.2.1 S1x1x384x128.size (by sl_kernel_rfl) y

/-- The block of values after the body. -/
theorem read_v  (f : arg19.view.ty.Contents (Elt Ideal)) :
    View.read (Elt Ideal) arg19.view (arg19.view.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).2.2.1) = (vals x2 x1 x0 x7 x10 x13) :=
  funext fun y => View.read_writes_apply_of_pieces _ _ (vals x2 x1 x0 x7 x10 x13) _ (View.PiecesOf.mem (out_v c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15)) y (cov_v c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 y)

/-- The codes fill their block. -/
theorem cov_c (y : S1x384x1536.Idx) : ∃ pc ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).2.2.2.1, y ∈ pc.1.set :=
  View.cover_of_tiledL (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).2.2.2.1 S1x384x1536.size (by sl_kernel_rfl) y

/-- The block of codes after the body. -/
theorem read_c  (f : arg20.view.ty.Contents (Elt Ideal)) :
    View.read (Elt Ideal) arg20.view (arg20.view.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).2.2.2.1) = (codes x2 x1 x0) :=
  funext fun y => View.read_writes_apply_of_pieces _ _ (codes x2 x1 x0) _ (View.PiecesOf.mem (out_c c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15)) y (cov_c c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 y)

/-- The tables fill their block. -/
theorem cov_t (y : S2x384x128.Idx) : ∃ pc ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).2.2.2.2.2.1, y ∈ pc.1.set :=
  View.cover_of_tiledL (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).2.2.2.2.2.1 S1x384x128.size (by sl_kernel_rfl) y

/-- The block of tables after the body. -/
theorem read_t  (f : arg23.view.ty.Contents (Elt Ideal)) :
    View.read (Elt Ideal) arg23.view (arg23.view.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15).2.2.2.2.2.1) = (tables x3 x4) :=
  funext fun y => View.read_writes_apply_of_pieces _ _ (tables x3 x4) _ (View.PiecesOf.mem (tab c arg4 harg4 arg5 harg5 x3 x4)) y (cov_t c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 y)

end Cert.QkvIdeal.Hand.OutA

end
-- ==== Proof.QkvBody.lean ====
/- One run of the kernel's body, at a later sample: the pieces it writes into its output blocks. -/
module

public import proofs.«01_k».proof.Proof.Gen.QkvIdeal.Frame
public import proofs.«01_k».proof.Proof.QkvCond
public import Idealize.ShloMosaic.Lib.Pipeline.ValueKit
public import Idealize.ShloMosaic.Lib.Pipeline.ReadBack

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2384000 in set_option sl_exec.squeezeSlice true in
/-- The pieces the body writes into each output block, at a later sample, with the proof that the body runs and writes them. -/
noncomputable def kernelRun0_B (c : Dev nD) (i : grid0.Coords) (arg1 : Memref sig .tc .vmem S1x384x1536 .bf16) (harg1 : arg1.IsWhole) (arg2 : Memref sig .tc .vmem S1x6x1536 .f32) (harg2 : arg2.IsWhole) (arg3 : Memref sig .tc .vmem S6x1536 .f32) (harg3 : arg3.IsWhole) (arg4 : Memref sig .tc .vmem S64x384 .f32) (harg4 : arg4.IsWhole) (arg5 : Memref sig .tc .vmem S64x384 .f32) (harg5 : arg5.IsWhole) (arg6 : Memref sig .tc .vmem S12x1536x128 .fp8e4m3) (harg6 : arg6.IsWhole) (arg7 : Memref sig .tc .vmem S12x1536x128 .fp8e4m3) (harg7 : arg7.IsWhole) (arg8 : Memref sig .tc .vmem S12x1536x128 .fp8e4m3) (harg8 : arg8.IsWhole) (arg9 : Memref sig .tc .vmem S12x128 .f32) (harg9 : arg9.IsWhole) (arg10 : Memref sig .tc .vmem S12x128 .f32) (harg10 : arg10.IsWhole) (arg11 : Memref sig .tc .vmem S12x128 .f32) (harg11 : arg11.IsWhole) (arg12 : Memref sig .tc .vmem S12x128 .f32) (harg12 : arg12.IsWhole) (arg13 : Memref sig .tc .vmem S12x128 .f32) (harg13 : arg13.IsWhole) (arg14 : Memref sig .tc .vmem S12x128 .f32) (harg14 : arg14.IsWhole) (arg15 : Memref sig .tc .vmem S12x128 .f32) (harg15 : arg15.IsWhole) (arg16 : Memref sig .tc .vmem S12x128 .f32) (harg16 : arg16.IsWhole) (arg17 : Memref sig .tc .vmem S1x12x384x128 .bf16) (harg17 : arg17.IsWhole) (arg18 : Memref sig .tc .vmem S1x12x384x128 .bf16) (harg18 : arg18.IsWhole) (arg19 : Memref sig .tc .vmem S1x12x384x128 .bf16) (harg19 : arg19.IsWhole) (arg20 : Memref sig .tc .vmem S1x384x1536 .fp8e4m3) (harg20 : arg20.IsWhole) (arg21 : Memref sig .tc .vmem S5x384 .f32) (harg21 : arg21.IsWhole) (arg22 : Memref sig .tc .vmem S2x12x384x128 .f32) (harg22 : arg22.IsWhole) (arg23 : Memref sig .tc .vmem S2x384x128 .f32) (harg23 : arg23.IsWhole) (hc0 : ¬cond0_0 i)
    (x0 : Vec F S1x384x1536 .bf16) (x1 : Vec F S1x6x1536 .f32) (x2 : Vec F S6x1536 .f32) (x3 : Vec F S64x384 .f32) (x4 : Vec F S64x384 .f32) (x5 : Vec F S12x1536x128 .fp8e4m3) (x6 : Vec F S12x1536x128 .fp8e4m3) (x7 : Vec F S12x1536x128 .fp8e4m3) (x8 : Vec F S12x128 .f32) (x9 : Vec F S12x128 .f32) (x10 : Vec F S12x128 .f32) (x11 : Vec F S12x128 .f32) (x12 : Vec F S12x128 .f32) (x13 : Vec F S12x128 .f32) (x14 : Vec F S12x128 .f32) (x15 : Vec F S12x128 .f32) (xs1 : Vec F S2x384x128 .f32) :
    Σ' (L16 : List (View.Piece (Elt F) S1x12x384x128 .bf16)), Σ' (L17 : List (View.Piece (Elt F) S1x12x384x128 .bf16)), Σ' (L18 : List (View.Piece (Elt F) S1x12x384x128 .bf16)), Σ' (L19 : List (View.Piece (Elt F) S1x384x1536 .fp8e4m3)), Σ' (L20 : List (View.Piece (Elt F) S5x384 .f32)), { LS1 : List (View.Piece (Elt F) S2x384x128 .f32) //
      ∀ (y : Vec F S5x384 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare y ∗ (∃ d, owns (c : Thread nD τ) arg22 fullShare d) ∗ owns (c : Thread nD τ) arg23 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (arg21.view.loc (c : Thread nD τ) ↦[arg21.view.set]{fullShare} arg21.view.writes (Elt F) (harg21.unread y) L20) ∗ (∃ d, owns (c : Thread nD τ) arg22 fullShare d) ∗ owns (c : Thread nD τ) arg23 fullShare xs1) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, [], fun y E K => ?run⟩
  case run =>
    simp only [cc0_qkv_eq_skeleton]; unfold cc0_qkv_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%f20, %hf20, H20⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg21.eq_unread hf20; obtain rfl := harg23.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [H20]; · iexact H20
    isplitl [HS0]
    · iexists _, _; isplitr; swap; · iexact HS0
      ipureintro; rfl
    iexists _; isplitr; · ipureintro; exact harg23.read_unread _
    iexact HS1

end Cert.QkvIdeal.Hand

end
-- ==== Proof.QkvOutB.lean ====
/- What the body writes at a later sample, entry by entry. -/
module

public import proofs.«01_k».proof.Proof.QkvBody
public import proofs.«01_k».proof.Proof.QkvPiece

@[expose] public section

set_option maxRecDepth 16384

noncomputable section

namespace Cert.QkvIdeal.Hand.OutB

open Cert.QkvIdeal Cert.QkvIdeal.Gen Cert.QkvIdeal.Hand Cert.QkvIdeal.Cell Cert.FfnSpec Cert.QkvSpec
open Idealize.ShloMosaic Idealize.ShloMosaic.TcCoe

variable (c : Dev nD) (i : grid0.Coords) (arg1 : Memref sig .tc .vmem S1x384x1536 .bf16) (harg1 : arg1.IsWhole) (arg2 : Memref sig .tc .vmem S1x6x1536 .f32) (harg2 : arg2.IsWhole) (arg3 : Memref sig .tc .vmem S6x1536 .f32) (harg3 : arg3.IsWhole) (arg4 : Memref sig .tc .vmem S64x384 .f32) (harg4 : arg4.IsWhole) (arg5 : Memref sig .tc .vmem S64x384 .f32) (harg5 : arg5.IsWhole) (arg6 : Memref sig .tc .vmem S12x1536x128 .fp8e4m3) (harg6 : arg6.IsWhole) (arg7 : Memref sig .tc .vmem S12x1536x128 .fp8e4m3) (harg7 : arg7.IsWhole) (arg8 : Memref sig .tc .vmem S12x1536x128 .fp8e4m3) (harg8 : arg8.IsWhole) (arg9 : Memref sig .tc .vmem S12x128 .f32) (harg9 : arg9.IsWhole) (arg10 : Memref sig .tc .vmem S12x128 .f32) (harg10 : arg10.IsWhole) (arg11 : Memref sig .tc .vmem S12x128 .f32) (harg11 : arg11.IsWhole) (arg12 : Memref sig .tc .vmem S12x128 .f32) (harg12 : arg12.IsWhole) (arg13 : Memref sig .tc .vmem S12x128 .f32) (harg13 : arg13.IsWhole) (arg14 : Memref sig .tc .vmem S12x128 .f32) (harg14 : arg14.IsWhole) (arg15 : Memref sig .tc .vmem S12x128 .f32) (harg15 : arg15.IsWhole) (arg16 : Memref sig .tc .vmem S12x128 .f32) (harg16 : arg16.IsWhole) (arg17 : Memref sig .tc .vmem S1x12x384x128 .bf16) (harg17 : arg17.IsWhole) (arg18 : Memref sig .tc .vmem S1x12x384x128 .bf16) (harg18 : arg18.IsWhole) (arg19 : Memref sig .tc .vmem S1x12x384x128 .bf16) (harg19 : arg19.IsWhole) (arg20 : Memref sig .tc .vmem S1x384x1536 .fp8e4m3) (harg20 : arg20.IsWhole) (arg21 : Memref sig .tc .vmem S5x384 .f32) (harg21 : arg21.IsWhole) (arg22 : Memref sig .tc .vmem S2x12x384x128 .f32) (harg22 : arg22.IsWhole) (arg23 : Memref sig .tc .vmem S2x384x128 .f32) (harg23 : arg23.IsWhole) (hc0 : ¬cond0_0 i)
    (x0 : Vec Ideal S1x384x1536 .bf16) (x1 : Vec Ideal S1x6x1536 .f32) (x2 : Vec Ideal S6x1536 .f32) (x3 : Vec Ideal S64x384 .f32) (x4 : Vec Ideal S64x384 .f32) (x5 : Vec Ideal S12x1536x128 .fp8e4m3) (x6 : Vec Ideal S12x1536x128 .fp8e4m3) (x7 : Vec Ideal S12x1536x128 .fp8e4m3) (x8 : Vec Ideal S12x128 .f32) (x9 : Vec Ideal S12x128 .f32) (x10 : Vec Ideal S12x128 .f32) (x11 : Vec Ideal S12x128 .f32) (x12 : Vec Ideal S12x128 .f32) (x13 : Vec Ideal S12x128 .f32) (x14 : Vec Ideal S12x128 .f32) (x15 : Vec Ideal S12x128 .f32) (xs1 : Vec Ideal S2x384x128 .f32)

/-- The scale of each row. -/
theorem xs_fact (i : Fin 384) : (kernelRun0_B.sl.r_3 (F := Ideal) c arg1 harg1 arg2 harg2 arg3 harg3 x0 x1 x2) (ix2 i 0) = rowScale (row x2 x1 x0 i) := by
  show k0_pay10 (k0_pay8 _ _ _) (k0_pay9 _ _ _) (ix2 i 0) = _
  rw [scale_apply]
  rw [load_all harg3 x2 _ (by decide), load_all harg2 x1 _ (by decide), load_all harg1 x0 _ (by decide)]

/-- The codes of each row. -/
theorem q_fact (i : Fin 384) (k : Fin 1536) : (kernelRun0_B.sl.r_4 (F := Ideal) c arg1 harg1 arg2 harg2 arg3 harg3 x0 x1 x2) (ix2 i k) = codeOf (row x2 x1 x0 i k) (rowScale (row x2 x1 x0 i)) := by
  show k0_pay11 (k0_pay7 _ _ _) (k0_pay8 _ _ _) (k0_pay9 _ _ _) (ix2 i k) = _
  rw [code_any, scale_apply, row_apply]
  rw [load_all harg3 x2 _ (by decide), load_all harg2 x1 _ (by decide), load_all harg1 x0 _ (by decide)]

/-- The query heads stored in the scratch. -/
theorem scr_q : View.PiecesOf (Val := Elt Ideal) (e := .f32) (scr x2 x1 x0 x5 x6 x8 x9 x11 x12) (kernelRun0_B.sl.HS0_12 (F := Ideal) c arg1 harg1 arg2 harg2 arg3 harg3 arg6 harg6 arg9 harg9 arg12 harg12 x0 x1 x2 x5 x8 x11) := by
  dsimp only [kernelRun0_B.sl.HS0_12, kernelRun0_B.sl.cst_978, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_7, kernelRun0_B.sl.r_8, kernelRun0_B.sl.r_9]
  refine put_cons 0 11 (by omega) (by omega) _ _ _ _ (fun i l => ?_) ?_
  · refine (lifted_apply _ i l).trans ?_
    exact (cell3 11 (xs_fact c arg1 harg1 arg2 harg2 arg3 harg3 x0 x1 x2) (q_fact c arg1 harg1 arg2 harg2 arg3 harg3 x0 x1 x2) (fun k l => load_w harg6 x5 11 (by omega) _ k l) (fun l => load_r harg9 x8 11 (by omega) _ l) (fun l => load_r harg12 x11 11 (by omega) _ l)) i l
  refine put_cons 0 10 (by omega) (by omega) _ _ _ _ (fun i l => ?_) ?_
  · refine (lifted_apply _ i l).trans ?_
    exact (cell2 10 (xs_fact c arg1 harg1 arg2 harg2 arg3 harg3 x0 x1 x2) (q_fact c arg1 harg1 arg2 harg2 arg3 harg3 x0 x1 x2) (fun k l => load_w harg6 x5 10 (by omega) _ k l) (fun l => load_r harg9 x8 10 (by omega) _ l) (fun l => load_r harg12 x11 10 (by omega) _ l)) i l
  refine put_cons 0 9 (by omega) (by omega) _ _ _ _ (fun i l => ?_) ?_
  · refine (lifted_apply _ i l).trans ?_
    exact (cell1 9 (xs_fact c arg1 harg1 arg2 harg2 arg3 harg3 x0 x1 x2) (q_fact c arg1 harg1 arg2 harg2 arg3 harg3 x0 x1 x2) (fun k l => load_w harg6 x5 9 (by omega) _ k l) (fun l => load_r harg9 x8 9 (by omega) _ l) (fun l => load_r harg12 x11 9 (by omega) _ l)) i l
  refine put_cons 0 8 (by omega) (by omega) _ _ _ _ (fun i l => ?_) ?_
  · refine (lifted_apply _ i l).trans ?_
    exact (cell0 8 (xs_fact c arg1 harg1 arg2 harg2 arg3 harg3 x0 x1 x2) (q_fact c arg1 harg1 arg2 harg2 arg3 harg3 x0 x1 x2) (fun k l => load_w harg6 x5 8 (by omega) _ k l) (fun l => load_r harg9 x8 8 (by omega) _ l) (fun l => load_r harg12 x11 8 (by omega) _ l)) i l
  refine put_cons 0 7 (by omega) (by omega) _ _ _ _ (fun i l => ?_) ?_
  · refine (lifted_apply _ i l).trans ?_
    exact (cell3 7 (xs_fact c arg1 harg1 arg2 harg2 arg3 harg3 x0 x1 x2) (q_fact c arg1 harg1 arg2 harg2 arg3 harg3 x0 x1 x2) (fun k l => load_w harg6 x5 7 (by omega) _ k l) (fun l => load_r harg9 x8 7 (by omega) _ l) (fun l => load_r harg12 x11 7 (by omega) _ l)) i l
  refine put_cons 0 6 (by omega) (by omega) _ _ _ _ (fun i l => ?_) ?_
  · refine (lifted_apply _ i l).trans ?_
    exact (cell2 6 (xs_fact c arg1 harg1 arg2 harg2 arg3 harg3 x0 x1 x2) (q_fact c arg1 harg1 arg2 harg2 arg3 harg3 x0 x1 x2) (fun k l => load_w harg6 x5 6 (by omega) _ k l) (fun l => load_r harg9 x8 6 (by omega) _ l) (fun l => load_r harg12 x11 6 (by omega) _ l)) i l
  refine put_cons 0 5 (by omega) (by omega) _ _ _ _ (fun i l => ?_) ?_
  · refine (lifted_apply _ i l).trans ?_
    exact (cell1 5 (xs_fact c arg1 harg1 arg2 harg2 arg3 harg3 x0 x1 x2) (q_fact c arg1 harg1 arg2 harg2 arg3 harg3 x0 x1 x2) (fun k l => load_w harg6 x5 5 (by omega) _ k l) (fun l => load_r harg9 x8 5 (by omega) _ l) (fun l => load_r harg12 x11 5 (by omega) _ l)) i l
  refine put_cons 0 4 (by omega) (by omega) _ _ _ _ (fun i l => ?_) ?_
  · refine (lifted_apply _ i l).trans ?_
    exact (cell0 4 (xs_fact c arg1 harg1 arg2 harg2 arg3 harg3 x0 x1 x2) (q_fact c arg1 harg1 arg2 harg2 arg3 harg3 x0 x1 x2) (fun k l => load_w harg6 x5 4 (by omega) _ k l) (fun l => load_r harg9 x8 4 (by omega) _ l) (fun l => load_r harg12 x11 4 (by omega) _ l)) i l
  refine put_cons 0 3 (by omega) (by omega) _ _ _ _ (fun i l => ?_) ?_
  · refine (lifted_apply _ i l).trans ?_
    exact (cell3 3 (xs_fact c arg1 harg1 arg2 harg2 arg3 harg3 x0 x1 x2) (q_fact c arg1 harg1 arg2 harg2 arg3 harg3 x0 x1 x2) (fun k l => load_w harg6 x5 3 (by omega) _ k l) (fun l => load_r harg9 x8 3 (by omega) _ l) (fun l => load_r harg12 x11 3 (by omega) _ l)) i l
  refine put_cons 0 2 (by omega) (by omega) _ _ _ _ (fun i l => ?_) ?_
  · refine (lifted_apply _ i l).trans ?_
    exact (cell2 2 (xs_fact c arg1 harg1 arg2 harg2 arg3 harg3 x0 x1 x2) (q_fact c arg1 harg1 arg2 harg2 arg3 harg3 x0 x1 x2) (fun k l => load_w harg6 x5 2 (by omega) _ k l) (fun l => load_r harg9 x8 2 (by omega) _ l) (fun l => load_r harg12 x11 2 (by omega) _ l)) i l
  refine put_cons 0 1 (by omega) (by omega) _ _ _ _ (fun i l => ?_) ?_
  · refine (lifted_apply _ i l).trans ?_
    exact (cell1 1 (xs_fact c arg1 harg1 arg2 harg2 arg3 harg3 x0 x1 x2) (q_fact c arg1 harg1 arg2 harg2 arg3 harg3 x0 x1 x2) (fun k l => load_w harg6 x5 1 (by omega) _ k l) (fun l => load_r harg9 x8 1 (by omega) _ l) (fun l => load_r harg12 x11 1 (by omega) _ l)) i l
  refine put_cons 0 0 (by omega) (by omega) _ _ _ _ (fun i l => ?_) ?_
  · refine (lifted_apply _ i l).trans ?_
    exact (cell0 0 (xs_fact c arg1 harg1 arg2 harg2 arg3 harg3 x0 x1 x2) (q_fact c arg1 harg1 arg2 harg2 arg3 harg3 x0 x1 x2) (fun k l => load_w harg6 x5 0 (by omega) _ k l) (fun l => load_r harg9 x8 0 (by omega) _ l) (fun l => load_r harg12 x11 0 (by omega) _ l)) i l
  exact trivial

/-- The key heads stored after them. -/
theorem scr_k : View.PiecesOf (Val := Elt Ideal) (e := .f32) (scr x2 x1 x0 x5 x6 x8 x9 x11 x12) (kernelRun0_B.sl.HS0_24 (F := Ideal) c arg1 harg1 arg2 harg2 arg3 harg3 arg6 harg6 arg7 harg7 arg9 harg9 arg10 harg10 arg12 harg12 arg13 harg13 x0 x1 x2 x5 x6 x8 x9 x11 x12) := by
  dsimp only [kernelRun0_B.sl.HS0_24, kernelRun0_B.sl.cst_978, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_7, kernelRun0_B.sl.r_8, kernelRun0_B.sl.r_9]
  refine put_cons 1 11 (by omega) (by omega) _ _ _ _ (fun i l => ?_) ?_
  · refine (lifted_apply _ i l).trans ?_
    exact (cell3 11 (xs_fact c arg1 harg1 arg2 harg2 arg3 harg3 x0 x1 x2) (q_fact c arg1 harg1 arg2 harg2 arg3 harg3 x0 x1 x2) (fun k l => load_w harg7 x6 11 (by omega) _ k l) (fun l => load_r harg10 x9 11 (by omega) _ l) (fun l => load_r harg13 x12 11 (by omega) _ l)) i l
  refine put_cons 1 10 (by omega) (by omega) _ _ _ _ (fun i l => ?_) ?_
  · refine (lifted_apply _ i l).trans ?_
    exact (cell2 10 (xs_fact c arg1 harg1 arg2 harg2 arg3 harg3 x0 x1 x2) (q_fact c arg1 harg1 arg2 harg2 arg3 harg3 x0 x1 x2) (fun k l => load_w harg7 x6 10 (by omega) _ k l) (fun l => load_r harg10 x9 10 (by omega) _ l) (fun l => load_r harg13 x12 10 (by omega) _ l)) i l
  refine put_cons 1 9 (by omega) (by omega) _ _ _ _ (fun i l => ?_) ?_
  · refine (lifted_apply _ i l).trans ?_
    exact (cell1 9 (xs_fact c arg1 harg1 arg2 harg2 arg3 harg3 x0 x1 x2) (q_fact c arg1 harg1 arg2 harg2 arg3 harg3 x0 x1 x2) (fun k l => load_w harg7 x6 9 (by omega) _ k l) (fun l => load_r harg10 x9 9 (by omega) _ l) (fun l => load_r harg13 x12 9 (by omega) _ l)) i l
  refine put_cons 1 8 (by omega) (by omega) _ _ _ _ (fun i l => ?_) ?_
  · refine (lifted_apply _ i l).trans ?_
    exact (cell0 8 (xs_fact c arg1 harg1 arg2 harg2 arg3 harg3 x0 x1 x2) (q_fact c arg1 harg1 arg2 harg2 arg3 harg3 x0 x1 x2) (fun k l => load_w harg7 x6 8 (by omega) _ k l) (fun l => load_r harg10 x9 8 (by omega) _ l) (fun l => load_r harg13 x12 8 (by omega) _ l)) i l
  refine put_cons 1 7 (by omega) (by omega) _ _ _ _ (fun i l => ?_) ?_
  · refine (lifted_apply _ i l).trans ?_
    exact (cell3 7 (xs_fact c arg1 harg1 arg2 harg2 arg3 harg3 x0 x1 x2) (q_fact c arg1 harg1 arg2 harg2 arg3 harg3 x0 x1 x2) (fun k l => load_w harg7 x6 7 (by omega) _ k l) (fun l => load_r harg10 x9 7 (by omega) _ l) (fun l => load_r harg13 x12 7 (by omega) _ l)) i l
  refine put_cons 1 6 (by omega) (by omega) _ _ _ _ (fun i l => ?_) ?_
  · refine (lifted_apply _ i l).trans ?_
    exact (cell2 6 (xs_fact c arg1 harg1 arg2 harg2 arg3 harg3 x0 x1 x2) (q_fact c arg1 harg1 arg2 harg2 arg3 harg3 x0 x1 x2) (fun k l => load_w harg7 x6 6 (by omega) _ k l) (fun l => load_r harg10 x9 6 (by omega) _ l) (fun l => load_r harg13 x12 6 (by omega) _ l)) i l
  refine put_cons 1 5 (by omega) (by omega) _ _ _ _ (fun i l => ?_) ?_
  · refine (lifted_apply _ i l).trans ?_
    exact (cell1 5 (xs_fact c arg1 harg1 arg2 harg2 arg3 harg3 x0 x1 x2) (q_fact c arg1 harg1 arg2 harg2 arg3 harg3 x0 x1 x2) (fun k l => load_w harg7 x6 5 (by omega) _ k l) (fun l => load_r harg10 x9 5 (by omega) _ l) (fun l => load_r harg13 x12 5 (by omega) _ l)) i l
  refine put_cons 1 4 (by omega) (by omega) _ _ _ _ (fun i l => ?_) ?_
  · refine (lifted_apply _ i l).trans ?_
    exact (cell0 4 (xs_fact c arg1 harg1 arg2 harg2 arg3 harg3 x0 x1 x2) (q_fact c arg1 harg1 arg2 harg2 arg3 harg3 x0 x1 x2) (fun k l => load_w harg7 x6 4 (by omega) _ k l) (fun l => load_r harg10 x9 4 (by omega) _ l) (fun l => load_r harg13 x12 4 (by omega) _ l)) i l
  refine put_cons 1 3 (by omega) (by omega) _ _ _ _ (fun i l => ?_) ?_
  · refine (lifted_apply _ i l).trans ?_
    exact (cell3 3 (xs_fact c arg1 harg1 arg2 harg2 arg3 harg3 x0 x1 x2) (q_fact c arg1 harg1 arg2 harg2 arg3 harg3 x0 x1 x2) (fun k l => load_w harg7 x6 3 (by omega) _ k l) (fun l => load_r harg10 x9 3 (by omega) _ l) (fun l => load_r harg13 x12 3 (by omega) _ l)) i l
  refine put_cons 1 2 (by omega) (by omega) _ _ _ _ (fun i l => ?_) ?_
  · refine (lifted_apply _ i l).trans ?_
    exact (cell2 2 (xs_fact c arg1 harg1 arg2 harg2 arg3 harg3 x0 x1 x2) (q_fact c arg1 harg1 arg2 harg2 arg3 harg3 x0 x1 x2) (fun k l => load_w harg7 x6 2 (by omega) _ k l) (fun l => load_r harg10 x9 2 (by omega) _ l) (fun l => load_r harg13 x12 2 (by omega) _ l)) i l
  refine put_cons 1 1 (by omega) (by omega) _ _ _ _ (fun i l => ?_) ?_
  · refine (lifted_apply _ i l).trans ?_
    exact (cell1 1 (xs_fact c arg1 harg1 arg2 harg2 arg3 harg3 x0 x1 x2) (q_fact c arg1 harg1 arg2 harg2 arg3 harg3 x0 x1 x2) (fun k l => load_w harg7 x6 1 (by omega) _ k l) (fun l => load_r harg10 x9 1 (by omega) _ l) (fun l => load_r harg13 x12 1 (by omega) _ l)) i l
  refine put_cons 1 0 (by omega) (by omega) _ _ _ _ (fun i l => ?_) ?_
  · refine (lifted_apply _ i l).trans ?_
    exact (cell0 0 (xs_fact c arg1 harg1 arg2 harg2 arg3 harg3 x0 x1 x2) (q_fact c arg1 harg1 arg2 harg2 arg3 harg3 x0 x1 x2) (fun k l => load_w harg7 x6 0 (by omega) _ k l) (fun l => load_r harg10 x9 0 (by omega) _ l) (fun l => load_r harg13 x12 0 (by omega) _ l)) i l
  exact scr_q c arg1 harg1 arg2 harg2 arg3 harg3 arg6 harg6 arg9 harg9 arg12 harg12 x0 x1 x2 x5 x6 x8 x9 x11 x12

/-- The reciprocal root of the queries of one position. -/
theorem inv_q (i : Fin 384) : (kernelRun0_B.sl.r_22 (F := Ideal) c arg1 harg1 arg2 harg2 arg3 harg3 arg6 harg6 arg9 harg9 arg12 harg12 x0 x1 x2 x5 x8 x11) (ix2 i 0) = Ideal.div 1 (root (raw x2 x1 x0 x5 x8 x11 i)) := by
  dsimp only [kernelRun0_B.sl.cst_978, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_7, kernelRun0_B.sl.r_8, kernelRun0_B.sl.r_9]
  exact recip
    (cell0 0 (xs_fact c arg1 harg1 arg2 harg2 arg3 harg3 x0 x1 x2) (q_fact c arg1 harg1 arg2 harg2 arg3 harg3 x0 x1 x2) (fun k l => load_w harg6 x5 0 (by omega) _ k l) (fun l => load_r harg9 x8 0 (by omega) _ l) (fun l => load_r harg12 x11 0 (by omega) _ l))
    (cell1 1 (xs_fact c arg1 harg1 arg2 harg2 arg3 harg3 x0 x1 x2) (q_fact c arg1 harg1 arg2 harg2 arg3 harg3 x0 x1 x2) (fun k l => load_w harg6 x5 1 (by omega) _ k l) (fun l => load_r harg9 x8 1 (by omega) _ l) (fun l => load_r harg12 x11 1 (by omega) _ l))
    (cell2 2 (xs_fact c arg1 harg1 arg2 harg2 arg3 harg3 x0 x1 x2) (q_fact c arg1 harg1 arg2 harg2 arg3 harg3 x0 x1 x2) (fun k l => load_w harg6 x5 2 (by omega) _ k l) (fun l => load_r harg9 x8 2 (by omega) _ l) (fun l => load_r harg12 x11 2 (by omega) _ l))
    (cell3 3 (xs_fact c arg1 harg1 arg2 harg2 arg3 harg3 x0 x1 x2) (q_fact c arg1 harg1 arg2 harg2 arg3 harg3 x0 x1 x2) (fun k l => load_w harg6 x5 3 (by omega) _ k l) (fun l => load_r harg9 x8 3 (by omega) _ l) (fun l => load_r harg12 x11 3 (by omega) _ l))
    (cell0 4 (xs_fact c arg1 harg1 arg2 harg2 arg3 harg3 x0 x1 x2) (q_fact c arg1 harg1 arg2 harg2 arg3 harg3 x0 x1 x2) (fun k l => load_w harg6 x5 4 (by omega) _ k l) (fun l => load_r harg9 x8 4 (by omega) _ l) (fun l => load_r harg12 x11 4 (by omega) _ l))
    (cell1 5 (xs_fact c arg1 harg1 arg2 harg2 arg3 harg3 x0 x1 x2) (q_fact c arg1 harg1 arg2 harg2 arg3 harg3 x0 x1 x2) (fun k l => load_w harg6 x5 5 (by omega) _ k l) (fun l => load_r harg9 x8 5 (by omega) _ l) (fun l => load_r harg12 x11 5 (by omega) _ l))
    (cell2 6 (xs_fact c arg1 harg1 arg2 harg2 arg3 harg3 x0 x1 x2) (q_fact c arg1 harg1 arg2 harg2 arg3 harg3 x0 x1 x2) (fun k l => load_w harg6 x5 6 (by omega) _ k l) (fun l => load_r harg9 x8 6 (by omega) _ l) (fun l => load_r harg12 x11 6 (by omega) _ l))
    (cell3 7 (xs_fact c arg1 harg1 arg2 harg2 arg3 harg3 x0 x1 x2) (q_fact c arg1 harg1 arg2 harg2 arg3 harg3 x0 x1 x2) (fun k l => load_w harg6 x5 7 (by omega) _ k l) (fun l => load_r harg9 x8 7 (by omega) _ l) (fun l => load_r harg12 x11 7 (by omega) _ l))
    (cell0 8 (xs_fact c arg1 harg1 arg2 harg2 arg3 harg3 x0 x1 x2) (q_fact c arg1 harg1 arg2 harg2 arg3 harg3 x0 x1 x2) (fun k l => load_w harg6 x5 8 (by omega) _ k l) (fun l => load_r harg9 x8 8 (by omega) _ l) (fun l => load_r harg12 x11 8 (by omega) _ l))
    (cell1 9 (xs_fact c arg1 harg1 arg2 harg2 arg3 harg3 x0 x1 x2) (q_fact c arg1 harg1 arg2 harg2 arg3 harg3 x0 x1 x2) (fun k l => load_w harg6 x5 9 (by omega) _ k l) (fun l => load_r harg9 x8 9 (by omega) _ l) (fun l => load_r harg12 x11 9 (by omega) _ l))
    (cell2 10 (xs_fact c arg1 harg1 arg2 harg2 arg3 harg3 x0 x1 x2) (q_fact c arg1 harg1 arg2 harg2 arg3 harg3 x0 x1 x2) (fun k l => load_w harg6 x5 10 (by omega) _ k l) (fun l => load_r harg9 x8 10 (by omega) _ l) (fun l => load_r harg12 x11 10 (by omega) _ l))
    (cell3 11 (xs_fact c arg1 harg1 arg2 harg2 arg3 harg3 x0 x1 x2) (q_fact c arg1 harg1 arg2 harg2 arg3 harg3 x0 x1 x2) (fun k l => load_w harg6 x5 11 (by omega) _ k l) (fun l => load_r harg9 x8 11 (by omega) _ l) (fun l => load_r harg12 x11 11 (by omega) _ l)) i

/-- The reciprocal root of the keys of one position. -/
theorem inv_k (i : Fin 384) : (kernelRun0_B.sl.r_48 (F := Ideal) c arg1 harg1 arg2 harg2 arg3 harg3 arg7 harg7 arg10 harg10 arg13 harg13 x0 x1 x2 x6 x9 x12) (ix2 i 0) = Ideal.div 1 (root (raw x2 x1 x0 x6 x9 x12 i)) := by
  dsimp only [kernelRun0_B.sl.cst_978, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_7, kernelRun0_B.sl.r_8, kernelRun0_B.sl.r_9]
  exact recip
    (cell0 0 (xs_fact c arg1 harg1 arg2 harg2 arg3 harg3 x0 x1 x2) (q_fact c arg1 harg1 arg2 harg2 arg3 harg3 x0 x1 x2) (fun k l => load_w harg7 x6 0 (by omega) _ k l) (fun l => load_r harg10 x9 0 (by omega) _ l) (fun l => load_r harg13 x12 0 (by omega) _ l))
    (cell1 1 (xs_fact c arg1 harg1 arg2 harg2 arg3 harg3 x0 x1 x2) (q_fact c arg1 harg1 arg2 harg2 arg3 harg3 x0 x1 x2) (fun k l => load_w harg7 x6 1 (by omega) _ k l) (fun l => load_r harg10 x9 1 (by omega) _ l) (fun l => load_r harg13 x12 1 (by omega) _ l))
    (cell2 2 (xs_fact c arg1 harg1 arg2 harg2 arg3 harg3 x0 x1 x2) (q_fact c arg1 harg1 arg2 harg2 arg3 harg3 x0 x1 x2) (fun k l => load_w harg7 x6 2 (by omega) _ k l) (fun l => load_r harg10 x9 2 (by omega) _ l) (fun l => load_r harg13 x12 2 (by omega) _ l))
    (cell3 3 (xs_fact c arg1 harg1 arg2 harg2 arg3 harg3 x0 x1 x2) (q_fact c arg1 harg1 arg2 harg2 arg3 harg3 x0 x1 x2) (fun k l => load_w harg7 x6 3 (by omega) _ k l) (fun l => load_r harg10 x9 3 (by omega) _ l) (fun l => load_r harg13 x12 3 (by omega) _ l))
    (cell0 4 (xs_fact c arg1 harg1 arg2 harg2 arg3 harg3 x0 x1 x2) (q_fact c arg1 harg1 arg2 harg2 arg3 harg3 x0 x1 x2) (fun k l => load_w harg7 x6 4 (by omega) _ k l) (fun l => load_r harg10 x9 4 (by omega) _ l) (fun l => load_r harg13 x12 4 (by omega) _ l))
    (cell1 5 (xs_fact c arg1 harg1 arg2 harg2 arg3 harg3 x0 x1 x2) (q_fact c arg1 harg1 arg2 harg2 arg3 harg3 x0 x1 x2) (fun k l => load_w harg7 x6 5 (by omega) _ k l) (fun l => load_r harg10 x9 5 (by omega) _ l) (fun l => load_r harg13 x12 5 (by omega) _ l))
    (cell2 6 (xs_fact c arg1 harg1 arg2 harg2 arg3 harg3 x0 x1 x2) (q_fact c arg1 harg1 arg2 harg2 arg3 harg3 x0 x1 x2) (fun k l => load_w harg7 x6 6 (by omega) _ k l) (fun l => load_r harg10 x9 6 (by omega) _ l) (fun l => load_r harg13 x12 6 (by omega) _ l))
    (cell3 7 (xs_fact c arg1 harg1 arg2 harg2 arg3 harg3 x0 x1 x2) (q_fact c arg1 harg1 arg2 harg2 arg3 harg3 x0 x1 x2) (fun k l => load_w harg7 x6 7 (by omega) _ k l) (fun l => load_r harg10 x9 7 (by omega) _ l) (fun l => load_r harg13 x12 7 (by omega) _ l))
    (cell0 8 (xs_fact c arg1 harg1 arg2 harg2 arg3 harg3 x0 x1 x2) (q_fact c arg1 harg1 arg2 harg2 arg3 harg3 x0 x1 x2) (fun k l => load_w harg7 x6 8 (by omega) _ k l) (fun l => load_r harg10 x9 8 (by omega) _ l) (fun l => load_r harg13 x12 8 (by omega) _ l))
    (cell1 9 (xs_fact c arg1 harg1 arg2 harg2 arg3 harg3 x0 x1 x2) (q_fact c arg1 harg1 arg2 harg2 arg3 harg3 x0 x1 x2) (fun k l => load_w harg7 x6 9 (by omega) _ k l) (fun l => load_r harg10 x9 9 (by omega) _ l) (fun l => load_r harg13 x12 9 (by omega) _ l))
    (cell2 10 (xs_fact c arg1 harg1 arg2 harg2 arg3 harg3 x0 x1 x2) (q_fact c arg1 harg1 arg2 harg2 arg3 harg3 x0 x1 x2) (fun k l => load_w harg7 x6 10 (by omega) _ k l) (fun l => load_r harg10 x9 10 (by omega) _ l) (fun l => load_r harg13 x12 10 (by omega) _ l))
    (cell3 11 (xs_fact c arg1 harg1 arg2 harg2 arg3 harg3 x0 x1 x2) (q_fact c arg1 harg1 arg2 harg2 arg3 harg3 x0 x1 x2) (fun k l => load_w harg7 x6 11 (by omega) _ k l) (fun l => load_r harg10 x9 11 (by omega) _ l) (fun l => load_r harg13 x12 11 (by omega) _ l)) i

/-- The queries the body stores. -/
theorem out_q (hcos : ∀ (i : Fin 384) (l : Fin 128), xs1 (ix3 0 i l) = x3 (ix2 ⟨l / 2, by omega⟩ i))
    (hsin : ∀ (i : Fin 384) (l : Fin 128), xs1 (ix3 1 i l) = if l.val % 2 = 0 then 0 - x4 (ix2 ⟨l / 2, by omega⟩ i) else x4 (ix2 ⟨l / 2, by omega⟩ i)) :
    View.PiecesOf (Val := Elt Ideal) (e := .f32) (qk x2 x1 x0 x5 x8 x11 x14 x3 x4) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1).1 := by
  have ht0 : ∀ (i : Fin 384) (l : Fin 128), ((View.readAt (Elt Ideal) arg23.view (Rect.unit (s := S2x384x128) ![0, 0, 0] S1x384x128.size inb_S2x384x128_S1x384x128_0_0_0).toLoadRect (harg23.unread xs1)) : Vec Ideal S1x384x128 .f32) (ix3 0 i l) = x3 (ix2 ⟨l / 2, by omega⟩ i) := (fun i l => (load_h 0 (by omega) harg23 xs1 i l).trans (hcos i l))
  have ht1 : ∀ (i : Fin 384) (l : Fin 128), ((View.readAt (Elt Ideal) arg23.view (Rect.unit (s := S2x384x128) ![1, 0, 0] S1x384x128.size inb_S2x384x128_S1x384x128_1_0_0).toLoadRect (harg23.unread xs1)) : Vec Ideal S1x384x128 .f32) (ix3 0 i l) = if l.val % 2 = 0 then 0 - x4 (ix2 ⟨l / 2, by omega⟩ i) else x4 (ix2 ⟨l / 2, by omega⟩ i) := (fun i l => (load_h 1 (by omega) harg23 xs1 i l).trans (hsin i l))
  refine emit_cons 11 (by omega) _ (kernelRun0_B.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![11, 0, 0] S1x384x128.size inb_S12x384x128_S1x384x128_11_0_0).toLoadRect ![1, 12, 384, 128] (of_decide_eq_true (id (Eq.refl true))) (of_decide_eq_true (id (Eq.refl true)))) (kernelRun0_B.sl.v558 (F := Ideal) c arg1 harg1 arg2 harg2 arg3 harg3 arg6 harg6 arg9 harg9 arg12 harg12 arg22 x0 x1 x2 x5 x8 x11))
    (View.readAt (Elt Ideal) arg15.view (Rect.unit (s := S12x128) ![11, 0] S1x128.size inb_S12x128_S1x128_11_0).toLoadRect (harg15.unread x14))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_q c arg1 harg1 arg2 harg2 arg3 harg3 arg6 harg6 arg9 harg9 arg12 harg12 x0 x1 x2 x5 x8 x11) ht0 ht1
    (fun i l => (back 0 11 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.head _⟩ _ i l).trans (if_pos rfl))
    (fun l => load_r harg15 x14 11 (by omega) _ l) ?_
  · rfl
  refine emit_cons 10 (by omega) _ (kernelRun0_B.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![10, 0, 0] S1x384x128.size inb_S12x384x128_S1x384x128_10_0_0).toLoadRect ![1, 12, 384, 128] (of_decide_eq_true (id (Eq.refl true))) (of_decide_eq_true (id (Eq.refl true)))) (kernelRun0_B.sl.v533 (F := Ideal) c arg1 harg1 arg2 harg2 arg3 harg3 arg6 harg6 arg9 harg9 arg12 harg12 arg22 x0 x1 x2 x5 x8 x11))
    (View.readAt (Elt Ideal) arg15.view (Rect.unit (s := S12x128) ![10, 0] S1x128.size inb_S12x128_S1x128_10_0).toLoadRect (harg15.unread x14))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_q c arg1 harg1 arg2 harg2 arg3 harg3 arg6 harg6 arg9 harg9 arg12 harg12 x0 x1 x2 x5 x8 x11) ht0 ht1
    (fun i l => (back 0 10 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.tail _ (List.Mem.head _)⟩ _ i l).trans (if_pos rfl))
    (fun l => load_r harg15 x14 10 (by omega) _ l) ?_
  · rfl
  refine emit_cons 9 (by omega) _ (kernelRun0_B.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![9, 0, 0] S1x384x128.size inb_S12x384x128_S1x384x128_9_0_0).toLoadRect ![1, 12, 384, 128] (of_decide_eq_true (id (Eq.refl true))) (of_decide_eq_true (id (Eq.refl true)))) (kernelRun0_B.sl.v508 (F := Ideal) c arg1 harg1 arg2 harg2 arg3 harg3 arg6 harg6 arg9 harg9 arg12 harg12 arg22 x0 x1 x2 x5 x8 x11))
    (View.readAt (Elt Ideal) arg15.view (Rect.unit (s := S12x128) ![9, 0] S1x128.size inb_S12x128_S1x128_9_0).toLoadRect (harg15.unread x14))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_q c arg1 harg1 arg2 harg2 arg3 harg3 arg6 harg6 arg9 harg9 arg12 harg12 x0 x1 x2 x5 x8 x11) ht0 ht1
    (fun i l => (back 0 9 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.tail _ (List.Mem.tail _ (List.Mem.head _))⟩ _ i l).trans (if_pos rfl))
    (fun l => load_r harg15 x14 9 (by omega) _ l) ?_
  · rfl
  refine emit_cons 8 (by omega) _ (kernelRun0_B.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![8, 0, 0] S1x384x128.size inb_S12x384x128_S1x384x128_8_0_0).toLoadRect ![1, 12, 384, 128] (of_decide_eq_true (id (Eq.refl true))) (of_decide_eq_true (id (Eq.refl true)))) (kernelRun0_B.sl.v483 (F := Ideal) c arg1 harg1 arg2 harg2 arg3 harg3 arg6 harg6 arg9 harg9 arg12 harg12 arg22 x0 x1 x2 x5 x8 x11))
    (View.readAt (Elt Ideal) arg15.view (Rect.unit (s := S12x128) ![8, 0] S1x128.size inb_S12x128_S1x128_8_0).toLoadRect (harg15.unread x14))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_q c arg1 harg1 arg2 harg2 arg3 harg3 arg6 harg6 arg9 harg9 arg12 harg12 x0 x1 x2 x5 x8 x11) ht0 ht1
    (fun i l => (back 0 8 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.tail _ (List.Mem.tail _ (List.Mem.tail _ (List.Mem.head _)))⟩ _ i l).trans (if_pos rfl))
    (fun l => load_r harg15 x14 8 (by omega) _ l) ?_
  · rfl
  refine emit_cons 7 (by omega) _ (kernelRun0_B.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![7, 0, 0] S1x384x128.size inb_S12x384x128_S1x384x128_7_0_0).toLoadRect ![1, 12, 384, 128] (of_decide_eq_true (id (Eq.refl true))) (of_decide_eq_true (id (Eq.refl true)))) (kernelRun0_B.sl.v458 (F := Ideal) c arg1 harg1 arg2 harg2 arg3 harg3 arg6 harg6 arg9 harg9 arg12 harg12 arg22 x0 x1 x2 x5 x8 x11))
    (View.readAt (Elt Ideal) arg15.view (Rect.unit (s := S12x128) ![7, 0] S1x128.size inb_S12x128_S1x128_7_0).toLoadRect (harg15.unread x14))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_q c arg1 harg1 arg2 harg2 arg3 harg3 arg6 harg6 arg9 harg9 arg12 harg12 x0 x1 x2 x5 x8 x11) ht0 ht1
    (fun i l => (back 0 7 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.tail _ (List.Mem.tail _ (List.Mem.tail _ (List.Mem.tail _ (List.Mem.head _))))⟩ _ i l).trans (if_pos rfl))
    (fun l => load_r harg15 x14 7 (by omega) _ l) ?_
  · rfl
  refine emit_cons 6 (by omega) _ (kernelRun0_B.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![6, 0, 0] S1x384x128.size inb_S12x384x128_S1x384x128_6_0_0).toLoadRect ![1, 12, 384, 128] (of_decide_eq_true (id (Eq.refl true))) (of_decide_eq_true (id (Eq.refl true)))) (kernelRun0_B.sl.v433 (F := Ideal) c arg1 harg1 arg2 harg2 arg3 harg3 arg6 harg6 arg9 harg9 arg12 harg12 arg22 x0 x1 x2 x5 x8 x11))
    (View.readAt (Elt Ideal) arg15.view (Rect.unit (s := S12x128) ![6, 0] S1x128.size inb_S12x128_S1x128_6_0).toLoadRect (harg15.unread x14))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_q c arg1 harg1 arg2 harg2 arg3 harg3 arg6 harg6 arg9 harg9 arg12 harg12 x0 x1 x2 x5 x8 x11) ht0 ht1
    (fun i l => (back 0 6 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.tail _ (List.Mem.tail _ (List.Mem.tail _ (List.Mem.tail _ (List.Mem.tail _ (List.Mem.head _)))))⟩ _ i l).trans (if_pos rfl))
    (fun l => load_r harg15 x14 6 (by omega) _ l) ?_
  · rfl
  refine emit_cons 5 (by omega) _ (kernelRun0_B.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![5, 0, 0] S1x384x128.size inb_S12x384x128_S1x384x128_5_0_0).toLoadRect ![1, 12, 384, 128] (of_decide_eq_true (id (Eq.refl true))) (of_decide_eq_true (id (Eq.refl true)))) (kernelRun0_B.sl.v408 (F := Ideal) c arg1 harg1 arg2 harg2 arg3 harg3 arg6 harg6 arg9 harg9 arg12 harg12 arg22 x0 x1 x2 x5 x8 x11))
    (View.readAt (Elt Ideal) arg15.view (Rect.unit (s := S12x128) ![5, 0] S1x128.size inb_S12x128_S1x128_5_0).toLoadRect (harg15.unread x14))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_q c arg1 harg1 arg2 harg2 arg3 harg3 arg6 harg6 arg9 harg9 arg12 harg12 x0 x1 x2 x5 x8 x11) ht0 ht1
    (fun i l => (back 0 5 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.tail _ (List.Mem.tail _ (List.Mem.tail _ (List.Mem.tail _ (List.Mem.tail _ (List.Mem.tail _ (List.Mem.head _))))))⟩ _ i l).trans (if_pos rfl))
    (fun l => load_r harg15 x14 5 (by omega) _ l) ?_
  · rfl
  refine emit_cons 4 (by omega) _ (kernelRun0_B.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![4, 0, 0] S1x384x128.size inb_S12x384x128_S1x384x128_4_0_0).toLoadRect ![1, 12, 384, 128] (of_decide_eq_true (id (Eq.refl true))) (of_decide_eq_true (id (Eq.refl true)))) (kernelRun0_B.sl.v383 (F := Ideal) c arg1 harg1 arg2 harg2 arg3 harg3 arg6 harg6 arg9 harg9 arg12 harg12 arg22 x0 x1 x2 x5 x8 x11))
    (View.readAt (Elt Ideal) arg15.view (Rect.unit (s := S12x128) ![4, 0] S1x128.size inb_S12x128_S1x128_4_0).toLoadRect (harg15.unread x14))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_q c arg1 harg1 arg2 harg2 arg3 harg3 arg6 harg6 arg9 harg9 arg12 harg12 x0 x1 x2 x5 x8 x11) ht0 ht1
    (fun i l => (back 0 4 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.tail _ (List.Mem.tail _ (List.Mem.tail _ (List.Mem.tail _ (List.Mem.tail _ (List.Mem.tail _ (List.Mem.tail _ (List.Mem.head _)))))))⟩ _ i l).trans (if_pos rfl))
    (fun l => load_r harg15 x14 4 (by omega) _ l) ?_
  · rfl
  refine emit_cons 3 (by omega) _ (kernelRun0_B.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![3, 0, 0] S1x384x128.size inb_S12x384x128_S1x384x128_3_0_0).toLoadRect ![1, 12, 384, 128] (of_decide_eq_true (id (Eq.refl true))) (of_decide_eq_true (id (Eq.refl true)))) (kernelRun0_B.sl.v358 (F := Ideal) c arg1 harg1 arg2 harg2 arg3 harg3 arg6 harg6 arg9 harg9 arg12 harg12 arg22 x0 x1 x2 x5 x8 x11))
    (View.readAt (Elt Ideal) arg15.view (Rect.unit (s := S12x128) ![3, 0] S1x128.size inb_S12x128_S1x128_3_0).toLoadRect (harg15.unread x14))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_q c arg1 harg1 arg2 harg2 arg3 harg3 arg6 harg6 arg9 harg9 arg12 harg12 x0 x1 x2 x5 x8 x11) ht0 ht1
    (fun i l => (back 0 3 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.tail _ (List.Mem.tail _ (List.Mem.tail _ (List.Mem.tail _ (List.Mem.tail _ (List.Mem.tail _ (List.Mem.tail _ (List.Mem.tail _ (List.Mem.head _))))))))⟩ _ i l).trans (if_pos rfl))
    (fun l => load_r harg15 x14 3 (by omega) _ l) ?_
  · rfl
  refine emit_cons 2 (by omega) _ (kernelRun0_B.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![2, 0, 0] S1x384x128.size inb_S12x384x128_S1x384x128_2_0_0).toLoadRect ![1, 12, 384, 128] (of_decide_eq_true (id (Eq.refl true))) (of_decide_eq_true (id (Eq.refl true)))) (kernelRun0_B.sl.v333 (F := Ideal) c arg1 harg1 arg2 harg2 arg3 harg3 arg6 harg6 arg9 harg9 arg12 harg12 arg22 x0 x1 x2 x5 x8 x11))
    (View.readAt (Elt Ideal) arg15.view (Rect.unit (s := S12x128) ![2, 0] S1x128.size inb_S12x128_S1x128_2_0).toLoadRect (harg15.unread x14))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_q c arg1 harg1 arg2 harg2 arg3 harg3 arg6 harg6 arg9 harg9 arg12 harg12 x0 x1 x2 x5 x8 x11) ht0 ht1
    (fun i l => (back 0 2 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.tail _ (List.Mem.tail _ (List.Mem.tail _ (List.Mem.tail _ (List.Mem.tail _ (List.Mem.tail _ (List.Mem.tail _ (List.Mem.tail _ (List.Mem.tail _ (List.Mem.head _)))))))))⟩ _ i l).trans (if_pos rfl))
    (fun l => load_r harg15 x14 2 (by omega) _ l) ?_
  · rfl
  refine emit_cons 1 (by omega) _ (kernelRun0_B.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![1, 0, 0] S1x384x128.size inb_S12x384x128_S1x384x128_1_0_0).toLoadRect ![1, 12, 384, 128] (of_decide_eq_true (id (Eq.refl true))) (of_decide_eq_true (id (Eq.refl true)))) (kernelRun0_B.sl.v308 (F := Ideal) c arg1 harg1 arg2 harg2 arg3 harg3 arg6 harg6 arg9 harg9 arg12 harg12 arg22 x0 x1 x2 x5 x8 x11))
    (View.readAt (Elt Ideal) arg15.view (Rect.unit (s := S12x128) ![1, 0] S1x128.size inb_S12x128_S1x128_1_0).toLoadRect (harg15.unread x14))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_q c arg1 harg1 arg2 harg2 arg3 harg3 arg6 harg6 arg9 harg9 arg12 harg12 x0 x1 x2 x5 x8 x11) ht0 ht1
    (fun i l => (back 0 1 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.tail _ (List.Mem.tail _ (List.Mem.tail _ (List.Mem.tail _ (List.Mem.tail _ (List.Mem.tail _ (List.Mem.tail _ (List.Mem.tail _ (List.Mem.tail _ (List.Mem.tail _ (List.Mem.head _))))))))))⟩ _ i l).trans (if_pos rfl))
    (fun l => load_r harg15 x14 1 (by omega) _ l) ?_
  · rfl
  refine emit_cons 0 (by omega) _ (kernelRun0_B.sl.r_22 (F := Ideal) c arg1 harg1 arg2 harg2 arg3 harg3 arg6 harg6 arg9 harg9 arg12 harg12 x0 x1 x2 x5 x8 x11)
    (LoadRect.valAlong (LoadRect.numel_consLift (Rect.unit (s := S12x384x128) ![0, 0, 0] S1x384x128.size inb_S12x384x128_S1x384x128_0_0_0).toLoadRect ![1, 12, 384, 128] (of_decide_eq_true (id (Eq.refl true))) (of_decide_eq_true (id (Eq.refl true)))) (kernelRun0_B.sl.v283 (F := Ideal) c arg1 harg1 arg2 harg2 arg3 harg3 arg6 harg6 arg9 harg9 arg12 harg12 arg22 x0 x1 x2 x5 x8 x11))
    (View.readAt (Elt Ideal) arg15.view (Rect.unit (s := S12x128) ![0, 0] S1x128.size inb_S12x128_S1x128_0_0).toLoadRect (harg15.unread x14))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_q c arg1 harg1 arg2 harg2 arg3 harg3 arg6 harg6 arg9 harg9 arg12 harg12 x0 x1 x2 x5 x8 x11) ht0 ht1
    (fun i l => (back 0 0 (by omega) (by omega) arg22.view (scr x2 x1 x0 x5 x6 x8 x9 x11 x12) _ (scr_q c arg1 harg1 arg2 harg2 arg3 harg3 arg6 harg6 arg9 harg9 arg12 harg12 x0 x1 x2 x5 x6 x8 x9 x11 x12) ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))⟩ _ i l).trans (if_pos rfl))
    (fun l => load_r harg15 x14 0 (by omega) _ l) ?_
  · rfl
  exact trivial

/-- The keys the body stores. -/
theorem out_k (hcos : ∀ (i : Fin 384) (l : Fin 128), xs1 (ix3 0 i l) = x3 (ix2 ⟨l / 2, by omega⟩ i))
    (hsin : ∀ (i : Fin 384) (l : Fin 128), xs1 (ix3 1 i l) = if l.val % 2 = 0 then 0 - x4 (ix2 ⟨l / 2, by omega⟩ i) else x4 (ix2 ⟨l / 2, by omega⟩ i)) :
    View.PiecesOf (Val := Elt Ideal) (e := .f32) (qk x2 x1 x0 x6 x9 x12 x15 x3 x4) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1).2.1 := by
  have ht0 : ∀ (i : Fin 384) (l : Fin 128), ((View.readAt (Elt Ideal) arg23.view (Rect.unit (s := S2x384x128) ![0, 0, 0] S1x384x128.size inb_S2x384x128_S1x384x128_0_0_0).toLoadRect (harg23.unread xs1)) : Vec Ideal S1x384x128 .f32) (ix3 0 i l) = x3 (ix2 ⟨l / 2, by omega⟩ i) := (fun i l => (load_h 0 (by omega) harg23 xs1 i l).trans (hcos i l))
  have ht1 : ∀ (i : Fin 384) (l : Fin 128), ((View.readAt (Elt Ideal) arg23.view (Rect.unit (s := S2x384x128) ![1, 0, 0] S1x384x128.size inb_S2x384x128_S1x384x128_1_0_0).toLoadRect (harg23.unread xs1)) : Vec Ideal S1x384x128 .f32) (ix3 0 i l) = if l.val % 2 = 0 then 0 - x4 (ix2 ⟨l / 2, by omega⟩ i) else x4 (ix2 ⟨l / 2, by omega⟩ i) := (fun i l => (load_h 1 (by omega) harg23 xs1 i l).trans (hsin i l))
  refine emit_cons 11 (by omega) _ (kernelRun0_B.sl.r_48 (F := Ideal) c arg1 harg1 arg2 harg2 arg3 harg3 arg7 harg7 arg10 harg10 arg13 harg13 x0 x1 x2 x6 x9 x12)
    (LoadRect.valAlong (LoadRect.numel_consLift (Rect.unit (s := S12x384x128) ![11, 0, 0] S1x384x128.size inb_S12x384x128_S1x384x128_11_0_0).toLoadRect ![1, 12, 384, 128] (of_decide_eq_true (id (Eq.refl true))) (of_decide_eq_true (id (Eq.refl true)))) (kernelRun0_B.sl.v1040 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![11, 0] S1x128.size inb_S12x128_S1x128_11_0).toLoadRect (harg16.unread x15))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_k c arg1 harg1 arg2 harg2 arg3 harg3 arg7 harg7 arg10 harg10 arg13 harg13 x0 x1 x2 x6 x9 x12) ht0 ht1
    (fun i l => (back 1 11 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.head _⟩ _ i l).trans (if_neg Nat.one_ne_zero))
    (fun l => load_r harg16 x15 11 (by omega) _ l) ?_
  · rfl
  refine emit_cons 10 (by omega) _ (kernelRun0_B.sl.r_48 (F := Ideal) c arg1 harg1 arg2 harg2 arg3 harg3 arg7 harg7 arg10 harg10 arg13 harg13 x0 x1 x2 x6 x9 x12)
    (LoadRect.valAlong (LoadRect.numel_consLift (Rect.unit (s := S12x384x128) ![10, 0, 0] S1x384x128.size inb_S12x384x128_S1x384x128_10_0_0).toLoadRect ![1, 12, 384, 128] (of_decide_eq_true (id (Eq.refl true))) (of_decide_eq_true (id (Eq.refl true)))) (kernelRun0_B.sl.v1015 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![10, 0] S1x128.size inb_S12x128_S1x128_10_0).toLoadRect (harg16.unread x15))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_k c arg1 harg1 arg2 harg2 arg3 harg3 arg7 harg7 arg10 harg10 arg13 harg13 x0 x1 x2 x6 x9 x12) ht0 ht1
    (fun i l => (back 1 10 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.tail _ (List.Mem.head _)⟩ _ i l).trans (if_neg Nat.one_ne_zero))
    (fun l => load_r harg16 x15 10 (by omega) _ l) ?_
  · rfl
  refine emit_cons 9 (by omega) _ (kernelRun0_B.sl.r_48 (F := Ideal) c arg1 harg1 arg2 harg2 arg3 harg3 arg7 harg7 arg10 harg10 arg13 harg13 x0 x1 x2 x6 x9 x12)
    (LoadRect.valAlong (LoadRect.numel_consLift (Rect.unit (s := S12x384x128) ![9, 0, 0] S1x384x128.size inb_S12x384x128_S1x384x128_9_0_0).toLoadRect ![1, 12, 384, 128] (of_decide_eq_true (id (Eq.refl true))) (of_decide_eq_true (id (Eq.refl true)))) (kernelRun0_B.sl.v990 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![9, 0] S1x128.size inb_S12x128_S1x128_9_0).toLoadRect (harg16.unread x15))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_k c arg1 harg1 arg2 harg2 arg3 harg3 arg7 harg7 arg10 harg10 arg13 harg13 x0 x1 x2 x6 x9 x12) ht0 ht1
    (fun i l => (back 1 9 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.tail _ (List.Mem.tail _ (List.Mem.head _))⟩ _ i l).trans (if_neg Nat.one_ne_zero))
    (fun l => load_r harg16 x15 9 (by omega) _ l) ?_
  · rfl
  refine emit_cons 8 (by omega) _ (kernelRun0_B.sl.r_48 (F := Ideal) c arg1 harg1 arg2 harg2 arg3 harg3 arg7 harg7 arg10 harg10 arg13 harg13 x0 x1 x2 x6 x9 x12)
    (LoadRect.valAlong (LoadRect.numel_consLift (Rect.unit (s := S12x384x128) ![8, 0, 0] S1x384x128.size inb_S12x384x128_S1x384x128_8_0_0).toLoadRect ![1, 12, 384, 128] (of_decide_eq_true (id (Eq.refl true))) (of_decide_eq_true (id (Eq.refl true)))) (kernelRun0_B.sl.v965 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![8, 0] S1x128.size inb_S12x128_S1x128_8_0).toLoadRect (harg16.unread x15))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_k c arg1 harg1 arg2 harg2 arg3 harg3 arg7 harg7 arg10 harg10 arg13 harg13 x0 x1 x2 x6 x9 x12) ht0 ht1
    (fun i l => (back 1 8 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.tail _ (List.Mem.tail _ (List.Mem.tail _ (List.Mem.head _)))⟩ _ i l).trans (if_neg Nat.one_ne_zero))
    (fun l => load_r harg16 x15 8 (by omega) _ l) ?_
  · rfl
  refine emit_cons 7 (by omega) _ (kernelRun0_B.sl.r_48 (F := Ideal) c arg1 harg1 arg2 harg2 arg3 harg3 arg7 harg7 arg10 harg10 arg13 harg13 x0 x1 x2 x6 x9 x12)
    (LoadRect.valAlong (LoadRect.numel_consLift (Rect.unit (s := S12x384x128) ![7, 0, 0] S1x384x128.size inb_S12x384x128_S1x384x128_7_0_0).toLoadRect ![1, 12, 384, 128] (of_decide_eq_true (id (Eq.refl true))) (of_decide_eq_true (id (Eq.refl true)))) (kernelRun0_B.sl.v940 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![7, 0] S1x128.size inb_S12x128_S1x128_7_0).toLoadRect (harg16.unread x15))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_k c arg1 harg1 arg2 harg2 arg3 harg3 arg7 harg7 arg10 harg10 arg13 harg13 x0 x1 x2 x6 x9 x12) ht0 ht1
    (fun i l => (back 1 7 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.tail _ (List.Mem.tail _ (List.Mem.tail _ (List.Mem.tail _ (List.Mem.head _))))⟩ _ i l).trans (if_neg Nat.one_ne_zero))
    (fun l => load_r harg16 x15 7 (by omega) _ l) ?_
  · rfl
  refine emit_cons 6 (by omega) _ (kernelRun0_B.sl.r_48 (F := Ideal) c arg1 harg1 arg2 harg2 arg3 harg3 arg7 harg7 arg10 harg10 arg13 harg13 x0 x1 x2 x6 x9 x12)
    (LoadRect.valAlong (LoadRect.numel_consLift (Rect.unit (s := S12x384x128) ![6, 0, 0] S1x384x128.size inb_S12x384x128_S1x384x128_6_0_0).toLoadRect ![1, 12, 384, 128] (of_decide_eq_true (id (Eq.refl true))) (of_decide_eq_true (id (Eq.refl true)))) (kernelRun0_B.sl.v915 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![6, 0] S1x128.size inb_S12x128_S1x128_6_0).toLoadRect (harg16.unread x15))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_k c arg1 harg1 arg2 harg2 arg3 harg3 arg7 harg7 arg10 harg10 arg13 harg13 x0 x1 x2 x6 x9 x12) ht0 ht1
    (fun i l => (back 1 6 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.tail _ (List.Mem.tail _ (List.Mem.tail _ (List.Mem.tail _ (List.Mem.tail _ (List.Mem.head _)))))⟩ _ i l).trans (if_neg Nat.one_ne_zero))
    (fun l => load_r harg16 x15 6 (by omega) _ l) ?_
  · rfl
  refine emit_cons 5 (by omega) _ (kernelRun0_B.sl.r_48 (F := Ideal) c arg1 harg1 arg2 harg2 arg3 harg3 arg7 harg7 arg10 harg10 arg13 harg13 x0 x1 x2 x6 x9 x12)
    (LoadRect.valAlong (LoadRect.numel_consLift (Rect.unit (s := S12x384x128) ![5, 0, 0] S1x384x128.size inb_S12x384x128_S1x384x128_5_0_0).toLoadRect ![1, 12, 384, 128] (of_decide_eq_true (id (Eq.refl true))) (of_decide_eq_true (id (Eq.refl true)))) (kernelRun0_B.sl.v890 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![5, 0] S1x128.size inb_S12x128_S1x128_5_0).toLoadRect (harg16.unread x15))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_k c arg1 harg1 arg2 harg2 arg3 harg3 arg7 harg7 arg10 harg10 arg13 harg13 x0 x1 x2 x6 x9 x12) ht0 ht1
    (fun i l => (back 1 5 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.tail _ (List.Mem.tail _ (List.Mem.tail _ (List.Mem.tail _ (List.Mem.tail _ (List.Mem.tail _ (List.Mem.head _))))))⟩ _ i l).trans (if_neg Nat.one_ne_zero))
    (fun l => load_r harg16 x15 5 (by omega) _ l) ?_
  · rfl
  refine emit_cons 4 (by omega) _ (kernelRun0_B.sl.r_48 (F := Ideal) c arg1 harg1 arg2 harg2 arg3 harg3 arg7 harg7 arg10 harg10 arg13 harg13 x0 x1 x2 x6 x9 x12)
    (LoadRect.valAlong (LoadRect.numel_consLift (Rect.unit (s := S12x384x128) ![4, 0, 0] S1x384x128.size inb_S12x384x128_S1x384x128_4_0_0).toLoadRect ![1, 12, 384, 128] (of_decide_eq_true (id (Eq.refl true))) (of_decide_eq_true (id (Eq.refl true)))) (kernelRun0_B.sl.v865 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![4, 0] S1x128.size inb_S12x128_S1x128_4_0).toLoadRect (harg16.unread x15))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_k c arg1 harg1 arg2 harg2 arg3 harg3 arg7 harg7 arg10 harg10 arg13 harg13 x0 x1 x2 x6 x9 x12) ht0 ht1
    (fun i l => (back 1 4 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.tail _ (List.Mem.tail _ (List.Mem.tail _ (List.Mem.tail _ (List.Mem.tail _ (List.Mem.tail _ (List.Mem.tail _ (List.Mem.head _)))))))⟩ _ i l).trans (if_neg Nat.one_ne_zero))
    (fun l => load_r harg16 x15 4 (by omega) _ l) ?_
  · rfl
  refine emit_cons 3 (by omega) _ (kernelRun0_B.sl.r_48 (F := Ideal) c arg1 harg1 arg2 harg2 arg3 harg3 arg7 harg7 arg10 harg10 arg13 harg13 x0 x1 x2 x6 x9 x12)
    (LoadRect.valAlong (LoadRect.numel_consLift (Rect.unit (s := S12x384x128) ![3, 0, 0] S1x384x128.size inb_S12x384x128_S1x384x128_3_0_0).toLoadRect ![1, 12, 384, 128] (of_decide_eq_true (id (Eq.refl true))) (of_decide_eq_true (id (Eq.refl true)))) (kernelRun0_B.sl.v840 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![3, 0] S1x128.size inb_S12x128_S1x128_3_0).toLoadRect (harg16.unread x15))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_k c arg1 harg1 arg2 harg2 arg3 harg3 arg7 harg7 arg10 harg10 arg13 harg13 x0 x1 x2 x6 x9 x12) ht0 ht1
    (fun i l => (back 1 3 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.tail _ (List.Mem.tail _ (List.Mem.tail _ (List.Mem.tail _ (List.Mem.tail _ (List.Mem.tail _ (List.Mem.tail _ (List.Mem.tail _ (List.Mem.head _))))))))⟩ _ i l).trans (if_neg Nat.one_ne_zero))
    (fun l => load_r harg16 x15 3 (by omega) _ l) ?_
  · rfl
  refine emit_cons 2 (by omega) _ (kernelRun0_B.sl.r_48 (F := Ideal) c arg1 harg1 arg2 harg2 arg3 harg3 arg7 harg7 arg10 harg10 arg13 harg13 x0 x1 x2 x6 x9 x12)
    (LoadRect.valAlong (LoadRect.numel_consLift (Rect.unit (s := S12x384x128) ![2, 0, 0] S1x384x128.size inb_S12x384x128_S1x384x128_2_0_0).toLoadRect ![1, 12, 384, 128] (of_decide_eq_true (id (Eq.refl true))) (of_decide_eq_true (id (Eq.refl true)))) (kernelRun0_B.sl.v815 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![2, 0] S1x128.size inb_S12x128_S1x128_2_0).toLoadRect (harg16.unread x15))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_k c arg1 harg1 arg2 harg2 arg3 harg3 arg7 harg7 arg10 harg10 arg13 harg13 x0 x1 x2 x6 x9 x12) ht0 ht1
    (fun i l => (back 1 2 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.tail _ (List.Mem.tail _ (List.Mem.tail _ (List.Mem.tail _ (List.Mem.tail _ (List.Mem.tail _ (List.Mem.tail _ (List.Mem.tail _ (List.Mem.tail _ (List.Mem.head _)))))))))⟩ _ i l).trans (if_neg Nat.one_ne_zero))
    (fun l => load_r harg16 x15 2 (by omega) _ l) ?_
  · rfl
  refine emit_cons 1 (by omega) _ (kernelRun0_B.sl.r_48 (F := Ideal) c arg1 harg1 arg2 harg2 arg3 harg3 arg7 harg7 arg10 harg10 arg13 harg13 x0 x1 x2 x6 x9 x12)
    (LoadRect.valAlong (LoadRect.numel_consLift (Rect.unit (s := S12x384x128) ![1, 0, 0] S1x384x128.size inb_S12x384x128_S1x384x128_1_0_0).toLoadRect ![1, 12, 384, 128] (of_decide_eq_true (id (Eq.refl true))) (of_decide_eq_true (id (Eq.refl true)))) (kernelRun0_B.sl.v790 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![1, 0] S1x128.size inb_S12x128_S1x128_1_0).toLoadRect (harg16.unread x15))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_k c arg1 harg1 arg2 harg2 arg3 harg3 arg7 harg7 arg10 harg10 arg13 harg13 x0 x1 x2 x6 x9 x12) ht0 ht1
    (fun i l => (back 1 1 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.tail _ (List.Mem.tail _ (List.Mem.tail _ (List.Mem.tail _ (List.Mem.tail _ (List.Mem.tail _ (List.Mem.tail _ (List.Mem.tail _ (List.Mem.tail _ (List.Mem.tail _ (List.Mem.head _))))))))))⟩ _ i l).trans (if_neg Nat.one_ne_zero))
    (fun l => load_r harg16 x15 1 (by omega) _ l) ?_
  · rfl
  refine emit_cons 0 (by omega) _ (kernelRun0_B.sl.r_48 (F := Ideal) c arg1 harg1 arg2 harg2 arg3 harg3 arg7 harg7 arg10 harg10 arg13 harg13 x0 x1 x2 x6 x9 x12)
    (LoadRect.valAlong (LoadRect.numel_consLift (Rect.unit (s := S12x384x128) ![0, 0, 0] S1x384x128.size inb_S12x384x128_S1x384x128_0_0_0).toLoadRect ![1, 12, 384, 128] (of_decide_eq_true (id (Eq.refl true))) (of_decide_eq_true (id (Eq.refl true)))) (kernelRun0_B.sl.v765 (F := Ideal) c arg1 harg1 arg2 harg2 arg3 harg3 arg6 harg6 arg7 harg7 arg9 harg9 arg10 harg10 arg12 harg12 arg13 harg13 arg22 x0 x1 x2 x5 x6 x8 x9 x11 x12))
    (View.readAt (Elt Ideal) arg16.view (Rect.unit (s := S12x128) ![0, 0] S1x128.size inb_S12x128_S1x128_0_0).toLoadRect (harg16.unread x15))
    (View.readAt (Elt Ideal) arg23.view (Rect.unit (s := S2x384x128) ![0, 0, 0] S1x384x128.size inb_S2x384x128_S1x384x128_0_0_0).toLoadRect (harg23.unread xs1))
    (View.readAt (Elt Ideal) arg23.view (Rect.unit (s := S2x384x128) ![1, 0, 0] S1x384x128.size inb_S2x384x128_S1x384x128_1_0_0).toLoadRect (harg23.unread xs1))
    _ ?_ (inv_k c arg1 harg1 arg2 harg2 arg3 harg3 arg7 harg7 arg10 harg10 arg13 harg13 x0 x1 x2 x6 x9 x12) ht0 ht1
    (fun i l => (back 1 0 (by omega) (by omega) arg22.view (scr x2 x1 x0 x5 x6 x8 x9 x11 x12) _ (scr_k c arg1 harg1 arg2 harg2 arg3 harg3 arg6 harg6 arg7 harg7 arg9 harg9 arg10 harg10 arg12 harg12 arg13 harg13 x0 x1 x2 x5 x6 x8 x9 x11 x12) ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))⟩ _ i l).trans (if_neg Nat.one_ne_zero))
    (fun l => load_r harg16 x15 0 (by omega) _ l) ?_
  · rfl
  exact trivial

/-- The values the body stores. -/
theorem out_v : View.PiecesOf (Val := Elt Ideal) (e := .f32) (vals x2 x1 x0 x7 x10 x13) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1).2.2.1 := by
  refine keep_cons 11 (by omega) _ _ (fun i l => ?_) ?_
  · dsimp only [kernelRun0_B.sl.cst_978, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_7, kernelRun0_B.sl.r_8, kernelRun0_B.sl.r_9]
    refine (stored_apply _ i l).trans ?_
    exact (cell3 11 (xs_fact c arg1 harg1 arg2 harg2 arg3 harg3 x0 x1 x2) (q_fact c arg1 harg1 arg2 harg2 arg3 harg3 x0 x1 x2) (fun k l => load_w harg8 x7 11 (by omega) _ k l) (fun l => load_r harg11 x10 11 (by omega) _ l) (fun l => load_r harg14 x13 11 (by omega) _ l)) i l
  refine keep_cons 10 (by omega) _ _ (fun i l => ?_) ?_
  · dsimp only [kernelRun0_B.sl.cst_978, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_7, kernelRun0_B.sl.r_8, kernelRun0_B.sl.r_9]
    refine (stored_apply _ i l).trans ?_
    exact (cell2 10 (xs_fact c arg1 harg1 arg2 harg2 arg3 harg3 x0 x1 x2) (q_fact c arg1 harg1 arg2 harg2 arg3 harg3 x0 x1 x2) (fun k l => load_w harg8 x7 10 (by omega) _ k l) (fun l => load_r harg11 x10 10 (by omega) _ l) (fun l => load_r harg14 x13 10 (by omega) _ l)) i l
  refine keep_cons 9 (by omega) _ _ (fun i l => ?_) ?_
  · dsimp only [kernelRun0_B.sl.cst_978, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_7, kernelRun0_B.sl.r_8, kernelRun0_B.sl.r_9]
    refine (stored_apply _ i l).trans ?_
    exact (cell1 9 (xs_fact c arg1 harg1 arg2 harg2 arg3 harg3 x0 x1 x2) (q_fact c arg1 harg1 arg2 harg2 arg3 harg3 x0 x1 x2) (fun k l => load_w harg8 x7 9 (by omega) _ k l) (fun l => load_r harg11 x10 9 (by omega) _ l) (fun l => load_r harg14 x13 9 (by omega) _ l)) i l
  refine keep_cons 8 (by omega) _ _ (fun i l => ?_) ?_
  · dsimp only [kernelRun0_B.sl.cst_978, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_7, kernelRun0_B.sl.r_8, kernelRun0_B.sl.r_9]
    refine (stored_apply _ i l).trans ?_
    exact (cell0 8 (xs_fact c arg1 harg1 arg2 harg2 arg3 harg3 x0 x1 x2) (q_fact c arg1 harg1 arg2 harg2 arg3 harg3 x0 x1 x2) (fun k l => load_w harg8 x7 8 (by omega) _ k l) (fun l => load_r harg11 x10 8 (by omega) _ l) (fun l => load_r harg14 x13 8 (by omega) _ l)) i l
  refine keep_cons 7 (by omega) _ _ (fun i l => ?_) ?_
  · dsimp only [kernelRun0_B.sl.cst_978, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_7, kernelRun0_B.sl.r_8, kernelRun0_B.sl.r_9]
    refine (stored_apply _ i l).trans ?_
    exact (cell3 7 (xs_fact c arg1 harg1 arg2 harg2 arg3 harg3 x0 x1 x2) (q_fact c arg1 harg1 arg2 harg2 arg3 harg3 x0 x1 x2) (fun k l => load_w harg8 x7 7 (by omega) _ k l) (fun l => load_r harg11 x10 7 (by omega) _ l) (fun l => load_r harg14 x13 7 (by omega) _ l)) i l
  refine keep_cons 6 (by omega) _ _ (fun i l => ?_) ?_
  · dsimp only [kernelRun0_B.sl.cst_978, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_7, kernelRun0_B.sl.r_8, kernelRun0_B.sl.r_9]
    refine (stored_apply _ i l).trans ?_
    exact (cell2 6 (xs_fact c arg1 harg1 arg2 harg2 arg3 harg3 x0 x1 x2) (q_fact c arg1 harg1 arg2 harg2 arg3 harg3 x0 x1 x2) (fun k l => load_w harg8 x7 6 (by omega) _ k l) (fun l => load_r harg11 x10 6 (by omega) _ l) (fun l => load_r harg14 x13 6 (by omega) _ l)) i l
  refine keep_cons 5 (by omega) _ _ (fun i l => ?_) ?_
  · dsimp only [kernelRun0_B.sl.cst_978, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_7, kernelRun0_B.sl.r_8, kernelRun0_B.sl.r_9]
    refine (stored_apply _ i l).trans ?_
    exact (cell1 5 (xs_fact c arg1 harg1 arg2 harg2 arg3 harg3 x0 x1 x2) (q_fact c arg1 harg1 arg2 harg2 arg3 harg3 x0 x1 x2) (fun k l => load_w harg8 x7 5 (by omega) _ k l) (fun l => load_r harg11 x10 5 (by omega) _ l) (fun l => load_r harg14 x13 5 (by omega) _ l)) i l
  refine keep_cons 4 (by omega) _ _ (fun i l => ?_) ?_
  · dsimp only [kernelRun0_B.sl.cst_978, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_7, kernelRun0_B.sl.r_8, kernelRun0_B.sl.r_9]
    refine (stored_apply _ i l).trans ?_
    exact (cell0 4 (xs_fact c arg1 harg1 arg2 harg2 arg3 harg3 x0 x1 x2) (q_fact c arg1 harg1 arg2 harg2 arg3 harg3 x0 x1 x2) (fun k l => load_w harg8 x7 4 (by omega) _ k l) (fun l => load_r harg11 x10 4 (by omega) _ l) (fun l => load_r harg14 x13 4 (by omega) _ l)) i l
  refine keep_cons 3 (by omega) _ _ (fun i l => ?_) ?_
  · dsimp only [kernelRun0_B.sl.cst_978, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_7, kernelRun0_B.sl.r_8, kernelRun0_B.sl.r_9]
    refine (stored_apply _ i l).trans ?_
    exact (cell3 3 (xs_fact c arg1 harg1 arg2 harg2 arg3 harg3 x0 x1 x2) (q_fact c arg1 harg1 arg2 harg2 arg3 harg3 x0 x1 x2) (fun k l => load_w harg8 x7 3 (by omega) _ k l) (fun l => load_r harg11 x10 3 (by omega) _ l) (fun l => load_r harg14 x13 3 (by omega) _ l)) i l
  refine keep_cons 2 (by omega) _ _ (fun i l => ?_) ?_
  · dsimp only [kernelRun0_B.sl.cst_978, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_7, kernelRun0_B.sl.r_8, kernelRun0_B.sl.r_9]
    refine (stored_apply _ i l).trans ?_
    exact (cell2 2 (xs_fact c arg1 harg1 arg2 harg2 arg3 harg3 x0 x1 x2) (q_fact c arg1 harg1 arg2 harg2 arg3 harg3 x0 x1 x2) (fun k l => load_w harg8 x7 2 (by omega) _ k l) (fun l => load_r harg11 x10 2 (by omega) _ l) (fun l => load_r harg14 x13 2 (by omega) _ l)) i l
  refine keep_cons 1 (by omega) _ _ (fun i l => ?_) ?_
  · dsimp only [kernelRun0_B.sl.cst_978, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_7, kernelRun0_B.sl.r_8, kernelRun0_B.sl.r_9]
    refine (stored_apply _ i l).trans ?_
    exact (cell1 1 (xs_fact c arg1 harg1 arg2 harg2 arg3 harg3 x0 x1 x2) (q_fact c arg1 harg1 arg2 harg2 arg3 harg3 x0 x1 x2) (fun k l => load_w harg8 x7 1 (by omega) _ k l) (fun l => load_r harg11 x10 1 (by omega) _ l) (fun l => load_r harg14 x13 1 (by omega) _ l)) i l
  refine keep_cons 0 (by omega) _ _ (fun i l => ?_) ?_
  · dsimp only [kernelRun0_B.sl.cst_978, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_7, kernelRun0_B.sl.r_8, kernelRun0_B.sl.r_9]
    refine (stored_apply _ i l).trans ?_
    exact (cell0 0 (xs_fact c arg1 harg1 arg2 harg2 arg3 harg3 x0 x1 x2) (q_fact c arg1 harg1 arg2 harg2 arg3 harg3 x0 x1 x2) (fun k l => load_w harg8 x7 0 (by omega) _ k l) (fun l => load_r harg11 x10 0 (by omega) _ l) (fun l => load_r harg14 x13 0 (by omega) _ l)) i l
  exact trivial

/-- The codes the body stores. -/
theorem out_c : View.PiecesOf (Val := Elt Ideal) (e := .fp8e4m3) (codes x2 x1 x0) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1).2.2.2.1 := by
  refine codes_cons _ (fun i k => ?_)
  refine (code_stored i _ _ _ k).trans ?_
  exact q_fact c arg1 harg1 arg2 harg2 arg3 harg3 x0 x1 x2 i k

/-- The row of scales the body stores. -/
theorem out_s : ∃ w : FVec Ideal S1x384 .f32, (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1).2.2.2.2.1 = [⟨Rect.unit (s := S5x384) (k0_off1 i) ![1, 384] (k0_off1_inb i), w⟩]
    ∧ ∀ j, w (ix2 0 j) = rowScale (row x2 x1 x0 j) :=
  ⟨k0_pay13 (kernelRun0_B.sl.r_1 (F := Ideal) c arg1 harg1 arg2 harg2 arg3 harg3 x0 x1 x2) (kernelRun0_B.sl.r_2 (F := Ideal) c arg1 harg1 arg2 harg2 arg3 harg3 x0 x1 x2), rfl, fun j => (scale_row j _ _).trans (xs_fact c arg1 harg1 arg2 harg2 arg3 harg3 x0 x1 x2 j)⟩

/-- The queries fill their block. -/
theorem cov_q (y : S1x12x384x128.Idx) : ∃ pc ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1).1, y ∈ pc.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1).1 S1x1x384x128.size (by sl_kernel_rfl) y

/-- The block of queries after the body. -/
theorem read_q (hcos : ∀ (i : Fin 384) (l : Fin 128), xs1 (ix3 0 i l) = x3 (ix2 ⟨l / 2, by omega⟩ i))
    (hsin : ∀ (i : Fin 384) (l : Fin 128), xs1 (ix3 1 i l) = if l.val % 2 = 0 then 0 - x4 (ix2 ⟨l / 2, by omega⟩ i) else x4 (ix2 ⟨l / 2, by omega⟩ i)) (f : arg17.view.ty.Contents (Elt Ideal)) :
    View.read (Elt Ideal) arg17.view (arg17.view.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1).1) = (qk x2 x1 x0 x5 x8 x11 x14 x3 x4) :=
  funext fun y => View.read_writes_apply_of_pieces _ _ (qk x2 x1 x0 x5 x8 x11 x14 x3 x4) _ (View.PiecesOf.mem (out_q c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1 hcos hsin)) y (cov_q c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1 y)

/-- The keys fill their block. -/
theorem cov_k (y : S1x12x384x128.Idx) : ∃ pc ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1).2.1, y ∈ pc.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1).2.1 S1x1x384x128.size (by sl_kernel_rfl) y

/-- The block of keys after the body. -/
theorem read_k (hcos : ∀ (i : Fin 384) (l : Fin 128), xs1 (ix3 0 i l) = x3 (ix2 ⟨l / 2, by omega⟩ i))
    (hsin : ∀ (i : Fin 384) (l : Fin 128), xs1 (ix3 1 i l) = if l.val % 2 = 0 then 0 - x4 (ix2 ⟨l / 2, by omega⟩ i) else x4 (ix2 ⟨l / 2, by omega⟩ i)) (f : arg18.view.ty.Contents (Elt Ideal)) :
    View.read (Elt Ideal) arg18.view (arg18.view.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1).2.1) = (qk x2 x1 x0 x6 x9 x12 x15 x3 x4) :=
  funext fun y => View.read_writes_apply_of_pieces _ _ (qk x2 x1 x0 x6 x9 x12 x15 x3 x4) _ (View.PiecesOf.mem (out_k c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1 hcos hsin)) y (cov_k c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1 y)

/-- The values fill their block. -/
theorem cov_v (y : S1x12x384x128.Idx) : ∃ pc ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1).2.2.1, y ∈ pc.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1).2.2.1 S1x1x384x128.size (by sl_kernel_rfl) y

/-- The block of values after the body. -/
theorem read_v  (f : arg19.view.ty.Contents (Elt Ideal)) :
    View.read (Elt Ideal) arg19.view (arg19.view.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1).2.2.1) = (vals x2 x1 x0 x7 x10 x13) :=
  funext fun y => View.read_writes_apply_of_pieces _ _ (vals x2 x1 x0 x7 x10 x13) _ (View.PiecesOf.mem (out_v c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1)) y (cov_v c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1 y)

/-- The codes fill their block. -/
theorem cov_c (y : S1x384x1536.Idx) : ∃ pc ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1).2.2.2.1, y ∈ pc.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1).2.2.2.1 S1x384x1536.size (by sl_kernel_rfl) y

/-- The block of codes after the body. -/
theorem read_c  (f : arg20.view.ty.Contents (Elt Ideal)) :
    View.read (Elt Ideal) arg20.view (arg20.view.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1).2.2.2.1) = (codes x2 x1 x0) :=
  funext fun y => View.read_writes_apply_of_pieces _ _ (codes x2 x1 x0) _ (View.PiecesOf.mem (out_c c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1)) y (cov_c c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs1 y)

end Cert.QkvIdeal.Hand.OutB

end
-- ==== Proof.QkvRun.lean ====
/- The run of the projection kernel over the five samples: what each output block holds after each sample, and the arguments unchanged. -/
module

public import proofs.«01_k».proof.Proof.QkvOutA
public import proofs.«01_k».proof.Proof.QkvOutB
public import proofs.«01_k».proof.Proof.QkvCond
public import Idealize.ShloMosaic.Lib.Pipeline.DatRel
public import Idealize.ShloMosaic.Lib.Pipeline.ArrRel
public import Idealize.ShloMosaic.Lib.Claim

@[expose] public section

set_option maxRecDepth 16384

noncomputable section

namespace Cert.QkvIdeal.Hand

open Cert.QkvIdeal.Cell
open Cert.QkvIdeal Cert.QkvIdeal.Gen Cert.FfnSpec Cert.QkvSpec
open Idealize.ShloMosaic
open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

abbrev ms0_0 (t : Fin cfg0.N) : Memref sig .tc .vmem S1x384x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6x1536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S12x1536x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S12x1536x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S12x1536x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S12x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S12x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S12x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S12x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S12x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S12x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S12x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S12x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x12x384x128 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x12x384x128 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x12x384x128 .bf16 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x384x1536 .fp8e4m3 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S5x384 .f32 := win0_20.stage (cfg0.slots t 20)
abbrev hs0_20 (t : Fin cfg0.N) : (ms0_20 t).IsWhole := hstage0_20 ((cfg0.slots t 20).cast nbuf0_20)
abbrev scM0_0 : Memref sig .tc .vmem S2x12x384x128 .f32 := Memref.whole cc0_scratch0
abbrev scM0_1 : Memref sig .tc .vmem S2x384x128 .f32 := Memref.whole cc0_scratch1

/-- The invariant is the two scratch buffers at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What each output holds -/

/-- The block of queries after sample `t`. -/
def Post16 (c : Dev nD) (t : Fin cfg0.N) (X : Vec Ideal S1x12x384x128 .bf16) : Prop :=
  X = qk (iblk m c 2 t) (iblk m c 1 t) (iblk m c 0 t) (iblk m c 5 t) (iblk m c 8 t) (iblk m c 11 t) (iblk m c 14 t) (iblk m c 3 t) (iblk m c 4 t)

/-- The block of keys after sample `t`. -/
def Post17 (c : Dev nD) (t : Fin cfg0.N) (X : Vec Ideal S1x12x384x128 .bf16) : Prop :=
  X = qk (iblk m c 2 t) (iblk m c 1 t) (iblk m c 0 t) (iblk m c 6 t) (iblk m c 9 t) (iblk m c 12 t) (iblk m c 15 t) (iblk m c 3 t) (iblk m c 4 t)

/-- The block of values after sample `t`. -/
def Post18 (c : Dev nD) (t : Fin cfg0.N) (X : Vec Ideal S1x12x384x128 .bf16) : Prop :=
  X = vals (iblk m c 2 t) (iblk m c 1 t) (iblk m c 0 t) (iblk m c 7 t) (iblk m c 10 t) (iblk m c 13 t)

/-- The block of codes after sample `t`. -/
def Post19 (c : Dev nD) (t : Fin cfg0.N) (X : Vec Ideal S1x384x1536 .fp8e4m3) : Prop :=
  X = codes (iblk m c 2 t) (iblk m c 1 t) (iblk m c 0 t)

/-- The row `i` of sample `t`, normalised and shifted. -/
def rowAt (c : Dev nD) (t : Fin cfg0.N) (i : Fin 384) : Fin 1536 → EReal := row (iblk m c 2 t) (iblk m c 1 t) (iblk m c 0 t) i

/-- The array of scales after sample `t`: the rows of the samples so far. -/
def Post20 (c : Dev nD) (t : Fin cfg0.N) (X : Vec Ideal S5x384 .f32) : Prop :=
  ∀ s : Fin 5, s.val ≤ t.val → ∀ i : Fin 384, X (ix2 s i) = rowScale (rowAt m c s i)

/-- The five output windows. -/
def outs : Fin 21 → Bool := fun w => w.val == 16 || w.val == 17 || w.val == 18 || w.val == 19 || w.val == 20

/-- What the body leaves in the output windows. -/
def Rl (c : Dev nD) (w : Fin cfg0.W) (t : Fin cfg0.N) : ((cfg0.win w).block.Idx → Elt Ideal (cfg0.win w).elt) → Prop :=
  match w with
  | ⟨16, _⟩ => fun X => Post16 m c t X
  | ⟨17, _⟩ => fun X => Post17 m c t X
  | ⟨18, _⟩ => fun X => Post18 m c t X
  | ⟨19, _⟩ => fun X => Post19 m c t X
  | ⟨20, _⟩ => fun X => Post20 m c t X
  | _ => fun _ => True

/-- The rotation's tables, as the kernel lays them out. -/
def tabAt (c : Dev nD) : Vec Ideal S2x384x128 .f32 := tables (iblk m c 3 (0 : Fin 5)) (iblk m c 4 (0 : Fin 5))

/-- The cosines are the same at every sample. -/
theorem iblk3_const (c : Dev nD) (t : Fin 5) : iblk m c 3 t = iblk m c 3 (0 : Fin 5) := by fin_cases t <;> rfl
/-- The sines are the same at every sample. -/
theorem iblk4_const (c : Dev nD) (t : Fin 5) : iblk m c 4 t = iblk m c 4 (0 : Fin 5) := by fin_cases t <;> rfl

/-- The tables made from the blocks of sample `t`. -/
theorem tab_eq (c : Dev nD) (t : Fin cfg0.N) : tables (iblk m c 3 t) (iblk m c 4 t) = tabAt m c := by
  unfold tabAt
  rw [← iblk3_const m c t, ← iblk4_const m c t]

/-- The first table holds the cosines. -/
theorem tab_cos (c : Dev nD) (t : Fin cfg0.N) (i : Fin 384) (l : Fin 128) :
    tabAt m c (ix3 0 i l) = (iblk m c 3 t : Vec Ideal S64x384 .f32) (ix2 ⟨l / 2, by omega⟩ i) := by
  rw [← tab_eq m c t]; rfl

/-- The second table holds the signed sines. -/
theorem tab_sin (c : Dev nD) (t : Fin cfg0.N) (i : Fin 384) (l : Fin 128) :
    tabAt m c (ix3 1 i l) = if l.val % 2 = 0 then (0 : EReal) - ((iblk m c 4 t : Vec Ideal S64x384 .f32) (ix2 ⟨l / 2, by omega⟩ i) : EReal)
      else ((iblk m c 4 t : Vec Ideal S64x384 .f32) (ix2 ⟨l / 2, by omega⟩ i) : EReal) := by
  rw [← tab_eq m c t]
  exact if_neg Nat.one_ne_zero

/-- The invariant: before the first sample the two scratch buffers hold anything; afterwards the second one holds the rotation's tables. -/
def PhiS (c : Dev nD) : ℕ → sProp 𝕄
  | 0 => Pipeline.ΦA spec0 c
  | _ + 1 => iprop(iprop((∃ d, owns (c : Thread nD τ) scM0_0 fullShare d) ∗ owns (c : Thread nD τ) scM0_1 fullShare (tabAt m c)) ∗ (∃ r, prngReg c r))

/-- The invariant once a sample has run. -/
theorem PhiS_pos (c : Dev nD) (n : ℕ) (hz : n ≠ 0) :
    PhiS m c n = iprop(iprop((∃ d, owns (c : Thread nD τ) scM0_0 fullShare d) ∗ owns (c : Thread nD τ) scM0_1 fullShare (tabAt m c)) ∗ (∃ r, prngReg c r)) := by
  cases n with
  | zero => exact absurd rfl hz
  | succ n => rfl

/-- The proof data of the pipeline: every input buffer holds its block; the outputs are told by the relation above. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨_ + 21, h⟩ => absurd h (Nat.not_lt.2 (Nat.le_add_left _ _))
  Φ t := PhiS m c t.val
  q _ := fullShare
  owed _ := 0

/-- The arrays are what the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- The proof data with the outputs told by `Rl`. -/
abbrev rdat (c : Dev nD) : Pipeline.RDat τ (Elt Ideal) Unit ℕ (UR sig nD τ) ℕ (cfgs 0) c := (dats m 0 c).toRRel (cfg := cfg0) outs (Rl m c)

/-- The row of the scales' array that point `t` uses is row `t`. -/
theorem off_at : ∀ t : Fin 5, k0_off1 (grid0.coords t) = ![(t : ℕ), 0] := by decide +kernel

/-- The scales' array goes back to memory after the last sample only. -/
theorem noflush20 : ∀ t : Fin cfg0.N, t.val ≠ 4 → (cfg0.win 20).flush t = false := by decide +kernel

/-- What the body finds in the scales' array: the rows of the samples before. -/
theorem finds20 (c : Dev nD) (t : Fin cfg0.N) (y : Vec Ideal S5x384 .f32) (h : (rdat m c).Finds 20 t y) :
    ∀ s : Fin 5, s.val < t.val → ∀ i : Fin 384, y (ix2 s i) = rowScale (rowAt m c s i) := by
  intro s hs i
  have ht : t.val ≠ 0 := by omega
  have hN : t.val < 5 := t.isLt
  rcases ((rdat m c).finds_of_pos (w := 20) (t := t) rfl ht y).mp h with hf | hl
  · have := noflush20 ⟨t.val - 1, by omega⟩ (by show t.val - 1 ≠ 4; omega)
    exact absurd (this.symm.trans hf) Bool.false_ne_true
  · exact (Pipeline.Dat.toRRel_leaves (dats m 0 c) (fgt := outs) (Rl := Rl m c) (w := 20) rfl hl : Post20 m c _ y) s (by show s.val ≤ t.val - 1; omega) i

/-- The scales' array with the row of sample `t` written. -/
theorem post20 (c : Dev nD) (t : Fin cfg0.N) (a : Memref sig .tc .vmem S5x384 .f32) (ha : a.IsWhole) (y : Vec Ideal S5x384 .f32)
    (h : (rdat m c).Finds 20 t y) (L : List (View.Piece (Elt Ideal) S5x384 .f32))
    (hL : ∃ w : FVec Ideal S1x384 .f32, L = [⟨Rect.unit (s := S5x384) (k0_off1 (grid0.coords t)) ![1, 384] (k0_off1_inb (grid0.coords t)), w⟩]
      ∧ ∀ j, w (ix2 0 j) = rowScale (row (iblk m c 2 t) (iblk m c 1 t) (iblk m c 0 t) j)) :
    Post20 m c t (View.read (Elt Ideal) a.view (a.view.writes (Elt Ideal) (ha.unread y) L)) := by
  obtain ⟨w, rfl, hw⟩ := hL
  intro s hs i
  rcases Nat.lt_or_eq_of_le hs with hlt | heq
  · refine (row_read_other a.view _ _ _ _ s t (off_at t) hlt i).trans ?_
    rw [ha.read_unread]
    exact finds20 m c t y h s hlt i
  · obtain rfl : s = t := Fin.ext heq
    exact (row_read a.view _ _ _ _ s (off_at s) i).trans (hw i)

/-- What the body finds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, ⌜(rdat m c).Finds 16 t d⌝ ∗ owns (c : Thread nD τ) (ms0_16 t) fullShare d)
    ∗ (∃ d, ⌜(rdat m c).Finds 17 t d⌝ ∗ owns (c : Thread nD τ) (ms0_17 t) fullShare d)
    ∗ (∃ d, ⌜(rdat m c).Finds 18 t d⌝ ∗ owns (c : Thread nD τ) (ms0_18 t) fullShare d)
    ∗ (∃ d, ⌜(rdat m c).Finds 19 t d⌝ ∗ owns (c : Thread nD τ) (ms0_19 t) fullShare d)
    ∗ (∃ d, ⌜(rdat m c).Finds 20 t d⌝ ∗ owns (c : Thread nD τ) (ms0_20 t) fullShare d))

/-- What the body leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ (∃ d, ⌜Post16 m c t d⌝ ∗ owns (c : Thread nD τ) (ms0_16 t) fullShare d)
    ∗ (∃ d, ⌜Post17 m c t d⌝ ∗ owns (c : Thread nD τ) (ms0_17 t) fullShare d)
    ∗ (∃ d, ⌜Post18 m c t d⌝ ∗ owns (c : Thread nD τ) (ms0_18 t) fullShare d)
    ∗ (∃ d, ⌜Post19 m c t d⌝ ∗ owns (c : Thread nD τ) (ms0_19 t) fullShare d)
    ∗ (∃ d, ⌜Post20 m c t d⌝ ∗ owns (c : Thread nD τ) (ms0_20 t) fullShare d))

set_option maxHeartbeats 4000000 in
/-- The body at the first sample. -/
theorem sound_body_A (c : Dev nD) (t : Fin cfg0.N) (h0 : t.val % 5 = 0) :
    bodyPre m c t ⊢ wp frame (wpE (defs₀ (F := Ideal)) Variants.none c none) Set.univ (bodyAt0 t) (fun _ => bodyPost m c t) := by
  unfold bodyPre bodyPost bodyAt0
  have hN : t.val < 5 := lt_of_lt_of_eq t.isLt (show cfg0.N = 5 from N_0)
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl,
    show (dats m 0 c).Φ t.succ = PhiS m c (t.val + 1) from rfl, PhiS_pos m c (t.val + 1) (Nat.succ_ne_zero _),
    after0_0, after0_1, after0_2, after0_3, after0_4, after0_5, after0_6, after0_7, after0_8, after0_9, after0_10, after0_11, after0_12, after0_13, after0_14, after0_15]
  rw [show (dats m 0 c).Φ t.castSucc = PhiS m c t.val from rfl, show t.val = 0 by omega, show PhiS m c 0 = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, -, H16⟩, ⟨%d17, -, H17⟩, ⟨%d18, -, H18⟩, ⟨%d19, -, H19⟩, ⟨%d20, %h20, H20⟩⟩
  iapply ((kernelRun0_A c (grid0.coords t) _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2.2.2.2.2 d20 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexact H20
  isplitl [HS0]; · iexact HS0
  isplitl [HS1]; · iexact HS1
  iintro ⟨H0, H1, H2, H3, H4, H5, H6, H7, H8, H9, H10, H11, H12, H13, H14, H15, ⟨%e16, H16⟩, ⟨%e17, H17⟩, ⟨%e18, H18⟩, ⟨%e19, H19⟩, H20, HS0, ⟨%es1, HS1⟩⟩
  isplitl [HS0 HS1 Hg]
  · isplitl [HS0 HS1]
    · isplitl [HS0]
      · iexact HS0
      unfold owns; iexists _; isplitr
      swap; · iexact HS1
      ipureintro; exact (OutA.read_t c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ es1).trans (tab_eq m c t)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · iexists _; isplitr
    swap
    · unfold owns; iexists _; isplitr
      swap; · iexact H16
      ipureintro; rfl
    ipureintro; exact OutA.read_q c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ e16
  isplitl [H17]
  · iexists _; isplitr
    swap
    · unfold owns; iexists _; isplitr
      swap; · iexact H17
      ipureintro; rfl
    ipureintro; exact OutA.read_k c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ e17
  isplitl [H18]
  · iexists _; isplitr
    swap
    · unfold owns; iexists _; isplitr
      swap; · iexact H18
      ipureintro; rfl
    ipureintro; exact OutA.read_v c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ e18
  isplitl [H19]
  · iexists _; isplitr
    swap
    · unfold owns; iexists _; isplitr
      swap; · iexact H19
      ipureintro; rfl
    ipureintro; exact OutA.read_c c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ e19
  iexists _; isplitr
  swap
  · unfold owns; iexists _; isplitr
    swap; · iexact H20
    ipureintro; rfl
  ipureintro; exact post20 m c t _ _ d20 h20 _ (OutA.out_s c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

set_option maxHeartbeats 4000000 in
/-- The body at a later sample. -/
theorem sound_body_B (c : Dev nD) (t : Fin cfg0.N) (h0 : ¬ t.val % 5 = 0) :
    bodyPre m c t ⊢ wp frame (wpE (defs₀ (F := Ideal)) Variants.none c none) Set.univ (bodyAt0 t) (fun _ => bodyPost m c t) := by
  unfold bodyPre bodyPost bodyAt0
  have hN : t.val < 5 := lt_of_lt_of_eq t.isLt (show cfg0.N = 5 from N_0)
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl,
    show (dats m 0 c).Φ t.succ = PhiS m c (t.val + 1) from rfl, PhiS_pos m c (t.val + 1) (Nat.succ_ne_zero _),
    after0_0, after0_1, after0_2, after0_3, after0_4, after0_5, after0_6, after0_7, after0_8, after0_9, after0_10, after0_11, after0_12, after0_13, after0_14, after0_15]
  rw [show (dats m 0 c).Φ t.castSucc = PhiS m c t.val from rfl, PhiS_pos m c t.val (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, -, H16⟩, ⟨%d17, -, H17⟩, ⟨%d18, -, H18⟩, ⟨%d19, -, H19⟩, ⟨%d20, %h20, H20⟩⟩
  iapply ((kernelRun0_B c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (tabAt m c)).2.2.2.2.2.2 d20 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexact H20
  isplitl [HS0]; · iexact HS0
  isplitl [HS1]; · iexact HS1
  iintro ⟨H0, H1, H2, H3, H4, H5, H6, H7, H8, H9, H10, H11, H12, H13, H14, H15, ⟨%e16, H16⟩, ⟨%e17, H17⟩, ⟨%e18, H18⟩, ⟨%e19, H19⟩, H20, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · iexists _; isplitr
    swap
    · unfold owns; iexists _; isplitr
      swap; · iexact H16
      ipureintro; rfl
    ipureintro; exact OutB.read_q c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (tab_cos m c t) (tab_sin m c t) e16
  isplitl [H17]
  · iexists _; isplitr
    swap
    · unfold owns; iexists _; isplitr
      swap; · iexact H17
      ipureintro; rfl
    ipureintro; exact OutB.read_k c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (tab_cos m c t) (tab_sin m c t) e17
  isplitl [H18]
  · iexists _; isplitr
    swap
    · unfold owns; iexists _; isplitr
      swap; · iexact H18
      ipureintro; rfl
    ipureintro; exact OutB.read_v c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ e18
  isplitl [H19]
  · iexists _; isplitr
    swap
    · unfold owns; iexists _; isplitr
      swap; · iexact H19
      ipureintro; rfl
    ipureintro; exact OutB.read_c c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ e19
  iexists _; isplitr
  swap
  · unfold owns; iexists _; isplitr
    swap; · iexact H20
    ipureintro; rfl
  ipureintro; exact post20 m c t _ _ d20 h20 _ (OutB.out_s c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body at any sample. -/
theorem sound_body (c : Dev nD) (t : Fin cfg0.N) :
    bodyPre m c t ⊢ wp frame (wpE (defs₀ (F := Ideal)) Variants.none c none) Set.univ (bodyAt0 t) (fun _ => bodyPost m c t) := by
  by_cases h0 : t.val % 5 = 0
  · exact sound_body_A m c t h0
  · exact sound_body_B m c t h0

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation, at every sample. -/
theorem body_obligation (c : Dev nD) : Pipeline.BodyObligationRel (dats m 0 c) (defs₀ (F := Ideal)) Variants.none () Set.univ outs (Rl m c) := fun t => by
  rw [bigSep_W0, bigSep_W0, defs₀_row]
  exact triple_restated (sound_body m c t) rfl .rfl fun _ => .rfl

/-- The scratch at anything is the invariant before the first sample. -/
theorem hin (c : Dev nD) : Pipeline.ΦA spec0 c ⊢ (rdat m c).Φ 0 := by
  rw [show (rdat m c).Φ 0 = Pipeline.ΦA spec0 c from rfl]

/-- After the last sample the tables are forgotten. -/
theorem hout (c : Dev nD) : (rdat m c).Φ (Fin.last cfg0.N) ⊢ Pipeline.ΦA spec0 c := by
  rw [show (rdat m c).Φ (Fin.last cfg0.N) = PhiS m c cfg0.N from rfl, PhiS_pos m c _ (by rw [show cfg0.N = 5 from N_0]; omega), PhiA0_eq]
  iintro ⟨⟨HS0, HS1⟩, Hg⟩
  isplitl [HS0 HS1]
  · isplitl [HS0]
    · iexact HS0
    iexists _; iexact HS1
  iexact Hg

set_option backward.isDefEq.respectTransparency.types false in
/-- The run, and no signal pending at its end. -/
theorem run_main_quiescent : θ_run defs (onTc (τ := τ) (main (F := Ideal))) (s₀ m ρ) (fun r => (Pipeline.RDat.FramePost (cfgs 0) (fun c => rdat m c) (V m)) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

/-- The run. -/
theorem run_main : θ_run defs (onTc (τ := τ) (main (F := Ideal))) (s₀ m ρ) (Pipeline.RDat.FramePost (cfgs 0) (fun c => rdat m c) (V m)) :=
  (θ_run defs _ _).mono (fun _ h => h.1) (run_main_quiescent m ρ)

/-- From what a run leaves in the arrays to the arguments being unchanged. -/
theorem args_of (rdat : (c : Dev nD) → Pipeline.RDat τ (Elt Ideal) Unit ℕ (UR sig nD τ) ℕ (cfgs 0) c)
    (hA : ∀ c w, (rdat c).A w = V m c (Pipeline.arrRef spec0 w))
    (h : θ_run defs (onTc (τ := τ) (main (F := Ideal))) (s₀ m ρ) (Pipeline.RDat.FramePost (cfgs 0) rdat (V m))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c)),
      (Pipeline.RDat.FramePost.arr_in h c 11 rfl).trans ((hA c 11).trans (V_main_arg11 m c)),
      (Pipeline.RDat.FramePost.arr_in h c 12 rfl).trans ((hA c 12).trans (V_main_arg12 m c)),
      (Pipeline.RDat.FramePost.arr_in h c 13 rfl).trans ((hA c 13).trans (V_main_arg13 m c)),
      (Pipeline.RDat.FramePost.arr_in h c 14 rfl).trans ((hA c 14).trans (V_main_arg14 m c)),
      (Pipeline.RDat.FramePost.arr_in h c 15 rfl).trans ((hA c 15).trans (V_main_arg15 m c))⟩) h

/-! ## The body's branch conditions -/

/-- Every run leaves the arguments unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  args_of m ρ (fun c => rdat m c) (A_eq m) (run_main m ρ)

/-- Every run ends with the arguments unchanged and no signal pending. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.QkvIdeal.Hand

end
-- ==== Proof.QkvStep.lean ====
/- The projection step on all samples, as functions of its arguments. -/
module

public import proofs.«01_k».proof.Proof.QkvSpec
public import Idealize.ShloMosaic.Lib.Pointwise

@[expose] public section

noncomputable section

namespace Cert.QkvSpec

open Idealize.ShloMosaic Cert.FfnSpec

/-- Row `i` of sample `n`, normalised, scaled and shifted. -/
def rowA (a0 : (⟨3, ![5, 384, 1536]⟩ : Shape).Idx → EReal)
    (a1 : (⟨3, ![5, 6, 1536]⟩ : Shape).Idx → EReal) (a2 : (⟨2, ![6, 1536]⟩ : Shape).Idx → EReal) (n : Fin 5) (i : Fin 384) : Fin 1536 → EReal :=
  xrow (fun k => a0 (ix3 n i k)) (fun k => a2 (ix2 1 k) + a1 (ix3 n 1 k)) (fun k => a2 (ix2 0 k) + a1 (ix3 n 0 k))

/-- All heads of row `i` of sample `n`. -/
def headA (a0 : (⟨3, ![5, 384, 1536]⟩ : Shape).Idx → EReal)
    (a1 : (⟨3, ![5, 6, 1536]⟩ : Shape).Idx → EReal) (a2 : (⟨2, ![6, 1536]⟩ : Shape).Idx → EReal)
    (w : (⟨3, ![1536, 12, 128]⟩ : Shape).Idx → EReal) (s b : (⟨2, ![12, 128]⟩ : Shape).Idx → EReal) (n : Fin 5) (i : Fin 384) : Fin 12 → Fin 128 → EReal :=
  head (fun k => codeOf (rowA a0 a1 a2 n i k) (rowScale (rowA a0 a1 a2 n i))) (rowScale (rowA a0 a1 a2 n i))
    (fun k h l => w (ix3 k h l)) (fun h l => s (ix2 h l)) (fun h l => b (ix2 h l))

/-- The queries, or the keys: heads normalised together and rotated, head by head. -/
def qkA (a0 : (⟨3, ![5, 384, 1536]⟩ : Shape).Idx → EReal)
    (a1 : (⟨3, ![5, 6, 1536]⟩ : Shape).Idx → EReal) (a2 : (⟨2, ![6, 1536]⟩ : Shape).Idx → EReal) (cs sn : (⟨2, ![384, 64]⟩ : Shape).Idx → EReal)
    (w : (⟨3, ![1536, 12, 128]⟩ : Shape).Idx → EReal) (s b : (⟨2, ![12, 128]⟩ : Shape).Idx → EReal) (g : (⟨2, ![12, 128]⟩ : Shape).Idx → EReal) :
    (⟨4, ![5, 12, 384, 128]⟩ : Shape).Idx → EReal := fun x =>
  rot (rms (headA a0 a1 a2 w s b (x 0) (x 2)) (fun h l => g (ix2 h l)) (x 1)) (fun j => cs (ix2 (x 2) j)) (fun j => sn (ix2 (x 2) j)) (x 3)

/-- The values, head by head. -/
def valsA (a0 : (⟨3, ![5, 384, 1536]⟩ : Shape).Idx → EReal)
    (a1 : (⟨3, ![5, 6, 1536]⟩ : Shape).Idx → EReal) (a2 : (⟨2, ![6, 1536]⟩ : Shape).Idx → EReal)
    (w : (⟨3, ![1536, 12, 128]⟩ : Shape).Idx → EReal) (s b : (⟨2, ![12, 128]⟩ : Shape).Idx → EReal) :
    (⟨4, ![5, 12, 384, 128]⟩ : Shape).Idx → EReal := fun x => headA a0 a1 a2 w s b (x 0) (x 2) (x 1) (x 3)

/-- The codes of the rows. -/
def codesA (a0 : (⟨3, ![5, 384, 1536]⟩ : Shape).Idx → EReal)
    (a1 : (⟨3, ![5, 6, 1536]⟩ : Shape).Idx → EReal) (a2 : (⟨2, ![6, 1536]⟩ : Shape).Idx → EReal) :
    (⟨3, ![5, 384, 1536]⟩ : Shape).Idx → EReal := fun x =>
  codeOf (rowA a0 a1 a2 (x 0) (x 1) (x 2)) (rowScale (rowA a0 a1 a2 (x 0) (x 1)))

/-- The scales of the rows. -/
def scaleA (a0 : (⟨3, ![5, 384, 1536]⟩ : Shape).Idx → EReal)
    (a1 : (⟨3, ![5, 6, 1536]⟩ : Shape).Idx → EReal) (a2 : (⟨2, ![6, 1536]⟩ : Shape).Idx → EReal) :
    (⟨2, ![5, 384]⟩ : Shape).Idx → EReal := fun x => rowScale (rowA a0 a1 a2 (x 0) (x 1))

end Cert.QkvSpec

end
-- ==== Proof.QkvValue.lean ====
/- The projection kernel's results as functions of its arguments. -/
module

public import proofs.«01_k».proof.Proof.QkvRun
public import proofs.«01_k».proof.Proof.QkvStep

@[expose] public section

set_option maxRecDepth 16384

noncomputable section

namespace Cert.QkvIdeal.Hand

open Cert.QkvIdeal Cert.QkvIdeal.Gen Cert.QkvIdeal.Cell Cert.FfnSpec Cert.QkvSpec
open Idealize.ShloMosaic Idealize.ShloMosaic.TcCoe Idealize.SL.Sem

variable (m : (ℓ : Loc nD τ sig) → Buf (Elt Ideal) ℓ) (ρ : Dev nD → PrngReg)

/-! ## Each block at its place in its array -/

theorem idx0 : ∀ t : Fin cfg0.N, win0_0.index t = ![t.val, 0, 0] := by decide +kernel
theorem idx1 : ∀ t : Fin cfg0.N, win0_1.index t = ![t.val, 0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0, 0] := by decide +kernel
theorem idx6 : ∀ t : Fin cfg0.N, win0_6.index t = ![0, 0, 0] := by decide +kernel
theorem idx7 : ∀ t : Fin cfg0.N, win0_7.index t = ![0, 0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![0, 0] := by decide +kernel
theorem idx14 : ∀ t : Fin cfg0.N, win0_14.index t = ![0, 0] := by decide +kernel
theorem idx15 : ∀ t : Fin cfg0.N, win0_15.index t = ![0, 0] := by decide +kernel
theorem idx16 : ∀ t : Fin cfg0.N, win0_16.index t = ![t.val, 0, 0, 0] := by decide +kernel
theorem idx17 : ∀ t : Fin cfg0.N, win0_17.index t = ![t.val, 0, 0, 0] := by decide +kernel
theorem idx18 : ∀ t : Fin cfg0.N, win0_18.index t = ![t.val, 0, 0, 0] := by decide +kernel
theorem idx19 : ∀ t : Fin cfg0.N, win0_19.index t = ![t.val, 0, 0] := by decide +kernel
theorem idx20 : ∀ t : Fin cfg0.N, win0_20.index t = ![0, 0] := by decide +kernel

theorem blk0 (c : Dev nD) (t : Fin cfg0.N) (i : Fin 384) (k : Fin 1536) :
    iblk m c 0 t (ix3 0 i k : (win0_0.xblock (grid0.coords t)).Idx) = m ((c : Thread nD τ).loc main_arg0) (ix3 t i k) := by
  blk_ext [iblk, V, idx0]
theorem blk1 (c : Dev nD) (t : Fin cfg0.N) (i : Fin 6) (k : Fin 1536) :
    iblk m c 1 t (ix3 0 i k : (win0_1.xblock (grid0.coords t)).Idx) = m ((c : Thread nD τ).loc main_arg1) (ix3 t i k) := by
  blk_ext [iblk, V, idx1]
theorem blk2 (c : Dev nD) (t : Fin cfg0.N) (i : Fin 6) (k : Fin 1536) :
    iblk m c 2 t (ix2 i k : (win0_2.xblock (grid0.coords t)).Idx) = m ((c : Thread nD τ).loc main_arg2) (ix2 i k) := by
  blk_ext [iblk, V, idx2]
theorem blk3 (c : Dev nD) (t : Fin cfg0.N) (j : Fin 64) (i : Fin 384) :
    iblk m c 3 t (ix2 j i : (win0_3.xblock (grid0.coords t)).Idx) = m ((c : Thread nD τ).loc main_arg3) (ix2 i j) := by
  have e : (win0_3.blk t).view.emb (ix2 j i) = ix2 j i := by blk_ext [idx3]
  blk_simp [iblk]
  entry_read
  rw [e]
  pointwise
theorem blk4 (c : Dev nD) (t : Fin cfg0.N) (j : Fin 64) (i : Fin 384) :
    iblk m c 4 t (ix2 j i : (win0_4.xblock (grid0.coords t)).Idx) = m ((c : Thread nD τ).loc main_arg4) (ix2 i j) := by
  have e : (win0_4.blk t).view.emb (ix2 j i) = ix2 j i := by blk_ext [idx4]
  blk_simp [iblk]
  entry_read
  rw [e]
  pointwise
theorem blk5 (c : Dev nD) (t : Fin cfg0.N) (h : Fin 12) (k : Fin 1536) (l : Fin 128) :
    iblk m c 5 t (ix3 h k l : (win0_5.xblock (grid0.coords t)).Idx) = m ((c : Thread nD τ).loc main_arg5) (ix3 k h l) := by
  have e : (win0_5.blk t).view.emb (ix3 h k l) = ix3 h k l := by blk_ext [idx5]
  blk_simp [iblk]
  entry_read
  rw [e]
  pointwise
theorem blk6 (c : Dev nD) (t : Fin cfg0.N) (h : Fin 12) (k : Fin 1536) (l : Fin 128) :
    iblk m c 6 t (ix3 h k l : (win0_6.xblock (grid0.coords t)).Idx) = m ((c : Thread nD τ).loc main_arg6) (ix3 k h l) := by
  have e : (win0_6.blk t).view.emb (ix3 h k l) = ix3 h k l := by blk_ext [idx6]
  blk_simp [iblk]
  entry_read
  rw [e]
  pointwise
theorem blk7 (c : Dev nD) (t : Fin cfg0.N) (h : Fin 12) (k : Fin 1536) (l : Fin 128) :
    iblk m c 7 t (ix3 h k l : (win0_7.xblock (grid0.coords t)).Idx) = m ((c : Thread nD τ).loc main_arg7) (ix3 k h l) := by
  have e : (win0_7.blk t).view.emb (ix3 h k l) = ix3 h k l := by blk_ext [idx7]
  blk_simp [iblk]
  entry_read
  rw [e]
  pointwise
theorem blk8 (c : Dev nD) (t : Fin cfg0.N) (h : Fin 12) (l : Fin 128) :
    iblk m c 8 t (ix2 h l : (win0_8.xblock (grid0.coords t)).Idx) = m ((c : Thread nD τ).loc main_arg8) (ix2 h l) := by
  blk_ext [iblk, V, idx8]
theorem blk9 (c : Dev nD) (t : Fin cfg0.N) (h : Fin 12) (l : Fin 128) :
    iblk m c 9 t (ix2 h l : (win0_9.xblock (grid0.coords t)).Idx) = m ((c : Thread nD τ).loc main_arg9) (ix2 h l) := by
  blk_ext [iblk, V, idx9]
theorem blk10 (c : Dev nD) (t : Fin cfg0.N) (h : Fin 12) (l : Fin 128) :
    iblk m c 10 t (ix2 h l : (win0_10.xblock (grid0.coords t)).Idx) = m ((c : Thread nD τ).loc main_arg10) (ix2 h l) := by
  blk_ext [iblk, V, idx10]
theorem blk11 (c : Dev nD) (t : Fin cfg0.N) (h : Fin 12) (l : Fin 128) :
    iblk m c 11 t (ix2 h l : (win0_11.xblock (grid0.coords t)).Idx) = m ((c : Thread nD τ).loc main_arg11) (ix2 h l) := by
  blk_ext [iblk, V, idx11]
theorem blk12 (c : Dev nD) (t : Fin cfg0.N) (h : Fin 12) (l : Fin 128) :
    iblk m c 12 t (ix2 h l : (win0_12.xblock (grid0.coords t)).Idx) = m ((c : Thread nD τ).loc main_arg12) (ix2 h l) := by
  blk_ext [iblk, V, idx12]
theorem blk13 (c : Dev nD) (t : Fin cfg0.N) (h : Fin 12) (l : Fin 128) :
    iblk m c 13 t (ix2 h l : (win0_13.xblock (grid0.coords t)).Idx) = m ((c : Thread nD τ).loc main_arg13) (ix2 h l) := by
  blk_ext [iblk, V, idx13]
theorem blk14 (c : Dev nD) (t : Fin cfg0.N) (h : Fin 12) (l : Fin 128) :
    iblk m c 14 t (ix2 h l : (win0_14.xblock (grid0.coords t)).Idx) = m ((c : Thread nD τ).loc main_arg14) (ix2 h l) := by
  blk_ext [iblk, V, idx14]
theorem blk15 (c : Dev nD) (t : Fin cfg0.N) (h : Fin 12) (l : Fin 128) :
    iblk m c 15 t (ix2 h l : (win0_15.xblock (grid0.coords t)).Idx) = m ((c : Thread nD τ).loc main_arg15) (ix2 h l) := by
  blk_ext [iblk, V, idx15]

/-- The row in terms of the arguments. -/
theorem row_eq (c : Dev nD) (t : Fin cfg0.N) (i : Fin 384) : row (iblk m c 2 t) (iblk m c 1 t) (iblk m c 0 t) i = rowA (m ((c : Thread nD τ).loc main_arg0)) (m ((c : Thread nD τ).loc main_arg1)) (m ((c : Thread nD τ).loc main_arg2)) t i := by
  unfold row rowA
  simp only [blk0, blk1, blk2]

/-- The heads of a row in terms of the arguments. -/
theorem raw_eq_q (c : Dev nD) (t : Fin cfg0.N) (i : Fin 384) : raw (iblk m c 2 t) (iblk m c 1 t) (iblk m c 0 t) (iblk m c 5 t) (iblk m c 8 t) (iblk m c 11 t) i = headA (m ((c : Thread nD τ).loc main_arg0)) (m ((c : Thread nD τ).loc main_arg1)) (m ((c : Thread nD τ).loc main_arg2)) (m ((c : Thread nD τ).loc main_arg5)) (m ((c : Thread nD τ).loc main_arg8)) (m ((c : Thread nD τ).loc main_arg11)) t i := by
  unfold raw headA
  simp only [row_eq, blk5, blk8, blk11]

/-- The heads of a row in terms of the arguments. -/
theorem raw_eq_k (c : Dev nD) (t : Fin cfg0.N) (i : Fin 384) : raw (iblk m c 2 t) (iblk m c 1 t) (iblk m c 0 t) (iblk m c 6 t) (iblk m c 9 t) (iblk m c 12 t) i = headA (m ((c : Thread nD τ).loc main_arg0)) (m ((c : Thread nD τ).loc main_arg1)) (m ((c : Thread nD τ).loc main_arg2)) (m ((c : Thread nD τ).loc main_arg6)) (m ((c : Thread nD τ).loc main_arg9)) (m ((c : Thread nD τ).loc main_arg12)) t i := by
  unfold raw headA
  simp only [row_eq, blk6, blk9, blk12]

/-- The heads of a row in terms of the arguments. -/
theorem raw_eq_v (c : Dev nD) (t : Fin cfg0.N) (i : Fin 384) : raw (iblk m c 2 t) (iblk m c 1 t) (iblk m c 0 t) (iblk m c 7 t) (iblk m c 10 t) (iblk m c 13 t) i = headA (m ((c : Thread nD τ).loc main_arg0)) (m ((c : Thread nD τ).loc main_arg1)) (m ((c : Thread nD τ).loc main_arg2)) (m ((c : Thread nD τ).loc main_arg7)) (m ((c : Thread nD τ).loc main_arg10)) (m ((c : Thread nD τ).loc main_arg13)) t i := by
  unfold raw headA
  simp only [row_eq, blk7, blk10, blk13]

theorem emb16 (t : Fin cfg0.N) (h : Fin 12) (i : Fin 384) (l : Fin 128) : (win0_16.blk t).view.emb (ix4 0 h i l) = ix4 t h i l := by
  blk_ext [idx16]
theorem emb17 (t : Fin cfg0.N) (h : Fin 12) (i : Fin 384) (l : Fin 128) : (win0_17.blk t).view.emb (ix4 0 h i l) = ix4 t h i l := by
  blk_ext [idx17]
theorem emb18 (t : Fin cfg0.N) (h : Fin 12) (i : Fin 384) (l : Fin 128) : (win0_18.blk t).view.emb (ix4 0 h i l) = ix4 t h i l := by
  blk_ext [idx18]
theorem emb19 (t : Fin cfg0.N) (i : Fin 384) (j : Fin 1536) : (win0_19.blk t).view.emb (ix3 0 i j) = ix3 t i j := by
  blk_ext [idx19]
theorem emb20 (t : Fin cfg0.N) (s : Fin 5) (i : Fin 384) : (win0_20.blk t).view.emb (ix2 s i) = ix2 s i := by
  blk_ext [idx20]

/-- An index of a block of one sample. -/
theorem ix3_unit {a b : ℕ} (y : (⟨3, ![1, a, b]⟩ : Shape).Idx) : y = ix3 0 (y 1) (y 2) := by
  funext d; fin_cases d
  · exact Subsingleton.elim (α := Fin 1) _ _
  · rfl
  · rfl

/-- An index of a block of one sample's heads. -/
theorem ix4_unit {a b d : ℕ} (y : (⟨4, ![1, a, b, d]⟩ : Shape).Idx) : y = ix4 0 (y 1) (y 2) (y 3) := by
  funext k; fin_cases k
  · exact Subsingleton.elim (α := Fin 1) _ _
  · rfl
  · rfl
  · rfl

theorem flush20 : ∀ t : Fin cfg0.N, (cfg0.win 20).flush t = true → t.val = 4 := by decide +kernel

/-- The block of queries, in terms of the arguments. -/
theorem post16_eq (c : Dev nD) (t : Fin cfg0.N) (X) (hP : Post16 m c t X) (h : Fin 12) (i : Fin 384) (l : Fin 128) :
    X (ix4 0 h i l) = qkA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg11)) (m ((c : Thread nD τ).loc main_arg14)) ((win0_16.blk t).view.emb (ix4 0 h i l)) := by
  rw [emb16, hP]
  show rot (rms (raw _ _ _ _ _ _ i) _ h) (fun j => iblk m c 3 t (ix2 j i)) (fun j => iblk m c 4 t (ix2 j i)) l
    = rot (rms (headA _ _ _ _ _ _ t i) _ h) (fun j => m ((c : Thread nD τ).loc main_arg3) (ix2 i j)) (fun j => m ((c : Thread nD τ).loc main_arg4) (ix2 i j)) l
  rw [raw_eq_q]
  simp only [blk3, blk4, blk14]

/-- The block of keys, in terms of the arguments. -/
theorem post17_eq (c : Dev nD) (t : Fin cfg0.N) (X) (hP : Post17 m c t X) (h : Fin 12) (i : Fin 384) (l : Fin 128) :
    X (ix4 0 h i l) = qkA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg9)) (m ((c : Thread nD τ).loc main_arg12)) (m ((c : Thread nD τ).loc main_arg15)) ((win0_17.blk t).view.emb (ix4 0 h i l)) := by
  rw [emb17, hP]
  show rot (rms (raw _ _ _ _ _ _ i) _ h) (fun j => iblk m c 3 t (ix2 j i)) (fun j => iblk m c 4 t (ix2 j i)) l
    = rot (rms (headA _ _ _ _ _ _ t i) _ h) (fun j => m ((c : Thread nD τ).loc main_arg3) (ix2 i j)) (fun j => m ((c : Thread nD τ).loc main_arg4) (ix2 i j)) l
  rw [raw_eq_k]
  simp only [blk3, blk4, blk15]

/-- The block of values. -/
theorem post18_eq (c : Dev nD) (t : Fin cfg0.N) (X) (hP : Post18 m c t X) (h : Fin 12) (i : Fin 384) (l : Fin 128) :
    X (ix4 0 h i l) = valsA (m ((c : Thread nD τ).loc main_arg0)) (m ((c : Thread nD τ).loc main_arg1)) (m ((c : Thread nD τ).loc main_arg2)) (m ((c : Thread nD τ).loc main_arg7)) (m ((c : Thread nD τ).loc main_arg10)) (m ((c : Thread nD τ).loc main_arg13)) ((win0_18.blk t).view.emb (ix4 0 h i l)) := by
  rw [emb18, hP]
  exact congrFun (congrFun (raw_eq_v m c t i) h) l

/-- The block of codes. -/
theorem post19_eq (c : Dev nD) (t : Fin cfg0.N) (X) (hP : Post19 m c t X) (i : Fin 384) (j : Fin 1536) :
    X (ix3 0 i j) = Cert.QkvSpec.codesA (m ((c : Thread nD τ).loc main_arg0)) (m ((c : Thread nD τ).loc main_arg1)) (m ((c : Thread nD τ).loc main_arg2)) ((win0_19.blk t).view.emb (ix3 0 i j)) := by
  rw [emb19, hP]
  show codeOf (row _ _ _ i j) (rowScale (row _ _ _ i)) = codeOf (rowA _ _ _ t i j) (rowScale (rowA _ _ _ t i))
  rw [row_eq]

/-- The scales, after the last sample. -/
theorem post20_eq (c : Dev nD) (t : Fin cfg0.N) (h4 : t.val = 4) (X) (hP : Post20 m c t X) (s : Fin 5) (i : Fin 384) :
    X (ix2 s i) = Cert.QkvSpec.scaleA (m ((c : Thread nD τ).loc main_arg0)) (m ((c : Thread nD τ).loc main_arg1)) (m ((c : Thread nD τ).loc main_arg2)) ((win0_20.blk t).view.emb (ix2 s i)) := by
  rw [emb20, hP s (by have := s.isLt; omega) i]
  exact congrArg rowScale (row_eq m c (s : Fin cfg0.N) i)

/-- Every run ends with the five results at their values, and the arguments unchanged. -/
theorem run_values : θ_run defs (onTc (τ := τ) (main (F := Ideal))) ⟨m, fun _ => 0, ρ⟩ (fun r => ∀ c : Dev nD,
      r.2.mem ((c.tc : Thread nD τ).loc main_v5_0) = qkA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg11)) (m ((c : Thread nD τ).loc main_arg14))
      ∧ r.2.mem ((c.tc : Thread nD τ).loc main_v5_1) = qkA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg9)) (m ((c : Thread nD τ).loc main_arg12)) (m ((c : Thread nD τ).loc main_arg15))
      ∧ r.2.mem ((c.tc : Thread nD τ).loc main_v5_2) = valsA (m ((c : Thread nD τ).loc main_arg0)) (m ((c : Thread nD τ).loc main_arg1)) (m ((c : Thread nD τ).loc main_arg2)) (m ((c : Thread nD τ).loc main_arg7)) (m ((c : Thread nD τ).loc main_arg10)) (m ((c : Thread nD τ).loc main_arg13))
      ∧ r.2.mem ((c.tc : Thread nD τ).loc main_v5_3) = Cert.QkvSpec.codesA (m ((c : Thread nD τ).loc main_arg0)) (m ((c : Thread nD τ).loc main_arg1)) (m ((c : Thread nD τ).loc main_arg2))
      ∧ r.2.mem ((c.tc : Thread nD τ).loc main_v5_4) = Cert.QkvSpec.scaleA (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine (θ_run defs _ _).mono (fun r hr c => ?_) (θ_run_and (run_main m ρ) (unchanged m ρ))
  obtain ⟨h, hu⟩ := hr
  obtain ⟨after, hL, hA⟩ := h.exists_exact c
  refine ⟨(hA 16).trans ?_, (hA 17).trans ?_, (hA 18).trans ?_, (hA 19).trans ?_, (hA 20).trans ?_, hu c⟩
  · refine Pipeline.Dat.arrAt_eq_of_covers _ 16 _ (by decide +kernel) fun t hf y => ?_
    have hP : Post16 m c t (after 16 t) := Pipeline.Dat.toRRel_leaves (dats m 0 c) (fgt := outs) (Rl := Rl m c) (w := 16) rfl (hL 16 t hf)
    rw [show y = ix4 0 (y 1) (y 2) (y 3) from ix4_unit y]
    exact post16_eq m c t _ hP (y 1) (y 2) (y 3)
  · refine Pipeline.Dat.arrAt_eq_of_covers _ 17 _ (by decide +kernel) fun t hf y => ?_
    have hP : Post17 m c t (after 17 t) := Pipeline.Dat.toRRel_leaves (dats m 0 c) (fgt := outs) (Rl := Rl m c) (w := 17) rfl (hL 17 t hf)
    rw [show y = ix4 0 (y 1) (y 2) (y 3) from ix4_unit y]
    exact post17_eq m c t _ hP (y 1) (y 2) (y 3)
  · refine Pipeline.Dat.arrAt_eq_of_covers _ 18 _ (by decide +kernel) fun t hf y => ?_
    have hP : Post18 m c t (after 18 t) := Pipeline.Dat.toRRel_leaves (dats m 0 c) (fgt := outs) (Rl := Rl m c) (w := 18) rfl (hL 18 t hf)
    rw [show y = ix4 0 (y 1) (y 2) (y 3) from ix4_unit y]
    exact post18_eq m c t _ hP (y 1) (y 2) (y 3)
  · refine Pipeline.Dat.arrAt_eq_of_covers _ 19 _ (by decide +kernel) fun t hf y => ?_
    have hP : Post19 m c t (after 19 t) := Pipeline.Dat.toRRel_leaves (dats m 0 c) (fgt := outs) (Rl := Rl m c) (w := 19) rfl (hL 19 t hf)
    rw [show y = ix3 0 (y 1) (y 2) from ix3_unit y]
    exact post19_eq m c t _ hP (y 1) (y 2)
  · refine Pipeline.Dat.arrAt_eq_of_covers _ 20 _ (by decide +kernel) fun t hf y => ?_
    have hP : Post20 m c t (after 20 t) := Pipeline.Dat.toRRel_leaves (dats m 0 c) (fgt := outs) (Rl := Rl m c) (w := 20) rfl (hL 20 t hf)
    have hy : y = ix2 (y 0) (y 1) := by funext d; fin_cases d <;> rfl
    rw [hy]
    exact post20_eq m c t (flush20 t hf) _ hP (y 0) (y 1)

end Cert.QkvIdeal.Hand

end
-- ==== Proof.QkvRefCell.lean ====
/- The reference's arithmetic read entry by entry. -/
module

public import proofs.«01_k».proof.Proof.Gen.QkvRefIdeal.Skeleton
public import proofs.«01_k».proof.Proof.QkvSpec

@[expose] public section

set_option maxRecDepth 16384

noncomputable section

namespace Cert.QkvRefIdeal.Cell

open Cert.QkvRefIdeal Cert.QkvRefIdeal.Gen Cert.FfnSpec Cert.QkvSpec
open Idealize.ShloMosaic

/-- Sample `s`'s modulated row `i`. -/
def row (v0 : Vec Ideal S5x384x1536 .bf16) (v18 v24 : Vec Ideal S5x1x1536 .f32) (s : Fin 5) (i : Fin 384) : Fin 1536 → EReal :=
  xrow (fun k => v0 (ix3 s i k)) (fun k => v18 (ix3 s 0 k)) (fun k => v24 (ix3 s 0 k))

/-- The modulated rows. -/
theorem row_apply (v0 : Vec Ideal S5x384x1536 .bf16) (v18 v24 : Vec Ideal S5x1x1536 .f32) (s : Fin 5) (i : Fin 384) (k : Fin 1536) :
    k0_pay1 v0 v18 v24 (ix3 s i k) = row v0 v18 v24 s i k := by
  pointwise [k0_pay1]
  rfl

/-- The largest absolute value of each row of any array. -/
def amaxVec (g : FVec Ideal S5x384x1536 .f32) : FVec Ideal S5x384 .f32 :=
  multiReduction .maximumf [2] S5x384 (absf g) 0xFF800000#32 reduces_S5x384x1536_S5x384 (.inl rfl) rfl

/-- Its entry is the fold of the absolute values along the row. -/
theorem amaxVec_apply (g : FVec Ideal S5x384x1536 .f32) (s : Fin 5) (i : Fin 384) :
    amaxVec g (ix2 s i) = amax (fun n => g (ix3 s i n)) := by
  obtain ⟨r, hr⟩ : ∃ r, r = amax (fun n => g (ix3 s i n)) := ⟨_, rfl⟩
  rw [← hr]
  pointwise [amaxVec]
  rw [hr]
  unfold amax
  exact congrArg (fun f => Finset.fold max (Ideal.ofBits .f32 0xFF800000#32) f Finset.univ) (funext fun n => rfl)

/-- The scales from the largest absolute values. -/
def scaleVec (a : FVec Ideal S5x384 .f32) : FVec Ideal S5x384 .f32 :=
  select (cmpf .ogt a (broadcast S5x384 (Scalar.ofBits .f32 0x00000000#32)))
    (divf a (broadcast S5x384 (Scalar.ofBits .f32 0x43E00000#32)))
    (broadcast S5x384 (Scalar.ofBits .f32 0x3F800000#32))

/-- A scale at its index. -/
theorem scaleVec_apply (a : FVec Ideal S5x384 .f32) (s : Fin 5) (i : Fin 384) :
    scaleVec a (ix2 s i) = scaleOf (a (ix2 s i)) := by
  pointwise [scaleVec]
  rfl

/-- The codes of any rows at any scales. -/
def codeVec (g : FVec Ideal S5x384x1536 .f32) (sc : FVec Ideal S5x384 .f32) : FVec Ideal S5x384x1536 .fp8e4m3 :=
  truncf .fp8e4m3 (minimumf (broadcast S5x384x1536 (Scalar.ofBits .f32 0x43E00000#32))
    (maximumf (broadcast S5x384x1536 (Scalar.ofBits .f32 0xC3E00000#32))
      (divf g (broadcastTo S5x384x1536 (shapeCast S5x384x1 sc shapeCasts_S5x384_S5x384x1) broadcasts_S5x384x1_S5x384x1536)))) bitsLt_fp8e4m3_f32

/-- A code at its index. -/
theorem codeVec_apply (g : FVec Ideal S5x384x1536 .f32) (sc : FVec Ideal S5x384 .f32) (s : Fin 5) (i : Fin 384) (n : Fin 1536) :
    codeVec g sc (ix3 s i n) = codeOf (g (ix3 s i n)) (sc (ix2 s i)) := by
  pointwise [codeVec]
  rfl

/-- The scale of a row. -/
theorem scale_apply (v0 : Vec Ideal S5x384x1536 .bf16) (v18 v24 : Vec Ideal S5x1x1536 .f32) (s : Fin 5) (i : Fin 384) :
    k0_pay2 v0 v18 v24 (ix2 s i) = rowScale (row v0 v18 v24 s i) := by
  have e : (fun n => k0_pay1 v0 v18 v24 (ix3 s i n)) = row v0 v18 v24 s i := funext fun n => row_apply v0 v18 v24 s i n
  rw [show k0_pay2 v0 v18 v24 = scaleVec (amaxVec (k0_pay1 v0 v18 v24)) from rfl, scaleVec_apply, amaxVec_apply, e, rowScale]

/-- The codes of the modulated rows. -/
abbrev codesK (v0 : Vec Ideal S5x384x1536 .bf16) (v18 v24 : Vec Ideal S5x1x1536 .f32) : FVec Ideal S5x384x1536 .fp8e4m3 :=
  k0_pay4 (k0_pay3 v0 v18 v24) (Scalar.ofBits .f32 0xC3E00000#32) (Scalar.ofBits .f32 0x43E00000#32)

/-- The codes. -/
theorem code_apply (v0 : Vec Ideal S5x384x1536 .bf16) (v18 v24 : Vec Ideal S5x1x1536 .f32) (s : Fin 5) (i : Fin 384) (k : Fin 1536) :
    codesK v0 v18 v24 (ix3 s i k) = codeOf (row v0 v18 v24 s i k) (rowScale (row v0 v18 v24 s i)) := by
  rw [show codesK v0 v18 v24 = codeVec (k0_pay1 v0 v18 v24) (k0_pay2 v0 v18 v24) from rfl, codeVec_apply, scale_apply, row_apply]

/-- The projection of all heads, from any codes and scales. -/
theorem head_apply (sc : FVec Ideal S5x384 .f32) (q : FVec Ideal S5x384x1536 .fp8e4m3) (w : Vec Ideal S1536x12x128 .fp8e4m3)
    (ws b : Vec Ideal S12x128 .f32) (s : Fin 5) (i : Fin 384) (h : Fin 12) (l : Fin 128) :
    k0_pay10 sc q w ws b (ix4 s i h l)
      = head (fun k => q (ix3 s i k)) (sc (ix2 s i)) (fun k h l => w (ix3 k h l)) (fun h l => ws (ix2 h l)) (fun h l => b (ix2 h l)) h l := by
  pointwise [k0_pay10]
  rfl

/-- The mean square of the heads' values with the small constant, of any array of values. -/
def meanVec (p : FVec Ideal S5x384x12x128 .f32) : FVec Ideal S5x384x1x1 .f32 :=
  addf (divf (shapeCast S5x384x1x1 (multiReduction .add [2, 3] S5x384 (mulf p p) 0x00000000#32 reduces_S5x384x12x128_S5x384 (.inl rfl) rfl)
    shapeCasts_S5x384_S5x384x1x1) (broadcast S5x384x1x1 (Scalar.ofBits .f32 0x44C00000#32))) (broadcast S5x384x1x1 (Scalar.ofBits .f32 0x358637BD#32))

/-- The same over its root. -/
def normVec (p : FVec Ideal S5x384x12x128 .f32) : FVec Ideal S5x384x12x128 .f32 :=
  divf p (broadcastTo S5x384x12x128 (sqrt (meanVec p)) broadcasts_S5x384x1x1_S5x384x12x128)

/-- Its entry. -/
theorem normVec_apply (p : FVec Ideal S5x384x12x128 .f32) (s : Fin 5) (i : Fin 384) (h : Fin 12) (l : Fin 128) :
    normVec p (ix4 s i h l) = Ideal.div (p (ix4 s i h l)) (root (fun h l => p (ix4 s i h l))) := by
  pointwise [normVec, meanVec]
  rfl

/-- The scaled rows rotated, of any array of values. -/
theorem rot_apply (c sn : Vec Ideal S384x64 .f32) (n : FVec Ideal S5x384x12x128 .f32) (g : Vec Ideal S12x128 .f32)
    (s : Fin 5) (i : Fin 384) (h : Fin 12) (l : Fin 128) :
    k0_pay9 (k0_pay5 c) (k0_pay6 sn) n (k0_pay8 g) (ix4 s h i l)
      = rot (fun l => n (ix4 s i h l) * g (ix2 h l)) (fun j => c (ix2 i j)) (fun j => sn (ix2 i j)) l := by
  pointwise [k0_pay9, k0_pay5, k0_pay6, k0_pay8]
  have hl := l.isLt
  unfold rot
  by_cases e : l.val % 2 = 0
  · have e0 : (⟨l.val / 2 * 2, by omega⟩ : Fin 128) = l := Fin.ext (by show l.val / 2 * 2 = l.val; omega)
    have e1 : (⟨l.val / 2 * 2 + 1, by omega⟩ : Fin 128) = ⟨(l.val + 1) % 128, Nat.mod_lt _ (by omega)⟩ := Fin.ext (by show l.val / 2 * 2 + 1 = (l.val + 1) % 128; omega)
    rw [dif_pos (by omega), if_pos e, e0, e1]
  · have e0 : (⟨l.val / 2 * 2, by omega⟩ : Fin 128) = ⟨(l.val + 127) % 128, Nat.mod_lt _ (by omega)⟩ := Fin.ext (by show l.val / 2 * 2 = (l.val + 127) % 128; omega)
    have e1 : (⟨l.val / 2 * 2 + 1, by omega⟩ : Fin 128) = l := Fin.ext (by show l.val / 2 * 2 + 1 = l.val; omega)
    rw [dif_neg (by omega), if_neg e, e0, e1]

/-- The values' transposed array, from any codes and scales. -/
theorem v_apply (sc : FVec Ideal S5x384 .f32) (q : FVec Ideal S5x384x1536 .fp8e4m3) (w : Vec Ideal S1536x12x128 .fp8e4m3)
    (ws b : Vec Ideal S12x128 .f32) (s : Fin 5) (i : Fin 384) (h : Fin 12) (l : Fin 128) :
    k0_pay13 sc q w ws b (ix4 s h i l)
      = head (fun k => q (ix3 s i k)) (sc (ix2 s i)) (fun k h l => w (ix3 k h l)) (fun h l => ws (ix2 h l)) (fun h l => b (ix2 h l)) h l := by
  pointwise [k0_pay13]
  rfl

end Cert.QkvRefIdeal.Cell

end
-- ==== Proof.QkvRefValue.lean ====
/- The reference's results as functions of its arguments. -/
module

public import proofs.«01_k».proof.Proof.Gen.QkvRefIdeal.Value
public import proofs.«01_k».proof.Proof.QkvRefCell
public import proofs.«01_k».proof.Proof.QkvStep
public import Idealize.ShloMosaic.Lib.Pipeline.ValueKit

@[expose] public section

set_option maxRecDepth 16384

noncomputable section

namespace Cert.QkvRefIdeal.Hand

open Cert.QkvRefIdeal Cert.QkvRefIdeal.Gen Cert.QkvRefIdeal.Cell Cert.FfnSpec Cert.QkvSpec
open Idealize.ShloMosaic Idealize.ShloMosaic.TcCoe Idealize.SL.Sem

variable (m : (ℓ : Loc nD τ sig) → Buf (Elt Ideal) ℓ) (ρ : Dev nD → PrngReg)

/-! ## Each block is its whole array -/

theorem idx0 : ∀ t : Fin cfg0.N, win0_0.index t = ![0, 0, 0] := by decide +kernel
theorem idx1 : ∀ t : Fin cfg0.N, win0_1.index t = ![0, 0, 0] := by decide +kernel
theorem idx2 : ∀ t : Fin cfg0.N, win0_2.index t = ![0, 0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0, 0] := by decide +kernel
theorem idx6 : ∀ t : Fin cfg0.N, win0_6.index t = ![0, 0, 0] := by decide +kernel
theorem idx7 : ∀ t : Fin cfg0.N, win0_7.index t = ![0, 0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![0, 0] := by decide +kernel
theorem idx14 : ∀ t : Fin cfg0.N, win0_14.index t = ![0, 0] := by decide +kernel
theorem idx15 : ∀ t : Fin cfg0.N, win0_15.index t = ![0, 0] := by decide +kernel
theorem idx16 : ∀ t : Fin cfg0.N, win0_16.index t = ![0, 0, 0, 0] := by decide +kernel
theorem idx17 : ∀ t : Fin cfg0.N, win0_17.index t = ![0, 0, 0, 0] := by decide +kernel
theorem idx18 : ∀ t : Fin cfg0.N, win0_18.index t = ![0, 0, 0, 0] := by decide +kernel
theorem idx19 : ∀ t : Fin cfg0.N, win0_19.index t = ![0, 0, 0] := by decide +kernel
theorem idx20 : ∀ t : Fin cfg0.N, win0_20.index t = ![0, 0] := by decide +kernel

theorem blk0 (c : Dev nD) (t : Fin cfg0.N) (s : Fin 5) (i : Fin 384) (k : Fin 1536) :
    iblk m c 0 t (ix3 s i k : (win0_0.xblock (grid0.coords t)).Idx) = m ((c : Thread nD τ).loc main_arg0) (ix3 s i k) := by
  blk_ext [iblk, V, idx0]
theorem blk3 (c : Dev nD) (t : Fin cfg0.N) (i : Fin 384) (j : Fin 64) :
    iblk m c 3 t (ix2 i j : (win0_3.xblock (grid0.coords t)).Idx) = m ((c : Thread nD τ).loc main_arg3) (ix2 i j) := by
  blk_ext [iblk, V, idx3]
theorem blk4 (c : Dev nD) (t : Fin cfg0.N) (i : Fin 384) (j : Fin 64) :
    iblk m c 4 t (ix2 i j : (win0_4.xblock (grid0.coords t)).Idx) = m ((c : Thread nD τ).loc main_arg4) (ix2 i j) := by
  blk_ext [iblk, V, idx4]
theorem blk5 (c : Dev nD) (t : Fin cfg0.N) (k : Fin 1536) (h : Fin 12) (l : Fin 128) :
    iblk m c 5 t (ix3 k h l : (win0_5.xblock (grid0.coords t)).Idx) = m ((c : Thread nD τ).loc main_arg5) (ix3 k h l) := by
  blk_ext [iblk, V, idx5]
theorem blk6 (c : Dev nD) (t : Fin cfg0.N) (k : Fin 1536) (h : Fin 12) (l : Fin 128) :
    iblk m c 6 t (ix3 k h l : (win0_6.xblock (grid0.coords t)).Idx) = m ((c : Thread nD τ).loc main_arg6) (ix3 k h l) := by
  blk_ext [iblk, V, idx6]
theorem blk7 (c : Dev nD) (t : Fin cfg0.N) (k : Fin 1536) (h : Fin 12) (l : Fin 128) :
    iblk m c 7 t (ix3 k h l : (win0_7.xblock (grid0.coords t)).Idx) = m ((c : Thread nD τ).loc main_arg7) (ix3 k h l) := by
  blk_ext [iblk, V, idx7]
theorem blk8 (c : Dev nD) (t : Fin cfg0.N) (h : Fin 12) (l : Fin 128) :
    iblk m c 8 t (ix2 h l : (win0_8.xblock (grid0.coords t)).Idx) = m ((c : Thread nD τ).loc main_arg8) (ix2 h l) := by
  blk_ext [iblk, V, idx8]
theorem blk9 (c : Dev nD) (t : Fin cfg0.N) (h : Fin 12) (l : Fin 128) :
    iblk m c 9 t (ix2 h l : (win0_9.xblock (grid0.coords t)).Idx) = m ((c : Thread nD τ).loc main_arg9) (ix2 h l) := by
  blk_ext [iblk, V, idx9]
theorem blk10 (c : Dev nD) (t : Fin cfg0.N) (h : Fin 12) (l : Fin 128) :
    iblk m c 10 t (ix2 h l : (win0_10.xblock (grid0.coords t)).Idx) = m ((c : Thread nD τ).loc main_arg10) (ix2 h l) := by
  blk_ext [iblk, V, idx10]
theorem blk11 (c : Dev nD) (t : Fin cfg0.N) (h : Fin 12) (l : Fin 128) :
    iblk m c 11 t (ix2 h l : (win0_11.xblock (grid0.coords t)).Idx) = m ((c : Thread nD τ).loc main_arg11) (ix2 h l) := by
  blk_ext [iblk, V, idx11]
theorem blk12 (c : Dev nD) (t : Fin cfg0.N) (h : Fin 12) (l : Fin 128) :
    iblk m c 12 t (ix2 h l : (win0_12.xblock (grid0.coords t)).Idx) = m ((c : Thread nD τ).loc main_arg12) (ix2 h l) := by
  blk_ext [iblk, V, idx12]
theorem blk13 (c : Dev nD) (t : Fin cfg0.N) (h : Fin 12) (l : Fin 128) :
    iblk m c 13 t (ix2 h l : (win0_13.xblock (grid0.coords t)).Idx) = m ((c : Thread nD τ).loc main_arg13) (ix2 h l) := by
  blk_ext [iblk, V, idx13]
theorem blk14 (c : Dev nD) (t : Fin cfg0.N) (h : Fin 12) (l : Fin 128) :
    iblk m c 14 t (ix2 h l : (win0_14.xblock (grid0.coords t)).Idx) = m ((c : Thread nD τ).loc main_arg14) (ix2 h l) := by
  blk_ext [iblk, V, idx14]
theorem blk15 (c : Dev nD) (t : Fin cfg0.N) (h : Fin 12) (l : Fin 128) :
    iblk m c 15 t (ix2 h l : (win0_15.xblock (grid0.coords t)).Idx) = m ((c : Thread nD τ).loc main_arg15) (ix2 h l) := by
  blk_ext [iblk, V, idx15]

/-- The table of modulations. -/
abbrev table (c : Dev nD) : (⟨2, ![6, 1536]⟩ : Shape).Idx → EReal := m ((c : Thread nD τ).loc main_arg2)
/-- Each sample's own modulations. -/
abbrev own (c : Dev nD) : (⟨3, ![5, 6, 1536]⟩ : Shape).Idx → EReal := m ((c : Thread nD τ).loc main_arg1)

/-- The scale's operand is the sum of a row of the table and of the sample's modulation. -/
theorem blk1 (c : Dev nD) (t : Fin cfg0.N) (s : Fin 5) (k : Fin 1536) :
    iblk m c 1 t (ix3 s 0 k : (win0_1.xblock (grid0.coords t)).Idx) = table m c (ix2 1 k) + own m c (ix3 s 1 k) := by
  have e : (win0_1.blk t).view.emb (ix3 s 0 k) = ix3 s 0 k := by blk_ext [idx1]
  blk_simp [iblk]
  entry_read
  rw [e]
  pointwise

/-- The shift's operand is the sum of a row of the table and of the sample's modulation. -/
theorem blk2 (c : Dev nD) (t : Fin cfg0.N) (s : Fin 5) (k : Fin 1536) :
    iblk m c 2 t (ix3 s 0 k : (win0_2.xblock (grid0.coords t)).Idx) = table m c (ix2 0 k) + own m c (ix3 s 0 k) := by
  have e : (win0_2.blk t).view.emb (ix3 s 0 k) = ix3 s 0 k := by blk_ext [idx2]
  blk_simp [iblk]
  entry_read
  rw [e]
  pointwise

/-! ## What the body leaves -/

/-- The queries the body leaves. -/
theorem out16_eq (x0 : Vec Ideal S5x384x1536 .bf16) (x1 : Vec Ideal S5x1x1536 .f32) (x2 : Vec Ideal S5x1x1536 .f32) (x3 : Vec Ideal S384x64 .f32) (x4 : Vec Ideal S384x64 .f32) (x5 : Vec Ideal S1536x12x128 .fp8e4m3) (x6 : Vec Ideal S1536x12x128 .fp8e4m3) (x7 : Vec Ideal S1536x12x128 .fp8e4m3) (x8 : Vec Ideal S12x128 .f32) (x9 : Vec Ideal S12x128 .f32) (x10 : Vec Ideal S12x128 .f32) (x11 : Vec Ideal S12x128 .f32) (x12 : Vec Ideal S12x128 .f32) (x13 : Vec Ideal S12x128 .f32) (x14 : Vec Ideal S12x128 .f32) (x15 : Vec Ideal S12x128 .f32) :
    out0_16 x0 x1 x2 x3 x4 x5 x6 x7 x8 x9 x10 x11 x12 x13 x14 x15 = k0_pay9 (k0_pay5 x3) (k0_pay6 x4) (normVec (k0_pay10 (k0_pay2 x0 x1 x2) (codesK x0 x1 x2) x5 x8 x11)) (k0_pay8 x14) := by
  funext y
  unfold_out out0_16
  frame_out
  rfl

/-- The keys the body leaves. -/
theorem out17_eq (x0 : Vec Ideal S5x384x1536 .bf16) (x1 : Vec Ideal S5x1x1536 .f32) (x2 : Vec Ideal S5x1x1536 .f32) (x3 : Vec Ideal S384x64 .f32) (x4 : Vec Ideal S384x64 .f32) (x5 : Vec Ideal S1536x12x128 .fp8e4m3) (x6 : Vec Ideal S1536x12x128 .fp8e4m3) (x7 : Vec Ideal S1536x12x128 .fp8e4m3) (x8 : Vec Ideal S12x128 .f32) (x9 : Vec Ideal S12x128 .f32) (x10 : Vec Ideal S12x128 .f32) (x11 : Vec Ideal S12x128 .f32) (x12 : Vec Ideal S12x128 .f32) (x13 : Vec Ideal S12x128 .f32) (x14 : Vec Ideal S12x128 .f32) (x15 : Vec Ideal S12x128 .f32) :
    out0_17 x0 x1 x2 x3 x4 x5 x6 x7 x8 x9 x10 x11 x12 x13 x14 x15 = k0_pay9 (k0_pay5 x3) (k0_pay6 x4) (normVec (k0_pay10 (k0_pay2 x0 x1 x2) (codesK x0 x1 x2) x6 x9 x12)) (k0_pay8 x15) := by
  funext y
  unfold_out out0_17
  frame_out
  rfl

/-- The values the body leaves. -/
theorem out18_eq (x0 : Vec Ideal S5x384x1536 .bf16) (x1 : Vec Ideal S5x1x1536 .f32) (x2 : Vec Ideal S5x1x1536 .f32) (x3 : Vec Ideal S384x64 .f32) (x4 : Vec Ideal S384x64 .f32) (x5 : Vec Ideal S1536x12x128 .fp8e4m3) (x6 : Vec Ideal S1536x12x128 .fp8e4m3) (x7 : Vec Ideal S1536x12x128 .fp8e4m3) (x8 : Vec Ideal S12x128 .f32) (x9 : Vec Ideal S12x128 .f32) (x10 : Vec Ideal S12x128 .f32) (x11 : Vec Ideal S12x128 .f32) (x12 : Vec Ideal S12x128 .f32) (x13 : Vec Ideal S12x128 .f32) (x14 : Vec Ideal S12x128 .f32) (x15 : Vec Ideal S12x128 .f32) :
    out0_18 x0 x1 x2 x3 x4 x5 x6 x7 x8 x9 x10 x11 x12 x13 x14 x15 = k0_pay13 (k0_pay2 x0 x1 x2) (codesK x0 x1 x2) x7 x10 x13 := by
  funext y
  unfold_out out0_18
  frame_out

/-- The codes the body leaves. -/
theorem out19_eq (x0 : Vec Ideal S5x384x1536 .bf16) (x1 : Vec Ideal S5x1x1536 .f32) (x2 : Vec Ideal S5x1x1536 .f32) (x3 : Vec Ideal S384x64 .f32) (x4 : Vec Ideal S384x64 .f32) (x5 : Vec Ideal S1536x12x128 .fp8e4m3) (x6 : Vec Ideal S1536x12x128 .fp8e4m3) (x7 : Vec Ideal S1536x12x128 .fp8e4m3) (x8 : Vec Ideal S12x128 .f32) (x9 : Vec Ideal S12x128 .f32) (x10 : Vec Ideal S12x128 .f32) (x11 : Vec Ideal S12x128 .f32) (x12 : Vec Ideal S12x128 .f32) (x13 : Vec Ideal S12x128 .f32) (x14 : Vec Ideal S12x128 .f32) (x15 : Vec Ideal S12x128 .f32) :
    out0_19 x0 x1 x2 x3 x4 x5 x6 x7 x8 x9 x10 x11 x12 x13 x14 x15 = codesK x0 x1 x2 := by
  funext y
  unfold_out out0_19
  frame_out

/-- The scales the body leaves. -/
theorem out20_eq (x0 : Vec Ideal S5x384x1536 .bf16) (x1 : Vec Ideal S5x1x1536 .f32) (x2 : Vec Ideal S5x1x1536 .f32) (x3 : Vec Ideal S384x64 .f32) (x4 : Vec Ideal S384x64 .f32) (x5 : Vec Ideal S1536x12x128 .fp8e4m3) (x6 : Vec Ideal S1536x12x128 .fp8e4m3) (x7 : Vec Ideal S1536x12x128 .fp8e4m3) (x8 : Vec Ideal S12x128 .f32) (x9 : Vec Ideal S12x128 .f32) (x10 : Vec Ideal S12x128 .f32) (x11 : Vec Ideal S12x128 .f32) (x12 : Vec Ideal S12x128 .f32) (x13 : Vec Ideal S12x128 .f32) (x14 : Vec Ideal S12x128 .f32) (x15 : Vec Ideal S12x128 .f32) :
    out0_20 x0 x1 x2 x3 x4 x5 x6 x7 x8 x9 x10 x11 x12 x13 x14 x15 = k0_pay2 x0 x1 x2 := by
  funext y
  unfold_out out0_20
  frame_out

/-- The row in terms of the arguments. -/
theorem row_eq (c : Dev nD) (t : Fin cfg0.N) (s : Fin 5) (i : Fin 384) : row (iblk m c 0 t) (iblk m c 1 t) (iblk m c 2 t) s i = rowA (m ((c : Thread nD τ).loc main_arg0)) (m ((c : Thread nD τ).loc main_arg1)) (m ((c : Thread nD τ).loc main_arg2)) s i := by
  unfold row rowA
  simp only [blk0, blk1, blk2]

/-- The heads of a row in terms of the arguments. -/
theorem head_eq_q (c : Dev nD) (t : Fin cfg0.N) (s : Fin 5) (i : Fin 384) (h : Fin 12) (l : Fin 128) :
    k0_pay10 (k0_pay2 (iblk m c 0 t) (iblk m c 1 t) (iblk m c 2 t)) (codesK (iblk m c 0 t) (iblk m c 1 t) (iblk m c 2 t)) (iblk m c 5 t) (iblk m c 8 t) (iblk m c 11 t) (ix4 s i h l)
      = headA (m ((c : Thread nD τ).loc main_arg0)) (m ((c : Thread nD τ).loc main_arg1)) (m ((c : Thread nD τ).loc main_arg2)) (m ((c : Thread nD τ).loc main_arg5)) (m ((c : Thread nD τ).loc main_arg8)) (m ((c : Thread nD τ).loc main_arg11)) s i h l := by
  rw [head_apply]
  unfold headA
  simp only [code_apply, scale_apply, row_eq, blk5, blk8, blk11]

/-- The heads of a row in terms of the arguments. -/
theorem head_eq_k (c : Dev nD) (t : Fin cfg0.N) (s : Fin 5) (i : Fin 384) (h : Fin 12) (l : Fin 128) :
    k0_pay10 (k0_pay2 (iblk m c 0 t) (iblk m c 1 t) (iblk m c 2 t)) (codesK (iblk m c 0 t) (iblk m c 1 t) (iblk m c 2 t)) (iblk m c 6 t) (iblk m c 9 t) (iblk m c 12 t) (ix4 s i h l)
      = headA (m ((c : Thread nD τ).loc main_arg0)) (m ((c : Thread nD τ).loc main_arg1)) (m ((c : Thread nD τ).loc main_arg2)) (m ((c : Thread nD τ).loc main_arg6)) (m ((c : Thread nD τ).loc main_arg9)) (m ((c : Thread nD τ).loc main_arg12)) s i h l := by
  rw [head_apply]
  unfold headA
  simp only [code_apply, scale_apply, row_eq, blk6, blk9, blk12]

/-- The heads of a row in terms of the arguments. -/
theorem head_eq_v (c : Dev nD) (t : Fin cfg0.N) (s : Fin 5) (i : Fin 384) (h : Fin 12) (l : Fin 128) :
    k0_pay10 (k0_pay2 (iblk m c 0 t) (iblk m c 1 t) (iblk m c 2 t)) (codesK (iblk m c 0 t) (iblk m c 1 t) (iblk m c 2 t)) (iblk m c 7 t) (iblk m c 10 t) (iblk m c 13 t) (ix4 s i h l)
      = headA (m ((c : Thread nD τ).loc main_arg0)) (m ((c : Thread nD τ).loc main_arg1)) (m ((c : Thread nD τ).loc main_arg2)) (m ((c : Thread nD τ).loc main_arg7)) (m ((c : Thread nD τ).loc main_arg10)) (m ((c : Thread nD τ).loc main_arg13)) s i h l := by
  rw [head_apply]
  unfold headA
  simp only [code_apply, scale_apply, row_eq, blk7, blk10, blk13]

theorem emb16 (t : Fin cfg0.N) (s : Fin 5) (h : Fin 12) (i : Fin 384) (l : Fin 128) : (win0_16.blk t).view.emb (ix4 s h i l) = ix4 s h i l := by
  blk_ext [idx16]
theorem emb17 (t : Fin cfg0.N) (s : Fin 5) (h : Fin 12) (i : Fin 384) (l : Fin 128) : (win0_17.blk t).view.emb (ix4 s h i l) = ix4 s h i l := by
  blk_ext [idx17]
theorem emb18 (t : Fin cfg0.N) (s : Fin 5) (h : Fin 12) (i : Fin 384) (l : Fin 128) : (win0_18.blk t).view.emb (ix4 s h i l) = ix4 s h i l := by
  blk_ext [idx18]
theorem emb19 (t : Fin cfg0.N) (s : Fin 5) (i : Fin 384) (j : Fin 1536) : (win0_19.blk t).view.emb (ix3 s i j) = ix3 s i j := by
  blk_ext [idx19]
theorem emb20 (t : Fin cfg0.N) (s : Fin 5) (i : Fin 384) : (win0_20.blk t).view.emb (ix2 s i) = ix2 s i := by
  blk_ext [idx20]

/-- The block of queries. -/
theorem after16 (c : Dev nD) (t : Fin cfg0.N) (s : Fin 5) (h : Fin 12) (i : Fin 384) (l : Fin 128) :
    (dats m 0 c).after 16 t (ix4 s h i l) = qkA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg11)) (m ((c : Thread nD τ).loc main_arg14)) ((win0_16.blk t).view.emb (ix4 s h i l)) := by
  rw [emb16, after0_16, out16_eq]
  refine (rot_apply _ _ _ _ s i h l).trans ?_
  simp only [normVec_apply, head_eq_q, blk3, blk4, blk14]
  rfl

/-- The block of keys. -/
theorem after17 (c : Dev nD) (t : Fin cfg0.N) (s : Fin 5) (h : Fin 12) (i : Fin 384) (l : Fin 128) :
    (dats m 0 c).after 17 t (ix4 s h i l) = qkA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg9)) (m ((c : Thread nD τ).loc main_arg12)) (m ((c : Thread nD τ).loc main_arg15)) ((win0_17.blk t).view.emb (ix4 s h i l)) := by
  rw [emb17, after0_17, out17_eq]
  refine (rot_apply _ _ _ _ s i h l).trans ?_
  simp only [normVec_apply, head_eq_k, blk3, blk4, blk15]
  rfl

/-- The block of values. -/
theorem after18 (c : Dev nD) (t : Fin cfg0.N) (s : Fin 5) (h : Fin 12) (i : Fin 384) (l : Fin 128) :
    (dats m 0 c).after 18 t (ix4 s h i l) = valsA (m ((c : Thread nD τ).loc main_arg0)) (m ((c : Thread nD τ).loc main_arg1)) (m ((c : Thread nD τ).loc main_arg2)) (m ((c : Thread nD τ).loc main_arg7)) (m ((c : Thread nD τ).loc main_arg10)) (m ((c : Thread nD τ).loc main_arg13)) ((win0_18.blk t).view.emb (ix4 s h i l)) := by
  rw [emb18, after0_18, out18_eq]
  refine (v_apply _ _ _ _ _ s i h l).trans ?_
  exact (head_apply _ _ _ _ _ s i h l).symm.trans (head_eq_v m c t s i h l)

/-- The block of codes. -/
theorem after19 (c : Dev nD) (t : Fin cfg0.N) (s : Fin 5) (i : Fin 384) (j : Fin 1536) :
    (dats m 0 c).after 19 t (ix3 s i j) = Cert.QkvSpec.codesA (m ((c : Thread nD τ).loc main_arg0)) (m ((c : Thread nD τ).loc main_arg1)) (m ((c : Thread nD τ).loc main_arg2)) ((win0_19.blk t).view.emb (ix3 s i j)) := by
  rw [emb19, after0_19, out19_eq]
  refine (code_apply _ _ _ s i j).trans ?_
  rw [row_eq]
  rfl

/-- The block of scales. -/
theorem after20 (c : Dev nD) (t : Fin cfg0.N) (s : Fin 5) (i : Fin 384) :
    (dats m 0 c).after 20 t (ix2 s i) = Cert.QkvSpec.scaleA (m ((c : Thread nD τ).loc main_arg0)) (m ((c : Thread nD τ).loc main_arg1)) (m ((c : Thread nD τ).loc main_arg2)) ((win0_20.blk t).view.emb (ix2 s i)) := by
  rw [emb20, after0_20, out20_eq]
  refine (scale_apply _ _ _ s i).trans ?_
  rw [row_eq]
  rfl

/-- An index is its coordinates. -/
theorem ix4_eta {a b d e : ℕ} (y : (⟨4, ![a, b, d, e]⟩ : Shape).Idx) : y = ix4 (y 0) (y 1) (y 2) (y 3) := by
  funext k; fin_cases k <;> rfl
theorem ix3_eta {a b d : ℕ} (y : (⟨3, ![a, b, d]⟩ : Shape).Idx) : y = ix3 (y 0) (y 1) (y 2) := by
  funext k; fin_cases k <;> rfl
theorem ix2_eta {a b : ℕ} (y : (⟨2, ![a, b]⟩ : Shape).Idx) : y = ix2 (y 0) (y 1) := by
  funext k; fin_cases k <;> rfl

/-- Every run ends with the five results at their values, and the arguments unchanged. -/
theorem run_values : θ_run defs (onTc (τ := τ) (main (F := Ideal))) ⟨m, fun _ => 0, ρ⟩ (fun r => ∀ c : Dev nD,
      r.2.mem ((c.tc : Thread nD τ).loc main_v9_0) = qkA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg11)) (m ((c : Thread nD τ).loc main_arg14))
      ∧ r.2.mem ((c.tc : Thread nD τ).loc main_v9_1) = qkA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg9)) (m ((c : Thread nD τ).loc main_arg12)) (m ((c : Thread nD τ).loc main_arg15))
      ∧ r.2.mem ((c.tc : Thread nD τ).loc main_v9_2) = valsA (m ((c : Thread nD τ).loc main_arg0)) (m ((c : Thread nD τ).loc main_arg1)) (m ((c : Thread nD τ).loc main_arg2)) (m ((c : Thread nD τ).loc main_arg7)) (m ((c : Thread nD τ).loc main_arg10)) (m ((c : Thread nD τ).loc main_arg13))
      ∧ r.2.mem ((c.tc : Thread nD τ).loc main_v9_3) = Cert.QkvSpec.codesA (m ((c : Thread nD τ).loc main_arg0)) (m ((c : Thread nD τ).loc main_arg1)) (m ((c : Thread nD τ).loc main_arg2))
      ∧ r.2.mem ((c.tc : Thread nD τ).loc main_v9_4) = Cert.QkvSpec.scaleA (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine (θ_run defs _ _).mono (fun r hr c => ?_) (Value.run_blocks m ρ)
  obtain ⟨h0, h1, h2, h3, h4, hu⟩ := hr c
  refine ⟨h0.trans ?_, h1.trans ?_, h2.trans ?_, h3.trans ?_, h4.trans ?_, hu⟩
  · refine Pipeline.Dat.arrAt_eq_of_covers _ 16 _ (by decide +kernel) fun t hf y => ?_
    rw [show y = ix4 (y 0) (y 1) (y 2) (y 3) from ix4_eta y]
    exact after16 m c t (y 0) (y 1) (y 2) (y 3)
  · refine Pipeline.Dat.arrAt_eq_of_covers _ 17 _ (by decide +kernel) fun t hf y => ?_
    rw [show y = ix4 (y 0) (y 1) (y 2) (y 3) from ix4_eta y]
    exact after17 m c t (y 0) (y 1) (y 2) (y 3)
  · refine Pipeline.Dat.arrAt_eq_of_covers _ 18 _ (by decide +kernel) fun t hf y => ?_
    rw [show y = ix4 (y 0) (y 1) (y 2) (y 3) from ix4_eta y]
    exact after18 m c t (y 0) (y 1) (y 2) (y 3)
  · refine Pipeline.Dat.arrAt_eq_of_covers _ 19 _ (by decide +kernel) fun t hf y => ?_
    rw [show y = ix3 (y 0) (y 1) (y 2) from ix3_eta y]
    exact after19 m c t (y 0) (y 1) (y 2)
  · refine Pipeline.Dat.arrAt_eq_of_covers _ 20 _ (by decide +kernel) fun t hf y => ?_
    rw [show y = ix2 (y 0) (y 1) from ix2_eta y]
    exact after20 m c t (y 0) (y 1)

end Cert.QkvRefIdeal.Hand

end
-- ==== Proof.lean ====
module

public import proofs.«01_k».proof.Defs
public import proofs.«01_k».proof.Proof.Gen.Ffn
public import proofs.«01_k».proof.Proof.Gen.FfnIdeal
public import proofs.«01_k».proof.Proof.Gen.FfnRef
public import proofs.«01_k».proof.Proof.Gen.FfnRefIdeal
public import proofs.«01_k».proof.Proof.Gen.Ffn.Frame
public import proofs.«01_k».proof.Proof.Gen.FfnIdeal.Frame
public import proofs.«01_k».proof.Proof.Gen.FfnRef.Frame
public import proofs.«01_k».proof.Proof.Gen.FfnRefIdeal.Frame
public import proofs.«01_k».proof.Proof.Gen.FfnIdeal.Skeleton
public import proofs.«01_k».proof.Proof.Gen.FfnRefIdeal.Value
public import proofs.«01_k».proof.Proof.FfnFrame
public import proofs.«01_k».proof.Proof.FfnValue
public import proofs.«01_k».proof.Proof.FfnRefValue
public import proofs.«01_k».proof.Proof.Gen.Qkv
public import proofs.«01_k».proof.Proof.Gen.QkvIdeal
public import proofs.«01_k».proof.Proof.Gen.QkvRef
public import proofs.«01_k».proof.Proof.Gen.QkvRefIdeal
public import proofs.«01_k».proof.Proof.Gen.Qkv.Frame
public import proofs.«01_k».proof.Proof.Gen.Qkv.Skeleton
public import proofs.«01_k».proof.Proof.Gen.QkvIdeal.Frame
public import proofs.«01_k».proof.Proof.Gen.QkvIdeal.Skeleton
public import proofs.«01_k».proof.Proof.Gen.QkvRef.Frame
public import proofs.«01_k».proof.Proof.Gen.QkvRefIdeal.Frame
public import proofs.«01_k».proof.Proof.Gen.QkvRefIdeal.Value
public import proofs.«01_k».proof.Proof.QkvFrame
public import proofs.«01_k».proof.Proof.QkvValue
public import proofs.«01_k».proof.Proof.QkvRefValue
public import Idealize.ShloMosaic.Adequacy
public import Idealize.ShloMosaic.Init

@[expose] public section

noncomputable section

namespace Cert.Proof

open Idealize.ShloMosaic Idealize.SL.Sem

/-- The kernel and the reference end with the same result, codes and scales of the feed-forward step. -/
theorem algebraic_ffn : Cert.algebraic_FfnIdeal_FfnRefIdeal (hFfnIdeal := Cert.FfnIdeal.Gen.facts) (hFfnRefIdeal := Cert.FfnRefIdeal.Gen.facts) := by
  intro m g m' g' _ ha
  refine ⟨fun c => Cert.FfnSpec.outA (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)),
    fun c => Cert.FfnSpec.codesA (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)),
    fun c => Cert.FfnSpec.scaleA (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)),
    Cert.FfnIdeal.Hand.run_values m g, ?_⟩
  refine (θ_run _ _ _).mono (fun r hr c => ?_) (Cert.FfnRefIdeal.Hand.run_values m' g')
  obtain ⟨a0, a1, a2, a3, a4, a5, a6, a7, a8, a9, a10⟩ := ha c
  obtain ⟨h0, h1, h2, hu⟩ := hr c
  refine ⟨h0.trans ?_, h1.trans ?_, h2.trans ?_, hu⟩
  · rw [a0, a1, a2, a3, a4, a5, a6, a7, a8, a9, a10]
  · rw [a0, a1, a5, a6, a7]
  · rw [a0, a1, a5, a6, a7]

/-- The kernel and the reference end with the same queries, keys, values, codes and scales of the projection step. -/
theorem algebraic_qkv : Cert.algebraic_QkvIdeal_QkvRefIdeal (hQkvIdeal := Cert.QkvIdeal.Gen.facts) (hQkvRefIdeal := Cert.QkvRefIdeal.Gen.facts) := by
  intro m g m' g' _ ha
  refine ⟨fun c => Cert.QkvSpec.qkA (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg8)) (m ((c.tc : Thread Cert.QkvIdeal.nD Cert.QkvIdeal.τ).loc Cert.QkvIdeal.main_arg11)) (m ((c.tc : Thread Cert.QkvIdeal.nD Cert.QkvIdeal.τ).loc Cert.QkvIdeal.main_arg14)),
    fun c => Cert.QkvSpec.qkA (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg6)) (m ((c.tc : Thread Cert.QkvIdeal.nD Cert.QkvIdeal.τ).loc Cert.QkvIdeal.main_arg9)) (m ((c.tc : Thread Cert.QkvIdeal.nD Cert.QkvIdeal.τ).loc Cert.QkvIdeal.main_arg12)) (m ((c.tc : Thread Cert.QkvIdeal.nD Cert.QkvIdeal.τ).loc Cert.QkvIdeal.main_arg15)),
    fun c => Cert.QkvSpec.valsA (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg7)) (m ((c.tc : Thread Cert.QkvIdeal.nD Cert.QkvIdeal.τ).loc Cert.QkvIdeal.main_arg10)) (m ((c.tc : Thread Cert.QkvIdeal.nD Cert.QkvIdeal.τ).loc Cert.QkvIdeal.main_arg13)),
    fun c => Cert.QkvSpec.codesA (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)),
    fun c => Cert.QkvSpec.scaleA (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)),
    Cert.QkvIdeal.Hand.run_values m g, ?_⟩
  refine (θ_run _ _ _).mono (fun r hr c => ?_) (Cert.QkvRefIdeal.Hand.run_values m' g')
  obtain ⟨a0, a1, a2, a3, a4, a5, a6, a7, a8, a9, a10, a11, a12, a13, a14, a15⟩ := ha c
  obtain ⟨h0, h1, h2, h3, h4, hu⟩ := hr c
  refine ⟨h0.trans ?_, h1.trans ?_, h2.trans ?_, h3.trans ?_, h4.trans ?_, hu⟩
  · rw [a0, a1, a2, a3, a4, a5, a8, a11, a14]
  · rw [a0, a1, a2, a3, a4, a6, a9, a12, a15]
  · rw [a0, a1, a2, a7, a10, a13]
  · rw [a0, a1, a2]
  · rw [a0, a1, a2]

/-- Everything claimed. -/
theorem claim : Cert.Claim :=
  ⟨Cert.Ffn.Gen.facts, Cert.FfnIdeal.Gen.facts, Cert.FfnRefIdeal.Gen.facts, Cert.FfnRef.Gen.facts,
    Cert.Qkv.Gen.facts, Cert.QkvIdeal.Gen.facts, Cert.QkvRefIdeal.Gen.facts, Cert.QkvRef.Gen.facts,
    fun m ρ _ => Cert.Ffn.Hand.frame m ρ, fun m ρ _ => Cert.FfnIdeal.Hand.frame m ρ,
    fun m ρ _ => Cert.FfnRefIdeal.Gen.frame m ρ, fun m ρ _ => Cert.FfnRef.Gen.frame m ρ,
    fun m ρ _ => Cert.Qkv.Hand.frame m ρ, fun m ρ _ => Cert.QkvIdeal.Hand.frame m ρ,
    fun m ρ _ => Cert.QkvRefIdeal.Gen.frame m ρ, fun m ρ _ => Cert.QkvRef.Gen.frame m ρ,
    ⟨IdealRules.named_const.statement _ _ _ _ _ rfl, IdealRules.named_const.statement _ _ _ _ _ rfl⟩,
    ⟨IdealRules.named_const.statement _ _ _ _ _ rfl, IdealRules.named_const.statement _ _ _ _ _ rfl⟩,
    algebraic_ffn,
    IdealRules.named_const.statement _ _ _ _ _ rfl, trivial, algebraic_qkv⟩

end Cert.Proof

end
